-- ==== Defs.lean ====
def Pre_Draft (m : (ℓ : Loc Cert.Draft.nD Cert.Draft.τ Cert.Draft.sig) → Buf (Elt Bits) ℓ) : Prop :=
  True

def Pre_DraftIdeal (m : (ℓ : Loc Cert.DraftIdeal.nD Cert.DraftIdeal.τ Cert.DraftIdeal.sig) → Buf (Elt Ideal) ℓ) : Prop :=
  True

def Pre_DraftRefIdeal (m : (ℓ : Loc Cert.DraftRefIdeal.nD Cert.DraftRefIdeal.τ Cert.DraftRefIdeal.sig) → Buf (Elt Ideal) ℓ) : Prop :=
  True

def Pre_DraftRef (m : (ℓ : Loc Cert.DraftRef.nD Cert.DraftRef.τ Cert.DraftRef.sig) → Buf (Elt Bits) ℓ) : Prop :=
  True

def Pre_Target (m : (ℓ : Loc Cert.Target.nD Cert.Target.τ Cert.Target.sig) → Buf (Elt Bits) ℓ) : Prop :=
  True

def Pre_TargetIdeal (m : (ℓ : Loc Cert.TargetIdeal.nD Cert.TargetIdeal.τ Cert.TargetIdeal.sig) → Buf (Elt Ideal) ℓ) : Prop :=
  True

def Pre_TargetRefIdeal (m : (ℓ : Loc Cert.TargetRefIdeal.nD Cert.TargetRefIdeal.τ Cert.TargetRefIdeal.sig) → Buf (Elt Ideal) ℓ) : Prop :=
  True

def Pre_TargetRef (m : (ℓ : Loc Cert.TargetRef.nD Cert.TargetRef.τ Cert.TargetRef.sig) → Buf (Elt Bits) ℓ) : Prop :=
  True

def quiescent_Draft [hDraft : Cert.Draft.Facts] : Prop :=
  ∀ (m : (ℓ : Loc Cert.Draft.nD Cert.Draft.τ Cert.Draft.sig) → Buf (Elt Bits) ℓ) (g : Dev Cert.Draft.nD → PrngReg), Pre_Draft m →
    θ_run (Cert.Draft.defs (F := Bits)) (onTc (τ := Cert.Draft.τ) (Cert.Draft.main (F := Bits))) ⟨m, fun _ => 0, g⟩ (fun r => (∀ c : Dev Cert.Draft.nD,
      r.2.mem ((c.tc : Thread Cert.Draft.nD Cert.Draft.τ).loc Cert.Draft.main_arg0) = m ((c.tc : Thread Cert.Draft.nD Cert.Draft.τ).loc Cert.Draft.main_arg0)
      ∧ r.2.mem ((c.tc : Thread Cert.Draft.nD Cert.Draft.τ).loc Cert.Draft.main_arg1) = m ((c.tc : Thread Cert.Draft.nD Cert.Draft.τ).loc Cert.Draft.main_arg1)
      ∧ r.2.mem ((c.tc : Thread Cert.Draft.nD Cert.Draft.τ).loc Cert.Draft.main_arg2) = m ((c.tc : Thread Cert.Draft.nD Cert.Draft.τ).loc Cert.Draft.main_arg2)
      ∧ r.2.mem ((c.tc : Thread Cert.Draft.nD Cert.Draft.τ).loc Cert.Draft.main_arg3) = m ((c.tc : Thread Cert.Draft.nD Cert.Draft.τ).loc Cert.Draft.main_arg3)
      ∧ r.2.mem ((c.tc : Thread Cert.Draft.nD Cert.Draft.τ).loc Cert.Draft.main_arg4) = m ((c.tc : Thread Cert.Draft.nD Cert.Draft.τ).loc Cert.Draft.main_arg4))
      ∧ r.2.sem = fun _ => 0)

def quiescent_DraftIdeal [hDraftIdeal : Cert.DraftIdeal.Facts] : Prop :=
  ∀ (m : (ℓ : Loc Cert.DraftIdeal.nD Cert.DraftIdeal.τ Cert.DraftIdeal.sig) → Buf (Elt Ideal) ℓ) (g : Dev Cert.DraftIdeal.nD → PrngReg), Pre_DraftIdeal m →
    θ_run (Cert.DraftIdeal.defs (F := Ideal)) (onTc (τ := Cert.DraftIdeal.τ) (Cert.DraftIdeal.main (F := Ideal))) ⟨m, fun _ => 0, g⟩ (fun r => (∀ c : Dev Cert.DraftIdeal.nD,
      r.2.mem ((c.tc : Thread Cert.DraftIdeal.nD Cert.DraftIdeal.τ).loc Cert.DraftIdeal.main_arg0) = m ((c.tc : Thread Cert.DraftIdeal.nD Cert.DraftIdeal.τ).loc Cert.DraftIdeal.main_arg0)
      ∧ r.2.mem ((c.tc : Thread Cert.DraftIdeal.nD Cert.DraftIdeal.τ).loc Cert.DraftIdeal.main_arg1) = m ((c.tc : Thread Cert.DraftIdeal.nD Cert.DraftIdeal.τ).loc Cert.DraftIdeal.main_arg1)
      ∧ r.2.mem ((c.tc : Thread Cert.DraftIdeal.nD Cert.DraftIdeal.τ).loc Cert.DraftIdeal.main_arg2) = m ((c.tc : Thread Cert.DraftIdeal.nD Cert.DraftIdeal.τ).loc Cert.DraftIdeal.main_arg2)
      ∧ r.2.mem ((c.tc : Thread Cert.DraftIdeal.nD Cert.DraftIdeal.τ).loc Cert.DraftIdeal.main_arg3) = m ((c.tc : Thread Cert.DraftIdeal.nD Cert.DraftIdeal.τ).loc Cert.DraftIdeal.main_arg3)
      ∧ r.2.mem ((c.tc : Thread Cert.DraftIdeal.nD Cert.DraftIdeal.τ).loc Cert.DraftIdeal.main_arg4) = m ((c.tc : Thread Cert.DraftIdeal.nD Cert.DraftIdeal.τ).loc Cert.DraftIdeal.main_arg4))
      ∧ r.2.sem = fun _ => 0)

def quiescent_DraftRefIdeal [hDraftRefIdeal : Cert.DraftRefIdeal.Facts] : Prop :=
  ∀ (m : (ℓ : Loc Cert.DraftRefIdeal.nD Cert.DraftRefIdeal.τ Cert.DraftRefIdeal.sig) → Buf (Elt Ideal) ℓ) (g : Dev Cert.DraftRefIdeal.nD → PrngReg), Pre_DraftRefIdeal m →
    θ_run (Cert.DraftRefIdeal.defs (F := Ideal)) (onTc (τ := Cert.DraftRefIdeal.τ) (Cert.DraftRefIdeal.main (F := Ideal))) ⟨m, fun _ => 0, g⟩ (fun r => (∀ c : Dev Cert.DraftRefIdeal.nD,
      r.2.mem ((c.tc : Thread Cert.DraftRefIdeal.nD Cert.DraftRefIdeal.τ).loc Cert.DraftRefIdeal.main_arg0) = m ((c.tc : Thread Cert.DraftRefIdeal.nD Cert.DraftRefIdeal.τ).loc Cert.DraftRefIdeal.main_arg0)
      ∧ r.2.mem ((c.tc : Thread Cert.DraftRefIdeal.nD Cert.DraftRefIdeal.τ).loc Cert.DraftRefIdeal.main_arg1) = m ((c.tc : Thread Cert.DraftRefIdeal.nD Cert.DraftRefIdeal.τ).loc Cert.DraftRefIdeal.main_arg1)
      ∧ r.2.mem ((c.tc : Thread Cert.DraftRefIdeal.nD Cert.DraftRefIdeal.τ).loc Cert.DraftRefIdeal.main_arg2) = m ((c.tc : Thread Cert.DraftRefIdeal.nD Cert.DraftRefIdeal.τ).loc Cert.DraftRefIdeal.main_arg2)
      ∧ r.2.mem ((c.tc : Thread Cert.DraftRefIdeal.nD Cert.DraftRefIdeal.τ).loc Cert.DraftRefIdeal.main_arg3) = m ((c.tc : Thread Cert.DraftRefIdeal.nD Cert.DraftRefIdeal.τ).loc Cert.DraftRefIdeal.main_arg3)
      ∧ r.2.mem ((c.tc : Thread Cert.DraftRefIdeal.nD Cert.DraftRefIdeal.τ).loc Cert.DraftRefIdeal.main_arg4) = m ((c.tc : Thread Cert.DraftRefIdeal.nD Cert.DraftRefIdeal.τ).loc Cert.DraftRefIdeal.main_arg4))
      ∧ r.2.sem = fun _ => 0)

def quiescent_DraftRef [hDraftRef : Cert.DraftRef.Facts] : Prop :=
  ∀ (m : (ℓ : Loc Cert.DraftRef.nD Cert.DraftRef.τ Cert.DraftRef.sig) → Buf (Elt Bits) ℓ) (g : Dev Cert.DraftRef.nD → PrngReg), Pre_DraftRef m →
    θ_run (Cert.DraftRef.defs (F := Bits)) (onTc (τ := Cert.DraftRef.τ) (Cert.DraftRef.main (F := Bits))) ⟨m, fun _ => 0, g⟩ (fun r => (∀ c : Dev Cert.DraftRef.nD,
      r.2.mem ((c.tc : Thread Cert.DraftRef.nD Cert.DraftRef.τ).loc Cert.DraftRef.main_arg0) = m ((c.tc : Thread Cert.DraftRef.nD Cert.DraftRef.τ).loc Cert.DraftRef.main_arg0)
      ∧ r.2.mem ((c.tc : Thread Cert.DraftRef.nD Cert.DraftRef.τ).loc Cert.DraftRef.main_arg1) = m ((c.tc : Thread Cert.DraftRef.nD Cert.DraftRef.τ).loc Cert.DraftRef.main_arg1)
      ∧ r.2.mem ((c.tc : Thread Cert.DraftRef.nD Cert.DraftRef.τ).loc Cert.DraftRef.main_arg2) = m ((c.tc : Thread Cert.DraftRef.nD Cert.DraftRef.τ).loc Cert.DraftRef.main_arg2)
      ∧ r.2.mem ((c.tc : Thread Cert.DraftRef.nD Cert.DraftRef.τ).loc Cert.DraftRef.main_arg3) = m ((c.tc : Thread Cert.DraftRef.nD Cert.DraftRef.τ).loc Cert.DraftRef.main_arg3)
      ∧ r.2.mem ((c.tc : Thread Cert.DraftRef.nD Cert.DraftRef.τ).loc Cert.DraftRef.main_arg4) = m ((c.tc : Thread Cert.DraftRef.nD Cert.DraftRef.τ).loc Cert.DraftRef.main_arg4))
      ∧ r.2.sem = fun _ => 0)

def quiescent_Target [hTarget : Cert.Target.Facts] : Prop :=
  ∀ (m : (ℓ : Loc Cert.Target.nD Cert.Target.τ Cert.Target.sig) → Buf (Elt Bits) ℓ) (g : Dev Cert.Target.nD → PrngReg), Pre_Target m →
    θ_run (Cert.Target.defs (F := Bits)) (onTc (τ := Cert.Target.τ) (Cert.Target.main (F := Bits))) ⟨m, fun _ => 0, g⟩ (fun r => (∀ c : Dev Cert.Target.nD,
      r.2.mem ((c.tc : Thread Cert.Target.nD Cert.Target.τ).loc Cert.Target.main_arg0) = m ((c.tc : Thread Cert.Target.nD Cert.Target.τ).loc Cert.Target.main_arg0)
      ∧ r.2.mem ((c.tc : Thread Cert.Target.nD Cert.Target.τ).loc Cert.Target.main_arg1) = m ((c.tc : Thread Cert.Target.nD Cert.Target.τ).loc Cert.Target.main_arg1)
      ∧ r.2.mem ((c.tc : Thread Cert.Target.nD Cert.Target.τ).loc Cert.Target.main_arg2) = m ((c.tc : Thread Cert.Target.nD Cert.Target.τ).loc Cert.Target.main_arg2)
      ∧ r.2.mem ((c.tc : Thread Cert.Target.nD Cert.Target.τ).loc Cert.Target.main_arg3) = m ((c.tc : Thread Cert.Target.nD Cert.Target.τ).loc Cert.Target.main_arg3)
      ∧ r.2.mem ((c.tc : Thread Cert.Target.nD Cert.Target.τ).loc Cert.Target.main_arg4) = m ((c.tc : Thread Cert.Target.nD Cert.Target.τ).loc Cert.Target.main_arg4)
      ∧ r.2.mem ((c.tc : Thread Cert.Target.nD Cert.Target.τ).loc Cert.Target.main_arg5) = m ((c.tc : Thread Cert.Target.nD Cert.Target.τ).loc Cert.Target.main_arg5)
      ∧ r.2.mem ((c.tc : Thread Cert.Target.nD Cert.Target.τ).loc Cert.Target.main_arg6) = m ((c.tc : Thread Cert.Target.nD Cert.Target.τ).loc Cert.Target.main_arg6)
      ∧ r.2.mem ((c.tc : Thread Cert.Target.nD Cert.Target.τ).loc Cert.Target.main_arg7) = m ((c.tc : Thread Cert.Target.nD Cert.Target.τ).loc Cert.Target.main_arg7))
      ∧ r.2.sem = fun _ => 0)

def quiescent_TargetIdeal [hTargetIdeal : Cert.TargetIdeal.Facts] : Prop :=
  ∀ (m : (ℓ : Loc Cert.TargetIdeal.nD Cert.TargetIdeal.τ Cert.TargetIdeal.sig) → Buf (Elt Ideal) ℓ) (g : Dev Cert.TargetIdeal.nD → PrngReg), Pre_TargetIdeal m →
    θ_run (Cert.TargetIdeal.defs (F := Ideal)) (onTc (τ := Cert.TargetIdeal.τ) (Cert.TargetIdeal.main (F := Ideal))) ⟨m, fun _ => 0, g⟩ (fun r => (∀ c : Dev Cert.TargetIdeal.nD,
      r.2.mem ((c.tc : Thread Cert.TargetIdeal.nD Cert.TargetIdeal.τ).loc Cert.TargetIdeal.main_arg0) = m ((c.tc : Thread Cert.TargetIdeal.nD Cert.TargetIdeal.τ).loc Cert.TargetIdeal.main_arg0)
      ∧ r.2.mem ((c.tc : Thread Cert.TargetIdeal.nD Cert.TargetIdeal.τ).loc Cert.TargetIdeal.main_arg1) = m ((c.tc : Thread Cert.TargetIdeal.nD Cert.TargetIdeal.τ).loc Cert.TargetIdeal.main_arg1)
      ∧ r.2.mem ((c.tc : Thread Cert.TargetIdeal.nD Cert.TargetIdeal.τ).loc Cert.TargetIdeal.main_arg2) = m ((c.tc : Thread Cert.TargetIdeal.nD Cert.TargetIdeal.τ).loc Cert.TargetIdeal.main_arg2)
      ∧ r.2.mem ((c.tc : Thread Cert.TargetIdeal.nD Cert.TargetIdeal.τ).loc Cert.TargetIdeal.main_arg3) = m ((c.tc : Thread Cert.TargetIdeal.nD Cert.TargetIdeal.τ).loc Cert.TargetIdeal.main_arg3)
      ∧ r.2.mem ((c.tc : Thread Cert.TargetIdeal.nD Cert.TargetIdeal.τ).loc Cert.TargetIdeal.main_arg4) = m ((c.tc : Thread Cert.TargetIdeal.nD Cert.TargetIdeal.τ).loc Cert.TargetIdeal.main_arg4)
      ∧ r.2.mem ((c.tc : Thread Cert.TargetIdeal.nD Cert.TargetIdeal.τ).loc Cert.TargetIdeal.main_arg5) = m ((c.tc : Thread Cert.TargetIdeal.nD Cert.TargetIdeal.τ).loc Cert.TargetIdeal.main_arg5)
      ∧ r.2.mem ((c.tc : Thread Cert.TargetIdeal.nD Cert.TargetIdeal.τ).loc Cert.TargetIdeal.main_arg6) = m ((c.tc : Thread Cert.TargetIdeal.nD Cert.TargetIdeal.τ).loc Cert.TargetIdeal.main_arg6)
      ∧ r.2.mem ((c.tc : Thread Cert.TargetIdeal.nD Cert.TargetIdeal.τ).loc Cert.TargetIdeal.main_arg7) = m ((c.tc : Thread Cert.TargetIdeal.nD Cert.TargetIdeal.τ).loc Cert.TargetIdeal.main_arg7))
      ∧ r.2.sem = fun _ => 0)

def quiescent_TargetRefIdeal [hTargetRefIdeal : Cert.TargetRefIdeal.Facts] : Prop :=
  ∀ (m : (ℓ : Loc Cert.TargetRefIdeal.nD Cert.TargetRefIdeal.τ Cert.TargetRefIdeal.sig) → Buf (Elt Ideal) ℓ) (g : Dev Cert.TargetRefIdeal.nD → PrngReg), Pre_TargetRefIdeal m →
    θ_run (Cert.TargetRefIdeal.defs (F := Ideal)) (onTc (τ := Cert.TargetRefIdeal.τ) (Cert.TargetRefIdeal.main (F := Ideal))) ⟨m, fun _ => 0, g⟩ (fun r => (∀ c : Dev Cert.TargetRefIdeal.nD,
      r.2.mem ((c.tc : Thread Cert.TargetRefIdeal.nD Cert.TargetRefIdeal.τ).loc Cert.TargetRefIdeal.main_arg0) = m ((c.tc : Thread Cert.TargetRefIdeal.nD Cert.TargetRefIdeal.τ).loc Cert.TargetRefIdeal.main_arg0)
      ∧ r.2.mem ((c.tc : Thread Cert.TargetRefIdeal.nD Cert.TargetRefIdeal.τ).loc Cert.TargetRefIdeal.main_arg1) = m ((c.tc : Thread Cert.TargetRefIdeal.nD Cert.TargetRefIdeal.τ).loc Cert.TargetRefIdeal.main_arg1)
      ∧ r.2.mem ((c.tc : Thread Cert.TargetRefIdeal.nD Cert.TargetRefIdeal.τ).loc Cert.TargetRefIdeal.main_arg2) = m ((c.tc : Thread Cert.TargetRefIdeal.nD Cert.TargetRefIdeal.τ).loc Cert.TargetRefIdeal.main_arg2)
      ∧ r.2.mem ((c.tc : Thread Cert.TargetRefIdeal.nD Cert.TargetRefIdeal.τ).loc Cert.TargetRefIdeal.main_arg3) = m ((c.tc : Thread Cert.TargetRefIdeal.nD Cert.TargetRefIdeal.τ).loc Cert.TargetRefIdeal.main_arg3)
      ∧ r.2.mem ((c.tc : Thread Cert.TargetRefIdeal.nD Cert.TargetRefIdeal.τ).loc Cert.TargetRefIdeal.main_arg4) = m ((c.tc : Thread Cert.TargetRefIdeal.nD Cert.TargetRefIdeal.τ).loc Cert.TargetRefIdeal.main_arg4)
      ∧ r.2.mem ((c.tc : Thread Cert.TargetRefIdeal.nD Cert.TargetRefIdeal.τ).loc Cert.TargetRefIdeal.main_arg5) = m ((c.tc : Thread Cert.TargetRefIdeal.nD Cert.TargetRefIdeal.τ).loc Cert.TargetRefIdeal.main_arg5)
      ∧ r.2.mem ((c.tc : Thread Cert.TargetRefIdeal.nD Cert.TargetRefIdeal.τ).loc Cert.TargetRefIdeal.main_arg6) = m ((c.tc : Thread Cert.TargetRefIdeal.nD Cert.TargetRefIdeal.τ).loc Cert.TargetRefIdeal.main_arg6)
      ∧ r.2.mem ((c.tc : Thread Cert.TargetRefIdeal.nD Cert.TargetRefIdeal.τ).loc Cert.TargetRefIdeal.main_arg7) = m ((c.tc : Thread Cert.TargetRefIdeal.nD Cert.TargetRefIdeal.τ).loc Cert.TargetRefIdeal.main_arg7))
      ∧ r.2.sem = fun _ => 0)

def quiescent_TargetRef [hTargetRef : Cert.TargetRef.Facts] : Prop :=
  ∀ (m : (ℓ : Loc Cert.TargetRef.nD Cert.TargetRef.τ Cert.TargetRef.sig) → Buf (Elt Bits) ℓ) (g : Dev Cert.TargetRef.nD → PrngReg), Pre_TargetRef m →
    θ_run (Cert.TargetRef.defs (F := Bits)) (onTc (τ := Cert.TargetRef.τ) (Cert.TargetRef.main (F := Bits))) ⟨m, fun _ => 0, g⟩ (fun r => (∀ c : Dev Cert.TargetRef.nD,
      r.2.mem ((c.tc : Thread Cert.TargetRef.nD Cert.TargetRef.τ).loc Cert.TargetRef.main_arg0) = m ((c.tc : Thread Cert.TargetRef.nD Cert.TargetRef.τ).loc Cert.TargetRef.main_arg0)
      ∧ r.2.mem ((c.tc : Thread Cert.TargetRef.nD Cert.TargetRef.τ).loc Cert.TargetRef.main_arg1) = m ((c.tc : Thread Cert.TargetRef.nD Cert.TargetRef.τ).loc Cert.TargetRef.main_arg1)
      ∧ r.2.mem ((c.tc : Thread Cert.TargetRef.nD Cert.TargetRef.τ).loc Cert.TargetRef.main_arg2) = m ((c.tc : Thread Cert.TargetRef.nD Cert.TargetRef.τ).loc Cert.TargetRef.main_arg2)
      ∧ r.2.mem ((c.tc : Thread Cert.TargetRef.nD Cert.TargetRef.τ).loc Cert.TargetRef.main_arg3) = m ((c.tc : Thread Cert.TargetRef.nD Cert.TargetRef.τ).loc Cert.TargetRef.main_arg3)
      ∧ r.2.mem ((c.tc : Thread Cert.TargetRef.nD Cert.TargetRef.τ).loc Cert.TargetRef.main_arg4) = m ((c.tc : Thread Cert.TargetRef.nD Cert.TargetRef.τ).loc Cert.TargetRef.main_arg4)
      ∧ r.2.mem ((c.tc : Thread Cert.TargetRef.nD Cert.TargetRef.τ).loc Cert.TargetRef.main_arg5) = m ((c.tc : Thread Cert.TargetRef.nD Cert.TargetRef.τ).loc Cert.TargetRef.main_arg5)
      ∧ r.2.mem ((c.tc : Thread Cert.TargetRef.nD Cert.TargetRef.τ).loc Cert.TargetRef.main_arg6) = m ((c.tc : Thread Cert.TargetRef.nD Cert.TargetRef.τ).loc Cert.TargetRef.main_arg6)
      ∧ r.2.mem ((c.tc : Thread Cert.TargetRef.nD Cert.TargetRef.τ).loc Cert.TargetRef.main_arg7) = m ((c.tc : Thread Cert.TargetRef.nD Cert.TargetRef.τ).loc Cert.TargetRef.main_arg7))
      ∧ r.2.sem = fun _ => 0)

def preserves_Draft_DraftIdeal : Prop :=
  IdealRules.named_const.Statement Cert.DraftIdeal.κ "z_gain" .f32 0x3FB6DB6E#32 ((10 / 7 : ℝ) : EReal)

def preserves_DraftRef_DraftRefIdeal : Prop :=
  IdealRules.named_const.Statement Cert.DraftRefIdeal.κ "temp" .f32 0x3F333333#32 ((7 / 10 : ℝ) : EReal)

def algebraic_DraftIdeal_DraftRefIdeal [hDraftIdeal : Cert.DraftIdeal.Facts] [hDraftRefIdeal : Cert.DraftRefIdeal.Facts] : Prop :=
  ∀ (m : (ℓ : Loc Cert.DraftIdeal.nD Cert.DraftIdeal.τ Cert.DraftIdeal.sig) → Buf (Elt Ideal) ℓ) (g : Dev Cert.DraftIdeal.nD → PrngReg)
    (m' : (ℓ : Loc Cert.DraftRefIdeal.nD Cert.DraftRefIdeal.τ Cert.DraftRefIdeal.sig) → Buf (Elt Ideal) ℓ) (g' : Dev Cert.DraftRefIdeal.nD → PrngReg), Pre_DraftIdeal m →
    (∀ c : Dev Cert.DraftIdeal.nD,
      m' ((c.tc : Thread Cert.DraftRefIdeal.nD Cert.DraftRefIdeal.τ).loc Cert.DraftRefIdeal.main_arg0) = m ((c.tc : Thread Cert.DraftIdeal.nD Cert.DraftIdeal.τ).loc Cert.DraftIdeal.main_arg0)
      ∧ m' ((c.tc : Thread Cert.DraftRefIdeal.nD Cert.DraftRefIdeal.τ).loc Cert.DraftRefIdeal.main_arg1) = m ((c.tc : Thread Cert.DraftIdeal.nD Cert.DraftIdeal.τ).loc Cert.DraftIdeal.main_arg1)
      ∧ m' ((c.tc : Thread Cert.DraftRefIdeal.nD Cert.DraftRefIdeal.τ).loc Cert.DraftRefIdeal.main_arg2) = m ((c.tc : Thread Cert.DraftIdeal.nD Cert.DraftIdeal.τ).loc Cert.DraftIdeal.main_arg2)
      ∧ m' ((c.tc : Thread Cert.DraftRefIdeal.nD Cert.DraftRefIdeal.τ).loc Cert.DraftRefIdeal.main_arg3) = m ((c.tc : Thread Cert.DraftIdeal.nD Cert.DraftIdeal.τ).loc Cert.DraftIdeal.main_arg3)
      ∧ m' ((c.tc : Thread Cert.DraftRefIdeal.nD Cert.DraftRefIdeal.τ).loc Cert.DraftRefIdeal.main_arg4) = m ((c.tc : Thread Cert.DraftIdeal.nD Cert.DraftIdeal.τ).loc Cert.DraftIdeal.main_arg4)) →
    ∃ (v0 : (c : Dev Cert.DraftIdeal.nD) → Buf (Elt Ideal) ((c.tc : Thread Cert.DraftIdeal.nD Cert.DraftIdeal.τ).loc Cert.DraftIdeal.main_v5_0)),
      θ_run (Cert.DraftIdeal.defs (F := Ideal)) (onTc (τ := Cert.DraftIdeal.τ) (Cert.DraftIdeal.main (F := Ideal))) ⟨m, fun _ => 0, g⟩ (fun r => ∀ c : Dev Cert.DraftIdeal.nD,
          r.2.mem ((c.tc : Thread Cert.DraftIdeal.nD Cert.DraftIdeal.τ).loc Cert.DraftIdeal.main_v5_0) = v0 c
          ∧ r.2.mem ((c.tc : Thread Cert.DraftIdeal.nD Cert.DraftIdeal.τ).loc Cert.DraftIdeal.main_arg0) = m ((c.tc : Thread Cert.DraftIdeal.nD Cert.DraftIdeal.τ).loc Cert.DraftIdeal.main_arg0)
          ∧ r.2.mem ((c.tc : Thread Cert.DraftIdeal.nD Cert.DraftIdeal.τ).loc Cert.DraftIdeal.main_arg1) = m ((c.tc : Thread Cert.DraftIdeal.nD Cert.DraftIdeal.τ).loc Cert.DraftIdeal.main_arg1)
          ∧ r.2.mem ((c.tc : Thread Cert.DraftIdeal.nD Cert.DraftIdeal.τ).loc Cert.DraftIdeal.main_arg2) = m ((c.tc : Thread Cert.DraftIdeal.nD Cert.DraftIdeal.τ).loc Cert.DraftIdeal.main_arg2)
          ∧ r.2.mem ((c.tc : Thread Cert.DraftIdeal.nD Cert.DraftIdeal.τ).loc Cert.DraftIdeal.main_arg3) = m ((c.tc : Thread Cert.DraftIdeal.nD Cert.DraftIdeal.τ).loc Cert.DraftIdeal.main_arg3)
          ∧ r.2.mem ((c.tc : Thread Cert.DraftIdeal.nD Cert.DraftIdeal.τ).loc Cert.DraftIdeal.main_arg4) = m ((c.tc : Thread Cert.DraftIdeal.nD Cert.DraftIdeal.τ).loc Cert.DraftIdeal.main_arg4))
      ∧ θ_run (Cert.DraftRefIdeal.defs (F := Ideal)) (onTc (τ := Cert.DraftRefIdeal.τ) (Cert.DraftRefIdeal.main (F := Ideal))) ⟨m', fun _ => 0, g'⟩ (fun r => ∀ c : Dev Cert.DraftRefIdeal.nD,
          r.2.mem ((c.tc : Thread Cert.DraftRefIdeal.nD Cert.DraftRefIdeal.τ).loc Cert.DraftRefIdeal.main_v0) = v0 c
          ∧ r.2.mem ((c.tc : Thread Cert.DraftRefIdeal.nD Cert.DraftRefIdeal.τ).loc Cert.DraftRefIdeal.main_arg0) = m' ((c.tc : Thread Cert.DraftRefIdeal.nD Cert.DraftRefIdeal.τ).loc Cert.DraftRefIdeal.main_arg0)
          ∧ r.2.mem ((c.tc : Thread Cert.DraftRefIdeal.nD Cert.DraftRefIdeal.τ).loc Cert.DraftRefIdeal.main_arg1) = m' ((c.tc : Thread Cert.DraftRefIdeal.nD Cert.DraftRefIdeal.τ).loc Cert.DraftRefIdeal.main_arg1)
          ∧ r.2.mem ((c.tc : Thread Cert.DraftRefIdeal.nD Cert.DraftRefIdeal.τ).loc Cert.DraftRefIdeal.main_arg2) = m' ((c.tc : Thread Cert.DraftRefIdeal.nD Cert.DraftRefIdeal.τ).loc Cert.DraftRefIdeal.main_arg2)
          ∧ r.2.mem ((c.tc : Thread Cert.DraftRefIdeal.nD Cert.DraftRefIdeal.τ).loc Cert.DraftRefIdeal.main_arg3) = m' ((c.tc : Thread Cert.DraftRefIdeal.nD Cert.DraftRefIdeal.τ).loc Cert.DraftRefIdeal.main_arg3)
          ∧ r.2.mem ((c.tc : Thread Cert.DraftRefIdeal.nD Cert.DraftRefIdeal.τ).loc Cert.DraftRefIdeal.main_arg4) = m' ((c.tc : Thread Cert.DraftRefIdeal.nD Cert.DraftRefIdeal.τ).loc Cert.DraftRefIdeal.main_arg4))

def preserves_Target_TargetIdeal : Prop :=
  IdealRules.named_const.Statement Cert.TargetIdeal.κ "z_gain" .f32 0x3FB6DB6E#32 ((10 / 7 : ℝ) : EReal)

def preserves_TargetRef_TargetRefIdeal : Prop :=
  IdealRules.named_const.Statement Cert.TargetRefIdeal.κ "temp" .f32 0x3F333333#32 ((7 / 10 : ℝ) : EReal)

def algebraic_TargetIdeal_TargetRefIdeal [hTargetIdeal : Cert.TargetIdeal.Facts] [hTargetRefIdeal : Cert.TargetRefIdeal.Facts] : Prop :=
  ∀ (m : (ℓ : Loc Cert.TargetIdeal.nD Cert.TargetIdeal.τ Cert.TargetIdeal.sig) → Buf (Elt Ideal) ℓ) (g : Dev Cert.TargetIdeal.nD → PrngReg)
    (m' : (ℓ : Loc Cert.TargetRefIdeal.nD Cert.TargetRefIdeal.τ Cert.TargetRefIdeal.sig) → Buf (Elt Ideal) ℓ) (g' : Dev Cert.TargetRefIdeal.nD → PrngReg), Pre_TargetIdeal m →
    (∀ c : Dev Cert.TargetIdeal.nD,
      m' ((c.tc : Thread Cert.TargetRefIdeal.nD Cert.TargetRefIdeal.τ).loc Cert.TargetRefIdeal.main_arg0) = m ((c.tc : Thread Cert.TargetIdeal.nD Cert.TargetIdeal.τ).loc Cert.TargetIdeal.main_arg0)
      ∧ m' ((c.tc : Thread Cert.TargetRefIdeal.nD Cert.TargetRefIdeal.τ).loc Cert.TargetRefIdeal.main_arg1) = m ((c.tc : Thread Cert.TargetIdeal.nD Cert.TargetIdeal.τ).loc Cert.TargetIdeal.main_arg1)
      ∧ m' ((c.tc : Thread Cert.TargetRefIdeal.nD Cert.TargetRefIdeal.τ).loc Cert.TargetRefIdeal.main_arg2) = m ((c.tc : Thread Cert.TargetIdeal.nD Cert.TargetIdeal.τ).loc Cert.TargetIdeal.main_arg2)
      ∧ m' ((c.tc : Thread Cert.TargetRefIdeal.nD Cert.TargetRefIdeal.τ).loc Cert.TargetRefIdeal.main_arg3) = m ((c.tc : Thread Cert.TargetIdeal.nD Cert.TargetIdeal.τ).loc Cert.TargetIdeal.main_arg3)
      ∧ m' ((c.tc : Thread Cert.TargetRefIdeal.nD Cert.TargetRefIdeal.τ).loc Cert.TargetRefIdeal.main_arg4) = m ((c.tc : Thread Cert.TargetIdeal.nD Cert.TargetIdeal.τ).loc Cert.TargetIdeal.main_arg4)
      ∧ m' ((c.tc : Thread Cert.TargetRefIdeal.nD Cert.TargetRefIdeal.τ).loc Cert.TargetRefIdeal.main_arg5) = m ((c.tc : Thread Cert.TargetIdeal.nD Cert.TargetIdeal.τ).loc Cert.TargetIdeal.main_arg5)
      ∧ m' ((c.tc : Thread Cert.TargetRefIdeal.nD Cert.TargetRefIdeal.τ).loc Cert.TargetRefIdeal.main_arg6) = m ((c.tc : Thread Cert.TargetIdeal.nD Cert.TargetIdeal.τ).loc Cert.TargetIdeal.main_arg6)
      ∧ m' ((c.tc : Thread Cert.TargetRefIdeal.nD Cert.TargetRefIdeal.τ).loc Cert.TargetRefIdeal.main_arg7) = m ((c.tc : Thread Cert.TargetIdeal.nD Cert.TargetIdeal.τ).loc Cert.TargetIdeal.main_arg7)) →
    ∃ (v0 : (c : Dev Cert.TargetIdeal.nD) → Buf (Elt Ideal) ((c.tc : Thread Cert.TargetIdeal.nD Cert.TargetIdeal.τ).loc Cert.TargetIdeal.main_v20_0)),
      θ_run (Cert.TargetIdeal.defs (F := Ideal)) (onTc (τ := Cert.TargetIdeal.τ) (Cert.TargetIdeal.main (F := Ideal))) ⟨m, fun _ => 0, g⟩ (fun r => ∀ c : Dev Cert.TargetIdeal.nD,
          r.2.mem ((c.tc : Thread Cert.TargetIdeal.nD Cert.TargetIdeal.τ).loc Cert.TargetIdeal.main_v20_0) = v0 c
          ∧ r.2.mem ((c.tc : Thread Cert.TargetIdeal.nD Cert.TargetIdeal.τ).loc Cert.TargetIdeal.main_arg0) = m ((c.tc : Thread Cert.TargetIdeal.nD Cert.TargetIdeal.τ).loc Cert.TargetIdeal.main_arg0)
          ∧ r.2.mem ((c.tc : Thread Cert.TargetIdeal.nD Cert.TargetIdeal.τ).loc Cert.TargetIdeal.main_arg1) = m ((c.tc : Thread Cert.TargetIdeal.nD Cert.TargetIdeal.τ).loc Cert.TargetIdeal.main_arg1)
          ∧ r.2.mem ((c.tc : Thread Cert.TargetIdeal.nD Cert.TargetIdeal.τ).loc Cert.TargetIdeal.main_arg2) = m ((c.tc : Thread Cert.TargetIdeal.nD Cert.TargetIdeal.τ).loc Cert.TargetIdeal.main_arg2)
          ∧ r.2.mem ((c.tc : Thread Cert.TargetIdeal.nD Cert.TargetIdeal.τ).loc Cert.TargetIdeal.main_arg3) = m ((c.tc : Thread Cert.TargetIdeal.nD Cert.TargetIdeal.τ).loc Cert.TargetIdeal.main_arg3)
          ∧ r.2.mem ((c.tc : Thread Cert.TargetIdeal.nD Cert.TargetIdeal.τ).loc Cert.TargetIdeal.main_arg4) = m ((c.tc : Thread Cert.TargetIdeal.nD Cert.TargetIdeal.τ).loc Cert.TargetIdeal.main_arg4)
          ∧ r.2.mem ((c.tc : Thread Cert.TargetIdeal.nD Cert.TargetIdeal.τ).loc Cert.TargetIdeal.main_arg5) = m ((c.tc : Thread Cert.TargetIdeal.nD Cert.TargetIdeal.τ).loc Cert.TargetIdeal.main_arg5)
          ∧ r.2.mem ((c.tc : Thread Cert.TargetIdeal.nD Cert.TargetIdeal.τ).loc Cert.TargetIdeal.main_arg6) = m ((c.tc : Thread Cert.TargetIdeal.nD Cert.TargetIdeal.τ).loc Cert.TargetIdeal.main_arg6)
          ∧ r.2.mem ((c.tc : Thread Cert.TargetIdeal.nD Cert.TargetIdeal.τ).loc Cert.TargetIdeal.main_arg7) = m ((c.tc : Thread Cert.TargetIdeal.nD Cert.TargetIdeal.τ).loc Cert.TargetIdeal.main_arg7))
      ∧ θ_run (Cert.TargetRefIdeal.defs (F := Ideal)) (onTc (τ := Cert.TargetRefIdeal.τ) (Cert.TargetRefIdeal.main (F := Ideal))) ⟨m', fun _ => 0, g'⟩ (fun r => ∀ c : Dev Cert.TargetRefIdeal.nD,
          r.2.mem ((c.tc : Thread Cert.TargetRefIdeal.nD Cert.TargetRefIdeal.τ).loc Cert.TargetRefIdeal.main_v0) = v0 c
          ∧ r.2.mem ((c.tc : Thread Cert.TargetRefIdeal.nD Cert.TargetRefIdeal.τ).loc Cert.TargetRefIdeal.main_arg0) = m' ((c.tc : Thread Cert.TargetRefIdeal.nD Cert.TargetRefIdeal.τ).loc Cert.TargetRefIdeal.main_arg0)
          ∧ r.2.mem ((c.tc : Thread Cert.TargetRefIdeal.nD Cert.TargetRefIdeal.τ).loc Cert.TargetRefIdeal.main_arg1) = m' ((c.tc : Thread Cert.TargetRefIdeal.nD Cert.TargetRefIdeal.τ).loc Cert.TargetRefIdeal.main_arg1)
          ∧ r.2.mem ((c.tc : Thread Cert.TargetRefIdeal.nD Cert.TargetRefIdeal.τ).loc Cert.TargetRefIdeal.main_arg2) = m' ((c.tc : Thread Cert.TargetRefIdeal.nD Cert.TargetRefIdeal.τ).loc Cert.TargetRefIdeal.main_arg2)
          ∧ r.2.mem ((c.tc : Thread Cert.TargetRefIdeal.nD Cert.TargetRefIdeal.τ).loc Cert.TargetRefIdeal.main_arg3) = m' ((c.tc : Thread Cert.TargetRefIdeal.nD Cert.TargetRefIdeal.τ).loc Cert.TargetRefIdeal.main_arg3)
          ∧ r.2.mem ((c.tc : Thread Cert.TargetRefIdeal.nD Cert.TargetRefIdeal.τ).loc Cert.TargetRefIdeal.main_arg4) = m' ((c.tc : Thread Cert.TargetRefIdeal.nD Cert.TargetRefIdeal.τ).loc Cert.TargetRefIdeal.main_arg4)
          ∧ r.2.mem ((c.tc : Thread Cert.TargetRefIdeal.nD Cert.TargetRefIdeal.τ).loc Cert.TargetRefIdeal.main_arg5) = m' ((c.tc : Thread Cert.TargetRefIdeal.nD Cert.TargetRefIdeal.τ).loc Cert.TargetRefIdeal.main_arg5)
          ∧ r.2.mem ((c.tc : Thread Cert.TargetRefIdeal.nD Cert.TargetRefIdeal.τ).loc Cert.TargetRefIdeal.main_arg6) = m' ((c.tc : Thread Cert.TargetRefIdeal.nD Cert.TargetRefIdeal.τ).loc Cert.TargetRefIdeal.main_arg6)
          ∧ r.2.mem ((c.tc : Thread Cert.TargetRefIdeal.nD Cert.TargetRefIdeal.τ).loc Cert.TargetRefIdeal.main_arg7) = m' ((c.tc : Thread Cert.TargetRefIdeal.nD Cert.TargetRefIdeal.τ).loc Cert.TargetRefIdeal.main_arg7))

def Claim : Prop :=
  ∃ (hDraft : Cert.Draft.Facts) (hDraftIdeal : Cert.DraftIdeal.Facts) (hDraftRefIdeal : Cert.DraftRefIdeal.Facts) (hDraftRef : Cert.DraftRef.Facts) (hTarget : Cert.Target.Facts) (hTargetIdeal : Cert.TargetIdeal.Facts) (hTargetRefIdeal : Cert.TargetRefIdeal.Facts) (hTargetRef : Cert.TargetRef.Facts),
    quiescent_Draft (hDraft := hDraft)
    ∧ quiescent_DraftIdeal (hDraftIdeal := hDraftIdeal)
    ∧ quiescent_DraftRefIdeal (hDraftRefIdeal := hDraftRefIdeal)
    ∧ quiescent_DraftRef (hDraftRef := hDraftRef)
    ∧ quiescent_Target (hTarget := hTarget)
    ∧ quiescent_TargetIdeal (hTargetIdeal := hTargetIdeal)
    ∧ quiescent_TargetRefIdeal (hTargetRefIdeal := hTargetRefIdeal)
    ∧ quiescent_TargetRef (hTargetRef := hTargetRef)
    ∧ preserves_Draft_DraftIdeal
    ∧ preserves_DraftRef_DraftRefIdeal
    ∧ algebraic_DraftIdeal_DraftRefIdeal (hDraftIdeal := hDraftIdeal) (hDraftRefIdeal := hDraftRefIdeal)
    ∧ preserves_Target_TargetIdeal
    ∧ preserves_TargetRef_TargetRefIdeal
    ∧ algebraic_TargetIdeal_TargetRefIdeal (hTargetIdeal := hTargetIdeal) (hTargetRefIdeal := hTargetRefIdeal)
-- ==== Draft.lean ====
abbrev S96x7x2048 : Shape := ⟨3, ![96, 7, 2048]⟩
abbrev S96x7x64 : Shape := ⟨3, ![96, 7, 64]⟩
abbrev S2048x32000 : Shape := ⟨2, ![2048, 32000]⟩
abbrev S64x32000 : Shape := ⟨2, ![64, 32000]⟩
abbrev S96x7 : Shape := ⟨2, ![96, 7]⟩
abbrev S_ : Shape := ⟨0, ![]⟩
abbrev S96x8 : Shape := ⟨2, ![96, 8]⟩
abbrev S768x1 : Shape := ⟨2, ![768, 1]⟩
abbrev S768x128 : Shape := ⟨2, ![768, 128]⟩
abbrev S672x2048 : Shape := ⟨2, ![672, 2048]⟩
abbrev S672x64 : Shape := ⟨2, ![672, 64]⟩
abbrev S96x7x32000 : Shape := ⟨3, ![96, 7, 32000]⟩
abbrev S250x768x128 : Shape := ⟨3, ![250, 768, 128]⟩
abbrev S2048x1280 : Shape := ⟨2, ![2048, 1280]⟩
abbrev S64x1280 : Shape := ⟨2, ![64, 1280]⟩
abbrev S96x7x1280 : Shape := ⟨3, ![96, 7, 1280]⟩
abbrev S10x768x128 : Shape := ⟨3, ![10, 768, 128]⟩
abbrev S10x680x128 : Shape := ⟨3, ![10, 680, 128]⟩
abbrev S32x128 : Shape := ⟨2, ![32, 128]⟩
abbrev S32x64 : Shape := ⟨2, ![32, 64]⟩
abbrev S32x128x1 : Shape := ⟨3, ![32, 128, 1]⟩
abbrev S10x8x128 : Shape := ⟨3, ![10, 8, 128]⟩
abbrev S1x1280 : Shape := ⟨2, ![1, 1280]⟩
abbrev S16x1280 : Shape := ⟨2, ![16, 1280]⟩
abbrev S32x1280 : Shape := ⟨2, ![32, 1280]⟩
abbrev S2048x256 : Shape := ⟨2, ![2048, 256]⟩
abbrev S672x256 : Shape := ⟨2, ![672, 256]⟩
abbrev S672x128 : Shape := ⟨2, ![672, 128]⟩
abbrev S1x672x128 : Shape := ⟨3, ![1, 672, 128]⟩
abbrev S8x128 : Shape := ⟨2, ![8, 128]⟩
abbrev S1x8x128 : Shape := ⟨3, ![1, 8, 128]⟩
abbrev S7x128 : Shape := ⟨2, ![7, 128]⟩
abbrev S1x7x128 : Shape := ⟨3, ![1, 7, 128]⟩
abbrev S8 : Shape := ⟨1, ![8]⟩
abbrev S8x1 : Shape := ⟨2, ![8, 1]⟩

abbrev nBuf : Space → Nat
  | .hbm => 16
  | .vmem => 19
  | .smem => 0
  | _ => 0

abbrev bufTy : (tb : Table) → Fin (tcTables nBuf tb) → BufTy
  | .hbm, ⟨0, _⟩ => ⟨S96x7x2048, .fp8e4m3⟩
  | .hbm, ⟨1, _⟩ => ⟨S96x7x64, .i8⟩
  | .hbm, ⟨2, _⟩ => ⟨S2048x32000, .fp8e4m3⟩
  | .hbm, ⟨3, _⟩ => ⟨S64x32000, .i8⟩
  | .hbm, ⟨4, _⟩ => ⟨S96x7, .i32⟩
  | .hbm, ⟨5, _⟩ => ⟨S_, .i32⟩
  | .hbm, ⟨6, _⟩ => ⟨S_, .i32⟩
  | .hbm, ⟨7, _⟩ => ⟨S96x8, .i32⟩
  | .hbm, ⟨8, _⟩ => ⟨S768x1, .i32⟩
  | .hbm, ⟨9, _⟩ => ⟨S768x128, .i32⟩
  | .hbm, ⟨10, _⟩ => ⟨S672x2048, .fp8e4m3⟩
  | .hbm, ⟨11, _⟩ => ⟨S672x64, .i8⟩
  | .hbm, ⟨12, _⟩ => ⟨S96x7x32000, .bf16⟩
  | .hbm, ⟨13, _⟩ => ⟨S250x768x128, .f32⟩
  | .hbm, ⟨14, _⟩ => ⟨S768x128, .f32⟩
  | .hbm, ⟨15, _⟩ => ⟨S768x128, .f32⟩
  | .local _ .vmem, ⟨0, _⟩ => ⟨S672x2048, .fp8e4m3⟩
  | .local _ .vmem, ⟨1, _⟩ => ⟨S672x64, .i8⟩
  | .local _ .vmem, ⟨2, _⟩ => ⟨S2048x1280, .fp8e4m3⟩
  | .local _ .vmem, ⟨3, _⟩ => ⟨S2048x1280, .fp8e4m3⟩
  | .local _ .vmem, ⟨4, _⟩ => ⟨S64x1280, .i8⟩
  | .local _ .vmem, ⟨5, _⟩ => ⟨S64x1280, .i8⟩
  | .local _ .vmem, ⟨6, _⟩ => ⟨S768x128, .i32⟩
  | .local _ .vmem, ⟨7, _⟩ => ⟨S96x7x1280, .bf16⟩
  | .local _ .vmem, ⟨8, _⟩ => ⟨S96x7x1280, .bf16⟩
  | .local _ .vmem, ⟨9, _⟩ => ⟨S10x768x128, .f32⟩
  | .local _ .vmem, ⟨10, _⟩ => ⟨S10x768x128, .f32⟩
  | .local _ .vmem, ⟨11, _⟩ => ⟨S768x128, .f32⟩
  | .local _ .vmem, ⟨12, _⟩ => ⟨S768x128, .f32⟩
  | .local _ .vmem, ⟨13, _⟩ => ⟨S672x2048, .bf16⟩
  | .local _ .vmem, ⟨14, _⟩ => ⟨S2048x1280, .bf16⟩
  | .local _ .vmem, ⟨15, _⟩ => ⟨S64x1280, .i32⟩
  | .local _ .vmem, ⟨16, _⟩ => ⟨S10x680x128, .f32⟩
  | .local _ .vmem, ⟨17, _⟩ => ⟨S768x128, .f32⟩
  | .local _ .vmem, ⟨18, _⟩ => ⟨S768x128, .f32⟩
  | _, _ => ⟨S96x7x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_52 : BitVec 32 := 0#32
  let c21_i32 : BitVec 32 := 21#32
  let v77 : BitVec 32 := Scalar.addi c0_i32_52 c21_i32
  let c1_i32_53 : BitVec 32 := 1#32
  ⟨c0_i32_52, v77, c1_i32_53⟩
def k0_mult1 (k0_t1 : Fin k0_t1_loop.trips) : BitVec 32 :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  v93
def k0_mult2 (k0_t1 : Fin k0_t1_loop.trips) : BitVec 32 :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  v95
def k0_off1 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v97 : Index := Scalar.indexCast v94
  let c0_69 : Index := 0#32
  ![v97.toNat, 0]
def k0_off2 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v140 : Index := Scalar.indexCast v94
  let c0_79 : Index := 0#32
  ![v140.toNat, 0]
def k0_off3 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v147 : Index := Scalar.indexCast v96
  let c0_80 : Index := 0#32
  ![v147.toNat, 0]
def k0_off4 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v185 : Index := Scalar.indexCast v94
  let c128 : Index := 128#32
  ![v185.toNat, 128]
def k0_off5 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v192 : Index := Scalar.indexCast v96
  let c128_90 : Index := 128#32
  ![v192.toNat, 128]
def k0_off6 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v230 : Index := Scalar.indexCast v94
  let c256_100 : Index := 256#32
  ![v230.toNat, 256]
def k0_off7 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v237 : Index := Scalar.indexCast v96
  let c256_101 : Index := 256#32
  ![v237.toNat, 256]
def k0_off8 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v275 : Index := Scalar.indexCast v94
  let c384 : Index := 384#32
  ![v275.toNat, 384]
def k0_off9 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v282 : Index := Scalar.indexCast v96
  let c384_111 : Index := 384#32
  ![v282.toNat, 384]
def k0_off10 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v320 : Index := Scalar.indexCast v94
  let c512_122 : Index := 512#32
  ![v320.toNat, 512]
def k0_off11 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v327 : Index := Scalar.indexCast v96
  let c512_123 : Index := 512#32
  ![v327.toNat, 512]
def k0_off12 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v365 : Index := Scalar.indexCast v94
  let c640 : Index := 640#32
  ![v365.toNat, 640]
def k0_off13 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v372 : Index := Scalar.indexCast v96
  let c640_133 : Index := 640#32
  ![v372.toNat, 640]
def k0_off14 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v410 : Index := Scalar.indexCast v94
  let c768_144 : Index := 768#32
  ![v410.toNat, 768]
def k0_off15 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v417 : Index := Scalar.indexCast v96
  let c768_145 : Index := 768#32
  ![v417.toNat, 768]
def k0_off16 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v455 : Index := Scalar.indexCast v94
  let c896 : Index := 896#32
  ![v455.toNat, 896]
def k0_off17 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v462 : Index := Scalar.indexCast v96
  let c896_155 : Index := 896#32
  ![v462.toNat, 896]
def k0_off18 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v500 : Index := Scalar.indexCast v94
  let c1024_166 : Index := 1024#32
  ![v500.toNat, 1024]
def k0_off19 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v507 : Index := Scalar.indexCast v96
  let c1024_167 : Index := 1024#32
  ![v507.toNat, 1024]
def k0_off20 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v545 : Index := Scalar.indexCast v94
  let c1152 : Index := 1152#32
  ![v545.toNat, 1152]
def k0_off21 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v552 : Index := Scalar.indexCast v96
  let c1152_177 : Index := 1152#32
  ![v552.toNat, 1152]
def k0_off22 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v590 : Index := Scalar.indexCast v94
  let c1280 : Index := 1280#32
  ![v590.toNat, 1280]
def k0_off23 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v597 : Index := Scalar.indexCast v96
  let c1280_187 : Index := 1280#32
  ![v597.toNat, 1280]
def k0_off24 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v635 : Index := Scalar.indexCast v94
  let c1408 : Index := 1408#32
  ![v635.toNat, 1408]
def k0_off25 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v642 : Index := Scalar.indexCast v96
  let c1408_197 : Index := 1408#32
  ![v642.toNat, 1408]
def k0_off26 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v680 : Index := Scalar.indexCast v94
  let c1536 : Index := 1536#32
  ![v680.toNat, 1536]
def k0_off27 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v687 : Index := Scalar.indexCast v96
  let c1536_207 : Index := 1536#32
  ![v687.toNat, 1536]
def k0_off28 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v725 : Index := Scalar.indexCast v94
  let c1664 : Index := 1664#32
  ![v725.toNat, 1664]
def k0_off29 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v732 : Index := Scalar.indexCast v96
  let c1664_217 : Index := 1664#32
  ![v732.toNat, 1664]
def k0_off30 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v770 : Index := Scalar.indexCast v94
  let c1792 : Index := 1792#32
  ![v770.toNat, 1792]
def k0_off31 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v777 : Index := Scalar.indexCast v96
  let c1792_227 : Index := 1792#32
  ![v777.toNat, 1792]
def k0_off32 (k0_t1 : Fin k0_t1_loop.trips) : Fin 2 → Nat :=
  let c0_i32_67 : BitVec 32 := 0#32
  let c0_i32_52 : BitVec 32 := 0#32
  let c1_i32_53 : BitVec 32 := 1#32
  let arg16 : BitVec 32 := Scf.iv c0_i32_52 c1_i32_53 k0_t1
  let c32_i32 : BitVec 32 := 32#32
  let v92 : BitVec 32 := Scalar.muli arg16 c32_i32
  let v93 : BitVec 32 := Scalar.addi c0_i32_67 v92
  let v94 : BitVec 32 := v93
  let v815 : Index := Scalar.indexCast v94
  let c1920 : Index := 1920#32
  ![v815.toNat, 1920]
def k0_off33 (k0_t1 : Fin k0_t1_loop.trips) : Fin 2 → Nat :=
  let c0_i32_52 : BitVec 32 := 0#32
  let c1_i32_53 : BitVec 32 := 1#32
  let arg16 : BitVec 32 := Scf.iv c0_i32_52 c1_i32_53 k0_t1
  let c32_i32_68 : BitVec 32 := 32#32
  let v95 : BitVec 32 := Scalar.muli arg16 c32_i32_68
  let v96 : BitVec 32 := v95
  let v822 : Index := Scalar.indexCast v96
  let c1920_237 : Index := 1920#32
  ![v822.toNat, 1920]
@[reducible] def k0_t2_loop : Scf.Loop 32 :=
  let c0_i32_4 : BitVec 32 := 0#32
  let c64_i32_5 : BitVec 32 := 64#32
  let v15 : BitVec 32 := Scalar.addi c0_i32_4 c64_i32_5
  let c1_i32 : BitVec 32 := 1#32
  ⟨c0_i32_4, v15, c1_i32⟩
def k0_off34 (k0_t2 : Fin k0_t2_loop.trips) : Fin 2 → Nat :=
  let c0_i32_4 : BitVec 32 := 0#32
  let c1_i32 : BitVec 32 := 1#32
  let arg16 : BitVec 32 := Scf.iv c0_i32_4 c1_i32 k0_t2
  let v76 : Index := Scalar.indexCast arg16
  let c0_52 : Index := 0#32
  ![v76.toNat, 0]
def k0_mult3 (k0_t2 : Fin k0_t2_loop.trips) : BitVec 32 :=
  let c0_i32_4 : BitVec 32 := 0#32
  let c1_i32 : BitVec 32 := 1#32
  let arg16 : BitVec 32 := Scf.iv c0_i32_4 c1_i32 k0_t2
  let c32_i32 : BitVec 32 := 32#32
  let v81 : BitVec 32 := Scalar.muli arg16 c32_i32
  v81
def k0_off35 (k0_t2 : Fin k0_t2_loop.trips) : Fin 2 → Nat :=
  let c0_i32_4 : BitVec 32 := 0#32
  let c1_i32 : BitVec 32 := 1#32
  let arg16 : BitVec 32 := Scf.iv c0_i32_4 c1_i32 k0_t2
  let c32_i32 : BitVec 32 := 32#32
  let v81 : BitVec 32 := Scalar.muli arg16 c32_i32
  let v82 : BitVec 32 := v81
  let v83 : Index := Scalar.indexCast v82
  let c0_53 : Index := 0#32
  ![v83.toNat, 0]
@[reducible] def k0_t3_loop : Scf.Loop 32 :=
  let c0_i32_48 : BitVec 32 := 0#32
  let c96_i32 : BitVec 32 := 96#32
  let v72 : BitVec 32 := Scalar.addi c0_i32_48 c96_i32
  let c1_i32_49 : BitVec 32 := 1#32
  ⟨c0_i32_48, v72, c1_i32_49⟩
def k0_mult4 (k0_t3 : Fin k0_t3_loop.trips) : BitVec 32 :=
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  v76
def k0_off36 (k0_t3 : Fin k0_t3_loop.trips) : Fin 2 → Nat :=
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v78 : Index := Scalar.indexCast v77
  let c0_52 : Index := 0#32
  ![v78.toNat, 0]
def k0_off37 (k0_t3 : Fin k0_t3_loop.trips) : Fin 3 → Nat :=
  let c0_55 : Index := 0#32
  let c0_i32_48 : BitVec 32 := 0#32
  let c1_i32_49 : BitVec 32 := 1#32
  let arg16 : BitVec 32 := Scf.iv c0_i32_48 c1_i32_49 k0_t3
  let c7_i32_54 : BitVec 32 := 7#32
  let v87 : BitVec 32 := Scalar.muli arg16 c7_i32_54
  let v88 : Index := Scalar.indexCast v87
  let c0_56 : Index := 0#32
  ![0, v88.toNat, 0]
def k0_off38 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v95 : Index := Scalar.indexCast arg16
  let c0_58 : Index := 0#32
  let c0_59 : Index := 0#32
  ![v95.toNat, 0, 0]
def k0_off39 (k0_t3 : Fin k0_t3_loop.trips) : Fin 3 → Nat :=
  let c0_61 : Index := 0#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v101 : Index := Scalar.indexCast v77
  let c0_62 : Index := 0#32
  ![0, v101.toNat, 0]
def k0_off40 (k0_t3 : Fin k0_t3_loop.trips) : Fin 3 → Nat :=
  let c1_66 : Index := 1#32
  let c0_i32_48 : BitVec 32 := 0#32
  let c1_i32_49 : BitVec 32 := 1#32
  let arg16 : BitVec 32 := Scf.iv c0_i32_48 c1_i32_49 k0_t3
  let c7_i32_65 : BitVec 32 := 7#32
  let v111 : BitVec 32 := Scalar.muli arg16 c7_i32_65
  let v112 : Index := Scalar.indexCast v111
  let c0_67 : Index := 0#32
  ![1, v112.toNat, 0]
def k0_off41 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v119 : Index := Scalar.indexCast arg16
  let c0_69 : Index := 0#32
  let c128 : Index := 128#32
  ![v119.toNat, 0, 128]
def k0_off42 (k0_t3 : Fin k0_t3_loop.trips) : Fin 3 → Nat :=
  let c1_71 : Index := 1#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v125 : Index := Scalar.indexCast v77
  let c0_72 : Index := 0#32
  ![1, v125.toNat, 0]
def k0_off43 (k0_t3 : Fin k0_t3_loop.trips) : Fin 3 → Nat :=
  let c2_75 : Index := 2#32
  let c0_i32_48 : BitVec 32 := 0#32
  let c1_i32_49 : BitVec 32 := 1#32
  let arg16 : BitVec 32 := Scf.iv c0_i32_48 c1_i32_49 k0_t3
  let c7_i32_74 : BitVec 32 := 7#32
  let v135 : BitVec 32 := Scalar.muli arg16 c7_i32_74
  let v136 : Index := Scalar.indexCast v135
  let c0_76 : Index := 0#32
  ![2, v136.toNat, 0]
def k0_off44 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v143 : Index := Scalar.indexCast arg16
  let c0_78 : Index := 0#32
  let c256_79 : Index := 256#32
  ![v143.toNat, 0, 256]
def k0_off45 (k0_t3 : Fin k0_t3_loop.trips) : Fin 3 → Nat :=
  let c2_81 : Index := 2#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v149 : Index := Scalar.indexCast v77
  let c0_82 : Index := 0#32
  ![2, v149.toNat, 0]
def k0_off46 (k0_t3 : Fin k0_t3_loop.trips) : Fin 3 → Nat :=
  let c3_85 : Index := 3#32
  let c0_i32_48 : BitVec 32 := 0#32
  let c1_i32_49 : BitVec 32 := 1#32
  let arg16 : BitVec 32 := Scf.iv c0_i32_48 c1_i32_49 k0_t3
  let c7_i32_84 : BitVec 32 := 7#32
  let v159 : BitVec 32 := Scalar.muli arg16 c7_i32_84
  let v160 : Index := Scalar.indexCast v159
  let c0_86 : Index := 0#32
  ![3, v160.toNat, 0]
def k0_off47 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v167 : Index := Scalar.indexCast arg16
  let c0_88 : Index := 0#32
  let c384 : Index := 384#32
  ![v167.toNat, 0, 384]
def k0_off48 (k0_t3 : Fin k0_t3_loop.trips) : Fin 3 → Nat :=
  let c3_90 : Index := 3#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v173 : Index := Scalar.indexCast v77
  let c0_91 : Index := 0#32
  ![3, v173.toNat, 0]
def k0_off49 (k0_t3 : Fin k0_t3_loop.trips) : Fin 3 → Nat :=
  let c4_94 : Index := 4#32
  let c0_i32_48 : BitVec 32 := 0#32
  let c1_i32_49 : BitVec 32 := 1#32
  let arg16 : BitVec 32 := Scf.iv c0_i32_48 c1_i32_49 k0_t3
  let c7_i32_93 : BitVec 32 := 7#32
  let v183 : BitVec 32 := Scalar.muli arg16 c7_i32_93
  let v184 : Index := Scalar.indexCast v183
  let c0_95 : Index := 0#32
  ![4, v184.toNat, 0]
def k0_off50 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v191 : Index := Scalar.indexCast arg16
  let c0_97 : Index := 0#32
  let c512_98 : Index := 512#32
  ![v191.toNat, 0, 512]
def k0_off51 (k0_t3 : Fin k0_t3_loop.trips) : Fin 3 → Nat :=
  let c4_100 : Index := 4#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v197 : Index := Scalar.indexCast v77
  let c0_101 : Index := 0#32
  ![4, v197.toNat, 0]
def k0_off52 (k0_t3 : Fin k0_t3_loop.trips) : Fin 3 → Nat :=
  let c5_104 : Index := 5#32
  let c0_i32_48 : BitVec 32 := 0#32
  let c1_i32_49 : BitVec 32 := 1#32
  let arg16 : BitVec 32 := Scf.iv c0_i32_48 c1_i32_49 k0_t3
  let c7_i32_103 : BitVec 32 := 7#32
  let v207 : BitVec 32 := Scalar.muli arg16 c7_i32_103
  let v208 : Index := Scalar.indexCast v207
  let c0_105 : Index := 0#32
  ![5, v208.toNat, 0]
def k0_off53 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v215 : Index := Scalar.indexCast arg16
  let c0_107 : Index := 0#32
  let c640 : Index := 640#32
  ![v215.toNat, 0, 640]
def k0_off54 (k0_t3 : Fin k0_t3_loop.trips) : Fin 3 → Nat :=
  let c5_109 : Index := 5#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v221 : Index := Scalar.indexCast v77
  let c0_110 : Index := 0#32
  ![5, v221.toNat, 0]
def k0_off55 (k0_t3 : Fin k0_t3_loop.trips) : Fin 3 → Nat :=
  let c6_113 : Index := 6#32
  let c0_i32_48 : BitVec 32 := 0#32
  let c1_i32_49 : BitVec 32 := 1#32
  let arg16 : BitVec 32 := Scf.iv c0_i32_48 c1_i32_49 k0_t3
  let c7_i32_112 : BitVec 32 := 7#32
  let v231 : BitVec 32 := Scalar.muli arg16 c7_i32_112
  let v232 : Index := Scalar.indexCast v231
  let c0_114 : Index := 0#32
  ![6, v232.toNat, 0]
def k0_off56 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v239 : Index := Scalar.indexCast arg16
  let c0_116 : Index := 0#32
  let c768_117 : Index := 768#32
  ![v239.toNat, 0, 768]
def k0_off57 (k0_t3 : Fin k0_t3_loop.trips) : Fin 3 → Nat :=
  let c6_119 : Index := 6#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v245 : Index := Scalar.indexCast v77
  let c0_120 : Index := 0#32
  ![6, v245.toNat, 0]
def k0_off58 (k0_t3 : Fin k0_t3_loop.trips) : Fin 3 → Nat :=
  let c7_123 : Index := 7#32
  let c0_i32_48 : BitVec 32 := 0#32
  let c1_i32_49 : BitVec 32 := 1#32
  let arg16 : BitVec 32 := Scf.iv c0_i32_48 c1_i32_49 k0_t3
  let c7_i32_122 : BitVec 32 := 7#32
  let v255 : BitVec 32 := Scalar.muli arg16 c7_i32_122
  let v256 : Index := Scalar.indexCast v255
  let c0_124 : Index := 0#32
  ![7, v256.toNat, 0]
def k0_off59 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v263 : Index := Scalar.indexCast arg16
  let c0_126 : Index := 0#32
  let c896 : Index := 896#32
  ![v263.toNat, 0, 896]
def k0_off60 (k0_t3 : Fin k0_t3_loop.trips) : Fin 3 → Nat :=
  let c7_128 : Index := 7#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v269 : Index := Scalar.indexCast v77
  let c0_129 : Index := 0#32
  ![7, v269.toNat, 0]
def k0_off61 (k0_t3 : Fin k0_t3_loop.trips) : Fin 3 → Nat :=
  let c8_132 : Index := 8#32
  let c0_i32_48 : BitVec 32 := 0#32
  let c1_i32_49 : BitVec 32 := 1#32
  let arg16 : BitVec 32 := Scf.iv c0_i32_48 c1_i32_49 k0_t3
  let c7_i32_131 : BitVec 32 := 7#32
  let v279 : BitVec 32 := Scalar.muli arg16 c7_i32_131
  let v280 : Index := Scalar.indexCast v279
  let c0_133 : Index := 0#32
  ![8, v280.toNat, 0]
def k0_off62 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v287 : Index := Scalar.indexCast arg16
  let c0_135 : Index := 0#32
  let c1024_136 : Index := 1024#32
  ![v287.toNat, 0, 1024]
def k0_off63 (k0_t3 : Fin k0_t3_loop.trips) : Fin 3 → Nat :=
  let c8_138 : Index := 8#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v293 : Index := Scalar.indexCast v77
  let c0_139 : Index := 0#32
  ![8, v293.toNat, 0]
def k0_off64 (k0_t3 : Fin k0_t3_loop.trips) : Fin 3 → Nat :=
  let c9_142 : Index := 9#32
  let c0_i32_48 : BitVec 32 := 0#32
  let c1_i32_49 : BitVec 32 := 1#32
  let arg16 : BitVec 32 := Scf.iv c0_i32_48 c1_i32_49 k0_t3
  let c7_i32_141 : BitVec 32 := 7#32
  let v303 : BitVec 32 := Scalar.muli arg16 c7_i32_141
  let v304 : Index := Scalar.indexCast v303
  let c0_143 : Index := 0#32
  ![9, v304.toNat, 0]
def k0_off65 (k0_t3 : Fin k0_t3_loop.trips) : Fin 3 → Nat :=
  let c0_i32_48 : BitVec 32 := 0#32
  let c1_i32_49 : BitVec 32 := 1#32
  let arg16 : BitVec 32 := Scf.iv c0_i32_48 c1_i32_49 k0_t3
  let v311 : Index := Scalar.indexCast arg16
  let c0_145 : Index := 0#32
  let c1152 : Index := 1152#32
  ![v311.toNat, 0, 1152]
def k0_off66 (k0_t3 : Fin k0_t3_loop.trips) : Fin 3 → Nat :=
  let c9_147 : Index := 9#32
  let c0_i32_48 : BitVec 32 := 0#32
  let c1_i32_49 : BitVec 32 := 1#32
  let arg16 : BitVec 32 := Scf.iv c0_i32_48 c1_i32_49 k0_t3
  let c8_i32 : BitVec 32 := 8#32
  let v76 : BitVec 32 := Scalar.muli arg16 c8_i32
  let v77 : BitVec 32 := v76
  let v317 : Index := Scalar.indexCast v77
  let c0_148 : Index := 0#32
  ![9, v317.toNat, 0]
def k0_cond2 (i : grid0.Coords) : BitVec 1 :=
  let arg0 : BitVec 32 := BitVec.ofNat 32 (i 0).val
  let c24_i32 : BitVec 32 := 24#32
  let v73 : BitVec 1 := Scalar.cmpi .eq arg0 c24_i32
  let v74 : BitVec 32 := Scalar.extui v73
  let c0_i32_51 : BitVec 32 := 0#32
  let v75 : BitVec 1 := Scalar.cmpi .ne v74 c0_i32_51
  v75

@[reducible] def k0_t4_loop : Scf.Loop 32 :=
  let c0_i32_52 : BitVec 32 := 0#32
  let c96_i32_53 : BitVec 32 := 96#32
  let v76 : BitVec 32 := Scalar.addi c0_i32_52 c96_i32_53
  let c1_i32_54 : BitVec 32 := 1#32
  ⟨c0_i32_52, v76, c1_i32_54⟩
def k0_mult5 (k0_t4 : Fin k0_t4_loop.trips) : BitVec 32 :=
  let c0_i32_52 : BitVec 32 := 0#32
  let c1_i32_54 : BitVec 32 := 1#32
  let arg16 : BitVec 32 := Scf.iv c0_i32_52 c1_i32_54 k0_t4
  let c8_i32 : BitVec 32 := 8#32
  let v77 : BitVec 32 := Scalar.muli arg16 c8_i32
  v77
def k0_off67 (k0_t4 : Fin k0_t4_loop.trips) : Fin 2 → Nat :=
  let c0_i32_52 : BitVec 32 := 0#32
  let c1_i32_54 : BitVec 32 := 1#32
  let arg16 : BitVec 32 := Scf.iv c0_i32_52 c1_i32_54 k0_t4
  let c8_i32 : BitVec 32 := 8#32
  let v77 : BitVec 32 := Scalar.muli arg16 c8_i32
  let v78 : BitVec 32 := v77
  let v79 : Index := Scalar.indexCast v78
  let c0_56 : Index := 0#32
  ![v79.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S672x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S672x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x7x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10x768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DraftIdeal.lean ====
variable {F : FTy → Type} [FloatOps F] [Named F]
def κ : String → Option EReal := fun
  | "z_gain" => some ((10 / 7 : ℝ) : EReal)
  | _ => none
-- ==== DraftRefIdeal.lean ====
variable {F : FTy → Type} [FloatOps F] [Named F]
def κ : String → Option EReal := fun
  | "temp" => some ((7 / 10 : ℝ) : EReal)
  | _ => none
-- ==== DraftRef.lean ====
abbrev S96x7x2048 : Shape := ⟨3, ![96, 7, 2048]⟩
abbrev S96x7x64 : Shape := ⟨3, ![96, 7, 64]⟩
abbrev S2048x32000 : Shape := ⟨2, ![2048, 32000]⟩
abbrev S64x32000 : Shape := ⟨2, ![64, 32000]⟩
abbrev S96x7 : Shape := ⟨2, ![96, 7]⟩
abbrev S96x7x32000 : Shape := ⟨3, ![96, 7, 32000]⟩
abbrev S96x7x64x32 : Shape := ⟨4, ![96, 7, 64, 32]⟩
abbrev S96x7x64x1 : Shape := ⟨4, ![96, 7, 64, 1]⟩
abbrev S672x2048 : Shape := ⟨2, ![672, 2048]⟩
abbrev S64x32x32000 : Shape := ⟨3, ![64, 32, 32000]⟩
abbrev S64x1x32000 : Shape := ⟨3, ![64, 1, 32000]⟩
abbrev S672x32000 : Shape := ⟨2, ![672, 32000]⟩

abbrev nBuf : Space → Nat
  | .hbm => 6
  | .vmem => 5
  | .smem => 0
  | _ => 0

abbrev bufTy : (tb : Table) → Fin (tcTables nBuf tb) → BufTy
  | .hbm, ⟨0, _⟩ => ⟨S96x7x2048, .fp8e4m3⟩
  | .hbm, ⟨1, _⟩ => ⟨S96x7x64, .i8⟩
  | .hbm, ⟨2, _⟩ => ⟨S2048x32000, .fp8e4m3⟩
  | .hbm, ⟨3, _⟩ => ⟨S64x32000, .i8⟩
  | .hbm, ⟨4, _⟩ => ⟨S96x7, .i32⟩
  | .hbm, ⟨5, _⟩ => ⟨S96x7x32000, .bf16⟩
  | .local _ .vmem, ⟨0, _⟩ => ⟨S96x7x2048, .fp8e4m3⟩
  | .local _ .vmem, ⟨1, _⟩ => ⟨S96x7x64, .i8⟩
  | .local _ .vmem, ⟨2, _⟩ => ⟨S2048x32000, .fp8e4m3⟩
  | .local _ .vmem, ⟨3, _⟩ => ⟨S64x32000, .i8⟩
  | .local _ .vmem, ⟨4, _⟩ => ⟨S96x7x32000, .bf16⟩
  | _, _ => ⟨S96x7x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x7x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x7x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x32000 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32000 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x7x32000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Target.lean ====
abbrev S96x8x2048 : Shape := ⟨3, ![96, 8, 2048]⟩
abbrev S96x8x64 : Shape := ⟨3, ![96, 8, 64]⟩
abbrev S2048x151936 : Shape := ⟨2, ![2048, 151936]⟩
abbrev S64x151936 : Shape := ⟨2, ![64, 151936]⟩
abbrev S32000 : Shape := ⟨1, ![32000]⟩
abbrev S96x7 : Shape := ⟨2, ![96, 7]⟩
abbrev S768x128 : Shape := ⟨2, ![768, 128]⟩
abbrev S250x768x128 : Shape := ⟨3, ![250, 768, 128]⟩
abbrev S250x128 : Shape := ⟨2, ![250, 128]⟩
abbrev S1192 : Shape := ⟨1, ![1192]⟩
abbrev S_ : Shape := ⟨0, ![]⟩
abbrev S250x1 : Shape := ⟨2, ![250, 1]⟩
abbrev S250 : Shape := ⟨1, ![250]⟩
abbrev S1x250 : Shape := ⟨2, ![1, 250]⟩
abbrev S1192x1 : Shape := ⟨2, ![1192, 1]⟩
abbrev S1192x250 : Shape := ⟨2, ![1192, 250]⟩
abbrev S96x8 : Shape := ⟨2, ![96, 8]⟩
abbrev S768x1 : Shape := ⟨2, ![768, 1]⟩
abbrev S768x2048 : Shape := ⟨2, ![768, 2048]⟩
abbrev S768x64 : Shape := ⟨2, ![768, 64]⟩
abbrev S96x8x151936 : Shape := ⟨3, ![96, 8, 151936]⟩
abbrev S2048x1024 : Shape := ⟨2, ![2048, 1024]⟩
abbrev S64x1024 : Shape := ⟨2, ![64, 1024]⟩
abbrev S256x128 : Shape := ⟨2, ![256, 128]⟩
abbrev S32x8x1024 : Shape := ⟨3, ![32, 8, 1024]⟩
abbrev S256x2048 : Shape := ⟨2, ![256, 2048]⟩
abbrev S256x1024 : Shape := ⟨2, ![256, 1024]⟩
abbrev S250x256x128 : Shape := ⟨3, ![250, 256, 128]⟩
abbrev S2x5x256x128 : Shape := ⟨4, ![2, 5, 256, 128]⟩
abbrev S2 : Shape := ⟨1, ![2]⟩
abbrev S8x128 : Shape := ⟨2, ![8, 128]⟩
abbrev S32x128 : Shape := ⟨2, ![32, 128]⟩
abbrev S32x64 : Shape := ⟨2, ![32, 64]⟩
abbrev S32x128x1 : Shape := ⟨3, ![32, 128, 1]⟩
abbrev S1x1024 : Shape := ⟨2, ![1, 1024]⟩
abbrev S16x1024 : Shape := ⟨2, ![16, 1024]⟩
abbrev S32x1024 : Shape := ⟨2, ![32, 1024]⟩
abbrev S2048x256 : Shape := ⟨2, ![2048, 256]⟩
abbrev S256x256 : Shape := ⟨2, ![256, 256]⟩
abbrev S1x8x128 : Shape := ⟨3, ![1, 8, 128]⟩
abbrev S1 : Shape := ⟨1, ![1]⟩
abbrev S1x128 : Shape := ⟨2, ![1, 128]⟩
abbrev S8x128x1 : Shape := ⟨3, ![8, 128, 1]⟩
abbrev S1x5x256x128 : Shape := ⟨4, ![1, 5, 256, 128]⟩
abbrev S5x256x128 : Shape := ⟨3, ![5, 256, 128]⟩
abbrev S8 : Shape := ⟨1, ![8]⟩
abbrev S8x1 : Shape := ⟨2, ![8, 1]⟩
abbrev S1x1x8x128 : Shape := ⟨4, ![1, 1, 8, 128]⟩

abbrev nBuf : Space → Nat
  | .hbm => 35
  | .vmem => 27
  | .smem => 1
  | _ => 0

abbrev bufTy : (tb : Table) → Fin (tcTables nBuf tb) → BufTy
  | .hbm, ⟨0, _⟩ => ⟨S96x8x2048, .fp8e4m3⟩
  | .hbm, ⟨1, _⟩ => ⟨S96x8x64, .i8⟩
  | .hbm, ⟨2, _⟩ => ⟨S2048x151936, .fp8e4m3⟩
  | .hbm, ⟨3, _⟩ => ⟨S64x151936, .i8⟩
  | .hbm, ⟨4, _⟩ => ⟨S32000, .i32⟩
  | .hbm, ⟨5, _⟩ => ⟨S96x7, .i32⟩
  | .hbm, ⟨6, _⟩ => ⟨S768x128, .f32⟩
  | .hbm, ⟨7, _⟩ => ⟨S250x768x128, .f32⟩
  | .hbm, ⟨8, _⟩ => ⟨S32000, .i32⟩
  | .hbm, ⟨9, _⟩ => ⟨S32000, .i32⟩
  | .hbm, ⟨10, _⟩ => ⟨S250x128, .i32⟩
  | .hbm, ⟨11, _⟩ => ⟨S1192, .i32⟩
  | .hbm, ⟨12, _⟩ => ⟨S_, .i32⟩
  | .hbm, ⟨13, _⟩ => ⟨S1192, .i32⟩
  | .hbm, ⟨14, _⟩ => ⟨S1192, .i32⟩
  | .hbm, ⟨15, _⟩ => ⟨S250x1, .i32⟩
  | .hbm, ⟨16, _⟩ => ⟨S250, .i32⟩
  | .hbm, ⟨17, _⟩ => ⟨S1x250, .i32⟩
  | .hbm, ⟨18, _⟩ => ⟨S1192x1, .i32⟩
  | .hbm, ⟨19, _⟩ => ⟨S1192x250, .i32⟩
  | .hbm, ⟨20, _⟩ => ⟨S1192x250, .i32⟩
  | .hbm, ⟨21, _⟩ => ⟨S1192x250, .i1⟩
  | .hbm, ⟨22, _⟩ => ⟨S1192x250, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S96x8, .i32⟩
  | .hbm, ⟨27, _⟩ => ⟨S768x1, .i32⟩
  | .hbm, ⟨28, _⟩ => ⟨S768x128, .i32⟩
  | .hbm, ⟨29, _⟩ => ⟨S768x2048, .fp8e4m3⟩
  | .hbm, ⟨30, _⟩ => ⟨S768x64, .i8⟩
  | .hbm, ⟨31, _⟩ => ⟨S96x8x151936, .bf16⟩
  | .hbm, ⟨32, _⟩ => ⟨S768x128, .f32⟩
  | .hbm, ⟨33, _⟩ => ⟨S768x128, .f32⟩
  | .hbm, ⟨34, _⟩ => ⟨S768x128, .f32⟩
  | .local _ .vmem, ⟨0, _⟩ => ⟨S768x2048, .fp8e4m3⟩
  | .local _ .vmem, ⟨1, _⟩ => ⟨S768x64, .i8⟩
  | .local _ .vmem, ⟨2, _⟩ => ⟨S2048x1024, .fp8e4m3⟩
  | .local _ .vmem, ⟨3, _⟩ => ⟨S2048x1024, .fp8e4m3⟩
  | .local _ .vmem, ⟨4, _⟩ => ⟨S64x1024, .i8⟩
  | .local _ .vmem, ⟨5, _⟩ => ⟨S64x1024, .i8⟩
  | .local _ .vmem, ⟨6, _⟩ => ⟨S250x128, .i32⟩
  | .local _ .vmem, ⟨7, _⟩ => ⟨S256x128, .i32⟩
  | .local _ .vmem, ⟨8, _⟩ => ⟨S256x128, .i32⟩
  | .local _ .vmem, ⟨9, _⟩ => ⟨S256x128, .f32⟩
  | .local _ .vmem, ⟨10, _⟩ => ⟨S256x128, .f32⟩
  | .local _ .vmem, ⟨11, _⟩ => ⟨S32x8x1024, .bf16⟩
  | .local _ .vmem, ⟨12, _⟩ => ⟨S32x8x1024, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x2048, .bf16⟩
  | .local _ .vmem, ⟨20, _⟩ => ⟨S2048x1024, .bf16⟩
  | .local _ .vmem, ⟨21, _⟩ => ⟨S64x1024, .i32⟩
  | .local _ .vmem, ⟨22, _⟩ => ⟨S256x1024, .f32⟩
  | .local _ .vmem, ⟨23, _⟩ => ⟨S250x256x128, .f32⟩
  | .local _ .vmem, ⟨24, _⟩ => ⟨S2x5x256x128, .f32⟩
  | .local _ .vmem, ⟨25, _⟩ => ⟨S256x128, .f32⟩
  | .local _ .vmem, ⟨26, _⟩ => ⟨S256x128, .f32⟩
  | .local _ .smem, ⟨0, _⟩ => ⟨S1192, .i32⟩
  | _, _ => ⟨S96x8x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v14 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![3, 149], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_141 : BitVec 32 := 0#32
  let c8_i32_142 : BitVec 32 := 8#32
  let v308 : BitVec 32 := Scalar.addi c0_i32_141 c8_i32_142
  let c1_i32_143 : BitVec 32 := 1#32
  ⟨c0_i32_141, v308, c1_i32_143⟩
def k0_mult1 (i : grid0.Coords) (k0_t1 : Fin k0_t1_loop.trips) : BitVec 32 :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  v318
def k0_mult2 (k0_t1 : Fin k0_t1_loop.trips) : BitVec 32 :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  v320
def k0_off1 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v322 : Index := Scalar.indexCast v319
  let c0_153 : Index := 0#32
  ![v322.toNat, 0]
def k0_off2 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v365 : Index := Scalar.indexCast v319
  let c0_163 : Index := 0#32
  ![v365.toNat, 0]
def k0_off3 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v372 : Index := Scalar.indexCast v321
  let c0_164 : Index := 0#32
  ![v372.toNat, 0]
def k0_off4 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v410 : Index := Scalar.indexCast v319
  let c128 : Index := 128#32
  ![v410.toNat, 128]
def k0_off5 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v417 : Index := Scalar.indexCast v321
  let c128_175 : Index := 128#32
  ![v417.toNat, 128]
def k0_off6 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v455 : Index := Scalar.indexCast v319
  let c256_186 : Index := 256#32
  ![v455.toNat, 256]
def k0_off7 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v462 : Index := Scalar.indexCast v321
  let c256_187 : Index := 256#32
  ![v462.toNat, 256]
def k0_off8 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v500 : Index := Scalar.indexCast v319
  let c384 : Index := 384#32
  ![v500.toNat, 384]
def k0_off9 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v507 : Index := Scalar.indexCast v321
  let c384_197 : Index := 384#32
  ![v507.toNat, 384]
def k0_off10 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v545 : Index := Scalar.indexCast v319
  let c512_208 : Index := 512#32
  ![v545.toNat, 512]
def k0_off11 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v552 : Index := Scalar.indexCast v321
  let c512_209 : Index := 512#32
  ![v552.toNat, 512]
def k0_off12 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v590 : Index := Scalar.indexCast v319
  let c640 : Index := 640#32
  ![v590.toNat, 640]
def k0_off13 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v597 : Index := Scalar.indexCast v321
  let c640_219 : Index := 640#32
  ![v597.toNat, 640]
def k0_off14 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v635 : Index := Scalar.indexCast v319
  let c768_229 : Index := 768#32
  ![v635.toNat, 768]
def k0_off15 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v642 : Index := Scalar.indexCast v321
  let c768_230 : Index := 768#32
  ![v642.toNat, 768]
def k0_off16 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v680 : Index := Scalar.indexCast v319
  let c896 : Index := 896#32
  ![v680.toNat, 896]
def k0_off17 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v687 : Index := Scalar.indexCast v321
  let c896_240 : Index := 896#32
  ![v687.toNat, 896]
def k0_off18 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v725 : Index := Scalar.indexCast v319
  let c1024 : Index := 1024#32
  ![v725.toNat, 1024]
def k0_off19 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v732 : Index := Scalar.indexCast v321
  let c1024_251 : Index := 1024#32
  ![v732.toNat, 1024]
def k0_off20 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v770 : Index := Scalar.indexCast v319
  let c1152 : Index := 1152#32
  ![v770.toNat, 1152]
def k0_off21 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v777 : Index := Scalar.indexCast v321
  let c1152_261 : Index := 1152#32
  ![v777.toNat, 1152]
def k0_off22 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v815 : Index := Scalar.indexCast v319
  let c1280 : Index := 1280#32
  ![v815.toNat, 1280]
def k0_off23 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v822 : Index := Scalar.indexCast v321
  let c1280_271 : Index := 1280#32
  ![v822.toNat, 1280]
def k0_off24 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v860 : Index := Scalar.indexCast v319
  let c1408 : Index := 1408#32
  ![v860.toNat, 1408]
def k0_off25 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v867 : Index := Scalar.indexCast v321
  let c1408_281 : Index := 1408#32
  ![v867.toNat, 1408]
def k0_off26 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v905 : Index := Scalar.indexCast v319
  let c1536 : Index := 1536#32
  ![v905.toNat, 1536]
def k0_off27 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v912 : Index := Scalar.indexCast v321
  let c1536_291 : Index := 1536#32
  ![v912.toNat, 1536]
def k0_off28 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v950 : Index := Scalar.indexCast v319
  let c1664 : Index := 1664#32
  ![v950.toNat, 1664]
def k0_off29 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v957 : Index := Scalar.indexCast v321
  let c1664_301 : Index := 1664#32
  ![v957.toNat, 1664]
def k0_off30 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v995 : Index := Scalar.indexCast v319
  let c1792 : Index := 1792#32
  ![v995.toNat, 1792]
def k0_off31 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v1002 : Index := Scalar.indexCast v321
  let c1792_311 : Index := 1792#32
  ![v1002.toNat, 1792]
def k0_off32 (i : grid0.Coords) (k0_t1 : Fin k0_t1_loop.trips) : Fin 2 → Nat :=
  let arg0 : BitVec 32 := BitVec.ofNat 32 (i 0).val
  let c256_i32 : BitVec 32 := 256#32
  let v306 : BitVec 32 := Scalar.muli arg0 c256_i32
  let c0_i32_141 : BitVec 32 := 0#32
  let c1_i32_143 : BitVec 32 := 1#32
  let arg24 : BitVec 32 := Scf.iv c0_i32_141 c1_i32_143 k0_t1
  let c32_i32_151 : BitVec 32 := 32#32
  let v317 : BitVec 32 := Scalar.muli arg24 c32_i32_151
  let v318 : BitVec 32 := Scalar.addi v306 v317
  let v319 : BitVec 32 := v318
  let v1040 : Index := Scalar.indexCast v319
  let c1920 : Index := 1920#32
  ![v1040.toNat, 1920]
def k0_off33 (k0_t1 : Fin k0_t1_loop.trips) : Fin 2 → Nat :=
  let c0_i32_141 : BitVec 32 := 0#32
  let c1_i32_143 : BitVec 32 := 1#32
  let arg24 : BitVec 32 := Scf.iv c0_i32_141 c1_i32_143 k0_t1
  let c32_i32_152 : BitVec 32 := 32#32
  let v320 : BitVec 32 := Scalar.muli arg24 c32_i32_152
  let v321 : BitVec 32 := v320
  let v1047 : Index := Scalar.indexCast v321
  let c1920_321 : Index := 1920#32
  ![v1047.toNat, 1920]
@[reducible] def k0_t2_loop : Scf.Loop 32 :=
  let c0_i32_4 : BitVec 32 := 0#32
  let c64_i32_5 : BitVec 32 := 64#32
  let v16 : BitVec 32 := Scalar.addi c0_i32_4 c64_i32_5
  let c1_i32 : BitVec 32 := 1#32
  ⟨c0_i32_4, v16, c1_i32⟩
def k0_off34 (k0_t2 : Fin k0_t2_loop.trips) : Fin 2 → Nat :=
  let c0_i32_4 : BitVec 32 := 0#32
  let c1_i32 : BitVec 32 := 1#32
  let arg24 : BitVec 32 := Scf.iv c0_i32_4 c1_i32 k0_t2
  let v306 : Index := Scalar.indexCast arg24
  let c0_141 : Index := 0#32
  ![v306.toNat, 0]
def k0_mult3 (k0_t2 : Fin k0_t2_loop.trips) : BitVec 32 :=
  let c0_i32_4 : BitVec 32 := 0#32
  let c1_i32 : BitVec 32 := 1#32
  let arg24 : BitVec 32 := Scf.iv c0_i32_4 c1_i32 k0_t2
  let c32_i32_142 : BitVec 32 := 32#32
  let v311 : BitVec 32 := Scalar.muli arg24 c32_i32_142
  v311
def k0_off35 (k0_t2 : Fin k0_t2_loop.trips) : Fin 2 → Nat :=
  let c0_i32_4 : BitVec 32 := 0#32
  let c1_i32 : BitVec 32 := 1#32
  let arg24 : BitVec 32 := Scf.iv c0_i32_4 c1_i32 k0_t2
  let c32_i32_142 : BitVec 32 := 32#32
  let v311 : BitVec 32 := Scalar.muli arg24 c32_i32_142
  let v312 : BitVec 32 := v311
  let v313 : Index := Scalar.indexCast v312
  let c0_143 : Index := 0#32
  ![v313.toNat, 0]
@[reducible] def k0_t3_loop : Scf.Loop 32 :=
  let c0_i32_33 : BitVec 32 := 0#32
  let c32_i32 : BitVec 32 := 32#32
  let v46 : BitVec 32 := Scalar.addi c0_i32_33 c32_i32
  let c1_i32_34 : BitVec 32 := 1#32
  ⟨c0_i32_33, v46, c1_i32_34⟩
def k0_mult4 (k0_t3 : Fin k0_t3_loop.trips) : BitVec 32 :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  v306
def k0_off36 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v308 : Index := Scalar.indexCast v307
  let c0_142 : Index := 0#32
  ![v308.toNat, 0]
def k0_off37 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v313 : Index := Scalar.indexCast arg24
  let c0_144 : Index := 0#32
  let c0_145 : Index := 0#32
  ![v313.toNat, 0, 0]
def k0_off38 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v319 : Index := Scalar.indexCast v307
  let c128 : Index := 128#32
  ![v319.toNat, 128]
def k0_off39 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v324 : Index := Scalar.indexCast arg24
  let c0_148 : Index := 0#32
  let c128_149 : Index := 128#32
  ![v324.toNat, 0, 128]
def k0_off40 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v330 : Index := Scalar.indexCast v307
  let c256_151 : Index := 256#32
  ![v330.toNat, 256]
def k0_off41 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v335 : Index := Scalar.indexCast arg24
  let c0_153 : Index := 0#32
  let c256_154 : Index := 256#32
  ![v335.toNat, 0, 256]
def k0_off42 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v341 : Index := Scalar.indexCast v307
  let c384 : Index := 384#32
  ![v341.toNat, 384]
def k0_off43 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v346 : Index := Scalar.indexCast arg24
  let c0_157 : Index := 0#32
  let c384_158 : Index := 384#32
  ![v346.toNat, 0, 384]
def k0_off44 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v352 : Index := Scalar.indexCast v307
  let c512_160 : Index := 512#32
  ![v352.toNat, 512]
def k0_off45 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v357 : Index := Scalar.indexCast arg24
  let c0_162 : Index := 0#32
  let c512_163 : Index := 512#32
  ![v357.toNat, 0, 512]
def k0_off46 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v363 : Index := Scalar.indexCast v307
  let c640 : Index := 640#32
  ![v363.toNat, 640]
def k0_off47 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v368 : Index := Scalar.indexCast arg24
  let c0_166 : Index := 0#32
  let c640_167 : Index := 640#32
  ![v368.toNat, 0, 640]
def k0_off48 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v374 : Index := Scalar.indexCast v307
  let c768_169 : Index := 768#32
  ![v374.toNat, 768]
def k0_off49 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v379 : Index := Scalar.indexCast arg24
  let c0_171 : Index := 0#32
  let c768_172 : Index := 768#32
  ![v379.toNat, 0, 768]
def k0_off50 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v385 : Index := Scalar.indexCast v307
  let c896 : Index := 896#32
  ![v385.toNat, 896]
def k0_off51 (k0_t3 : Fin k0_t3_loop.trips) : Fin 3 → Nat :=
  let c0_i32_33 : BitVec 32 := 0#32
  let c1_i32_34 : BitVec 32 := 1#32
  let arg24 : BitVec 32 := Scf.iv c0_i32_33 c1_i32_34 k0_t3
  let v390 : Index := Scalar.indexCast arg24
  let c0_175 : Index := 0#32
  let c896_176 : Index := 896#32
  ![v390.toNat, 0, 896]
def k0_off52 (k0_t3 : Fin k0_t3_loop.trips) : Fin 2 → Nat :=
  let c0_i32_33 : BitVec 32 := 0#32
  let c1_i32_34 : BitVec 32 := 1#32
  let arg24 : BitVec 32 := Scf.iv c0_i32_33 c1_i32_34 k0_t3
  let c8_i32_141 : BitVec 32 := 8#32
  let v306 : BitVec 32 := Scalar.muli arg24 c8_i32_141
  let v307 : BitVec 32 := v306
  let v396 : Index := Scalar.indexCast v307
  let c0_178 : Index := 0#32
  ![v396.toNat, 0]
def k0_off53 (i : grid0.Coords) : Fin 1 → Nat :=
  let arg1 : BitVec 32 := BitVec.ofNat 32 (i 1).val
  let c8_i32 : BitVec 32 := 8#32
  let v47 : BitVec 32 := Scalar.muli arg1 c8_i32
  let c0_i32_36 : BitVec 32 := 0#32
  let v48 : BitVec 32 := Scalar.addi v47 c0_i32_36
  let v49 : Index := Scalar.indexCast v48
  ![v49.toNat]
def k0_off54 (v50 : BitVec 32) : Fin 2 → Nat :=
  let c249_i32 : BitVec 32 := 249#32
  let v51 : BitVec 32 := Scalar.minsi v50 c249_i32
  let v54 : Index := Scalar.indexCast v51
  let c0_39 : Index := 0#32
  ![v54.toNat, 0]

def k0_off55 (v50 : BitVec 32) : Fin 2 → Nat :=
  let c249_i32 : BitVec 32 := 249#32
  let v51 : BitVec 32 := Scalar.minsi v50 c249_i32
  let c1_i32_37 : BitVec 32 := 1#32
  let v52 : BitVec 32 := Scalar.addi v51 c1_i32_37
  let c249_i32_38 : BitVec 32 := 249#32
  let v53 : BitVec 32 := Scalar.minsi v52 c249_i32_38
  let v59 : Index := Scalar.indexCast v53
  let c0_40 : Index := 0#32
  ![v59.toNat, 0]
@[reducible] def k0_t4_loop : Scf.Loop 32 :=
  let c0_i32_43 : BitVec 32 := 0#32
  let c32_i32_44 : BitVec 32 := 32#32
  let v78 : BitVec 32 := Scalar.addi c0_i32_43 c32_i32_44
  let c1_i32_45 : BitVec 32 := 1#32
  ⟨c0_i32_43, v78, c1_i32_45⟩
def k0_mult5 (k0_t4 : Fin k0_t4_loop.trips) : BitVec 32 :=
  let c0_i32_43 : BitVec 32 := 0#32
  let c1_i32_45 : BitVec 32 := 1#32
  let arg24 : BitVec 32 := Scf.iv c0_i32_43 c1_i32_45 k0_t4
  let c8_i32_141 : BitVec 32 := 8#32
  let v306 : BitVec 32 := Scalar.muli arg24 c8_i32_141
  v306
def k0_off56 (k0_t4 : Fin k0_t4_loop.trips) : Fin 2 → Nat :=
  let c0_i32_43 : BitVec 32 := 0#32
  let c1_i32_45 : BitVec 32 := 1#32
  let arg24 : BitVec 32 := Scf.iv c0_i32_43 c1_i32_45 k0_t4
  let c8_i32_141 : BitVec 32 := 8#32
  let v306 : BitVec 32 := Scalar.muli arg24 c8_i32_141
  let v307 : BitVec 32 := v306
  let v308 : Index := Scalar.indexCast v307
  let c0_142 : Index := 0#32
  ![v308.toNat, 0]
def k0_off57 (v50 : BitVec 32) (k0_t4 : Fin k0_t4_loop.trips) : Fin 3 → Nat :=
  let c249_i32 : BitVec 32 := 249#32
  let v51 : BitVec 32 := Scalar.minsi v50 c249_i32
  let v320 : Index := Scalar.indexCast v51
  let c0_i32_43 : BitVec 32 := 0#32
  let c1_i32_45 : BitVec 32 := 1#32
  let arg24 : BitVec 32 := Scf.iv c0_i32_43 c1_i32_45 k0_t4
  let c8_i32_141 : BitVec 32 := 8#32
  let v306 : BitVec 32 := Scalar.muli arg24 c8_i32_141
  let v307 : BitVec 32 := v306
  let v321 : Index := Scalar.indexCast v307
  let c0_145 : Index := 0#32
  ![v320.toNat, v321.toNat, 0]
def k0_off58 (v50 : BitVec 32) (k0_t4 : Fin k0_t4_loop.trips) : Fin 3 → Nat :=
  let c249_i32 : BitVec 32 := 249#32
  let v51 : BitVec 32 := Scalar.minsi v50 c249_i32
  let c1_i32_37 : BitVec 32 := 1#32
  let v52 : BitVec 32 := Scalar.addi v51 c1_i32_37
  let c249_i32_38 : BitVec 32 := 249#32
  let v53 : BitVec 32 := Scalar.minsi v52 c249_i32_38
  let v326 : Index := Scalar.indexCast v53
  let c0_i32_43 : BitVec 32 := 0#32
  let c1_i32_45 : BitVec 32 := 1#32
  let arg24 : BitVec 32 := Scf.iv c0_i32_43 c1_i32_45 k0_t4
  let c8_i32_141 : BitVec 32 := 8#32
  let v306 : BitVec 32 := Scalar.muli arg24 c8_i32_141
  let v307 : BitVec 32 := v306
  let v327 : Index := Scalar.indexCast v307
  let c0_146 : Index := 0#32
  ![v326.toNat, v327.toNat, 0]

def k0_chk1 (v50 : BitVec 32) : Prop :=
  (∀ a, (k0_off54 v50) a + S1x128.size a ≤ S250x128.size a) ∧
  (∀ a, (k0_off55 v50) a + S1x128.size a ≤ S250x128.size a) ∧
  (∀ k0_t4 : Fin k0_t4_loop.trips, ∀ a, (k0_off57 v50 k0_t4) a + S1x8x128.size a ≤ S250x256x128.size a) ∧
  (∀ k0_t4 : Fin k0_t4_loop.trips, ∀ a, (k0_off58 v50 k0_t4) a + S1x8x128.size a ≤ S250x256x128.size a)
theorem k0_off54_inb : ∀ (v50 : BitVec 32) (k0_hw1 : k0_chk1 v50), ∀ a, (k0_off54 v50) a + S1x128.size a ≤ S250x128.size a := fun v50 k0_hw1 => k0_hw1.1
theorem k0_off55_inb : ∀ (v50 : BitVec 32) (k0_hw1 : k0_chk1 v50), ∀ a, (k0_off55 v50) a + S1x128.size a ≤ S250x128.size a := fun v50 k0_hw1 => k0_hw1.2.1
theorem k0_off57_inb : ∀ (v50 : BitVec 32) (k0_hw1 : k0_chk1 v50) (k0_t4 : Fin k0_t4_loop.trips), ∀ a, (k0_off57 v50 k0_t4) a + S1x8x128.size a ≤ S250x256x128.size a := fun v50 k0_hw1 k0_t4 => k0_hw1.2.2.1 k0_t4
theorem k0_off58_inb : ∀ (v50 : BitVec 32) (k0_hw1 : k0_chk1 v50) (k0_t4 : Fin k0_t4_loop.trips), ∀ a, (k0_off58 v50 k0_t4) a + S1x8x128.size a ≤ S250x256x128.size a := fun v50 k0_hw1 k0_t4 => k0_hw1.2.2.2 k0_t4

def k0_off59 (i : grid0.Coords) : Fin 1 → Nat :=
  let arg1 : BitVec 32 := BitVec.ofNat 32 (i 1).val
  let c8_i32_47 : BitVec 32 := 8#32
  let v79 : BitVec 32 := Scalar.muli arg1 c8_i32_47
  let c1_i32_48 : BitVec 32 := 1#32
  let v80 : BitVec 32 := Scalar.addi v79 c1_i32_48
  let v81 : Index := Scalar.indexCast v80
  ![v81.toNat]
def k0_off60 (v82 : BitVec 32) : Fin 2 → Nat :=
  let c249_i32_49 : BitVec 32 := 249#32
  let v83 : BitVec 32 := Scalar.minsi v82 c249_i32_49
  let v86 : Index := Scalar.indexCast v83
  let c0_52 : Index := 0#32
  ![v86.toNat, 0]

def k0_off61 (v82 : BitVec 32) : Fin 2 → Nat :=
  let c249_i32_49 : BitVec 32 := 249#32
  let v83 : BitVec 32 := Scalar.minsi v82 c249_i32_49
  let c1_i32_50 : BitVec 32 := 1#32
  let v84 : BitVec 32 := Scalar.addi v83 c1_i32_50
  let c249_i32_51 : BitVec 32 := 249#32
  let v85 : BitVec 32 := Scalar.minsi v84 c249_i32_51
  let v91 : Index := Scalar.indexCast v85
  let c0_53 : Index := 0#32
  ![v91.toNat, 0]
@[reducible] def k0_t5_loop : Scf.Loop 32 :=
  let c0_i32_57 : BitVec 32 := 0#32
  let c32_i32_58 : BitVec 32 := 32#32
  let v110 : BitVec 32 := Scalar.addi c0_i32_57 c32_i32_58
  let c1_i32_59 : BitVec 32 := 1#32
  ⟨c0_i32_57, v110, c1_i32_59⟩
def k0_mult6 (k0_t5 : Fin k0_t5_loop.trips) : BitVec 32 :=
  let c0_i32_57 : BitVec 32 := 0#32
  let c1_i32_59 : BitVec 32 := 1#32
  let arg24 : BitVec 32 := Scf.iv c0_i32_57 c1_i32_59 k0_t5
  let c8_i32_141 : BitVec 32 := 8#32
  let v306 : BitVec 32 := Scalar.muli arg24 c8_i32_141
  v306
def k0_off62 (k0_t5 : Fin k0_t5_loop.trips) : Fin 2 → Nat :=
  let c0_i32_57 : BitVec 32 := 0#32
  let c1_i32_59 : BitVec 32 := 1#32
  let arg24 : BitVec 32 := Scf.iv c0_i32_57 c1_i32_59 k0_t5
  let c8_i32_141 : BitVec 32 := 8#32
  let v306 : BitVec 32 := Scalar.muli arg24 c8_i32_141
  let v307 : BitVec 32 := v306
  let v308 : Index := Scalar.indexCast v307
  let c128 : Index := 128#32
  ![v308.toNat, 128]
def k0_off63 (v82 : BitVec 32) (k0_t5 : Fin k0_t5_loop.trips) : Fin 3 → Nat :=
  let c249_i32_49 : BitVec 32 := 249#32
  let v83 : BitVec 32 := Scalar.minsi v82 c249_i32_49
  let v320 : Index := Scalar.indexCast v83
  let c0_i32_57 : BitVec 32 := 0#32
  let c1_i32_59 : BitVec 32 := 1#32
  let arg24 : BitVec 32 := Scf.iv c0_i32_57 c1_i32_59 k0_t5
  let c8_i32_141 : BitVec 32 := 8#32
  let v306 : BitVec 32 := Scalar.muli arg24 c8_i32_141
  let v307 : BitVec 32 := v306
  let v321 : Index := Scalar.indexCast v307
  let c0_144 : Index := 0#32
  ![v320.toNat, v321.toNat, 0]
def k0_off64 (v82 : BitVec 32) (k0_t5 : Fin k0_t5_loop.trips) : Fin 3 → Nat :=
  let c249_i32_49 : BitVec 32 := 249#32
  let v83 : BitVec 32 := Scalar.minsi v82 c249_i32_49
  let c1_i32_50 : BitVec 32 := 1#32
  let v84 : BitVec 32 := Scalar.addi v83 c1_i32_50
  let c249_i32_51 : BitVec 32 := 249#32
  let v85 : BitVec 32 := Scalar.minsi v84 c249_i32_51
  let v326 : Index := Scalar.indexCast v85
  let c0_i32_57 : BitVec 32 := 0#32
  let c1_i32_59 : BitVec 32 := 1#32
  let arg24 : BitVec 32 := Scf.iv c0_i32_57 c1_i32_59 k0_t5
  let c8_i32_141 : BitVec 32 := 8#32
  let v306 : BitVec 32 := Scalar.muli arg24 c8_i32_141
  let v307 : BitVec 32 := v306
  let v327 : Index := Scalar.indexCast v307
  let c0_145 : Index := 0#32
  ![v326.toNat, v327.toNat, 0]

def k0_chk2 (v82 : BitVec 32) : Prop :=
  (∀ a, (k0_off60 v82) a + S1x128.size a ≤ S250x128.size a) ∧
  (∀ a, (k0_off61 v82) a + S1x128.size a ≤ S250x128.size a) ∧
  (∀ k0_t5 : Fin k0_t5_loop.trips, ∀ a, (k0_off63 v82 k0_t5) a + S1x8x128.size a ≤ S250x256x128.size a) ∧
  (∀ k0_t5 : Fin k0_t5_loop.trips, ∀ a, (k0_off64 v82 k0_t5) a + S1x8x128.size a ≤ S250x256x128.size a)
theorem k0_off60_inb : ∀ (v82 : BitVec 32) (k0_hw2 : k0_chk2 v82), ∀ a, (k0_off60 v82) a + S1x128.size a ≤ S250x128.size a := fun v82 k0_hw2 => k0_hw2.1
theorem k0_off61_inb : ∀ (v82 : BitVec 32) (k0_hw2 : k0_chk2 v82), ∀ a, (k0_off61 v82) a + S1x128.size a ≤ S250x128.size a := fun v82 k0_hw2 => k0_hw2.2.1
theorem k0_off63_inb : ∀ (v82 : BitVec 32) (k0_hw2 : k0_chk2 v82) (k0_t5 : Fin k0_t5_loop.trips), ∀ a, (k0_off63 v82 k0_t5) a + S1x8x128.size a ≤ S250x256x128.size a := fun v82 k0_hw2 k0_t5 => k0_hw2.2.2.1 k0_t5
theorem k0_off64_inb : ∀ (v82 : BitVec 32) (k0_hw2 : k0_chk2 v82) (k0_t5 : Fin k0_t5_loop.trips), ∀ a, (k0_off64 v82 k0_t5) a + S1x8x128.size a ≤ S250x256x128.size a := fun v82 k0_hw2 k0_t5 => k0_hw2.2.2.2 k0_t5

def k0_off65 (i : grid0.Coords) : Fin 1 → Nat :=
  let arg1 : BitVec 32 := BitVec.ofNat 32 (i 1).val
  let c8_i32_61 : BitVec 32 := 8#32
  let v111 : BitVec 32 := Scalar.muli arg1 c8_i32_61
  let c2_i32 : BitVec 32 := 2#32
  let v112 : BitVec 32 := Scalar.addi v111 c2_i32
  let v113 : Index := Scalar.indexCast v112
  ![v113.toNat]
def k0_off66 (v114 : BitVec 32) : Fin 2 → Nat :=
  let c249_i32_62 : BitVec 32 := 249#32
  let v115 : BitVec 32 := Scalar.minsi v114 c249_i32_62
  let v118 : Index := Scalar.indexCast v115
  let c0_65 : Index := 0#32
  ![v118.toNat, 0]

def k0_off67 (v114 : BitVec 32) : Fin 2 → Nat :=
  let c249_i32_62 : BitVec 32 := 249#32
  let v115 : BitVec 32 := Scalar.minsi v114 c249_i32_62
  let c1_i32_63 : BitVec 32 := 1#32
  let v116 : BitVec 32 := Scalar.addi v115 c1_i32_63
  let c249_i32_64 : BitVec 32 := 249#32
  let v117 : BitVec 32 := Scalar.minsi v116 c249_i32_64
  let v123 : Index := Scalar.indexCast v117
  let c0_66 : Index := 0#32
  ![v123.toNat, 0]
@[reducible] def k0_t6_loop : Scf.Loop 32 :=
  let c0_i32_70 : BitVec 32 := 0#32
  let c32_i32_71 : BitVec 32 := 32#32
  let v142 : BitVec 32 := Scalar.addi c0_i32_70 c32_i32_71
  let c1_i32_72 : BitVec 32 := 1#32
  ⟨c0_i32_70, v142, c1_i32_72⟩
def k0_mult7 (k0_t6 : Fin k0_t6_loop.trips) : BitVec 32 :=
  let c0_i32_70 : BitVec 32 := 0#32
  let c1_i32_72 : BitVec 32 := 1#32
  let arg24 : BitVec 32 := Scf.iv c0_i32_70 c1_i32_72 k0_t6
  let c8_i32_141 : BitVec 32 := 8#32
  let v306 : BitVec 32 := Scalar.muli arg24 c8_i32_141
  v306
def k0_off68 (k0_t6 : Fin k0_t6_loop.trips) : Fin 2 → Nat :=
  let c0_i32_70 : BitVec 32 := 0#32
  let c1_i32_72 : BitVec 32 := 1#32
  let arg24 : BitVec 32 := Scf.iv c0_i32_70 c1_i32_72 k0_t6
  let c8_i32_141 : BitVec 32 := 8#32
  let v306 : BitVec 32 := Scalar.muli arg24 c8_i32_141
  let v307 : BitVec 32 := v306
  let v308 : Index := Scalar.indexCast v307
  let c256_142 : Index := 256#32
  ![v308.toNat, 256]
def k0_off69 (v114 : BitVec 32) (k0_t6 : Fin k0_t6_loop.trips) : Fin 3 → Nat :=
  let c249_i32_62 : BitVec 32 := 249#32
  let v115 : BitVec 32 := Scalar.minsi v114 c249_i32_62
  let v320 : Index := Scalar.indexCast v115
  let c0_i32_70 : BitVec 32 := 0#32
  let c1_i32_72 : BitVec 32 := 1#32
  let arg24 : BitVec 32 := Scf.iv c0_i32_70 c1_i32_72 k0_t6
  let c8_i32_141 : BitVec 32 := 8#32
  let v306 : BitVec 32 := Scalar.muli arg24 c8_i32_141
  let v307 : BitVec 32 := v306
  let v321 : Index := Scalar.indexCast v307
  let c0_145 : Index := 0#32
  ![v320.toNat, v321.toNat, 0]
def k0_off70 (v114 : BitVec 32) (k0_t6 : Fin k0_t6_loop.trips) : Fin 3 → Nat :=
  let c249_i32_62 : BitVec 32 := 249#32
  let v115 : BitVec 32 := Scalar.minsi v114 c249_i32_62
  let c1_i32_63 : BitVec 32 := 1#32
  let v116 : BitVec 32 := Scalar.addi v115 c1_i32_63
  let c249_i32_64 : BitVec 32 := 249#32
  let v117 : BitVec 32 := Scalar.minsi v116 c249_i32_64
  let v326 : Index := Scalar.indexCast v117
  let c0_i32_70 : BitVec 32 := 0#32
  let c1_i32_72 : BitVec 32 := 1#32
  let arg24 : BitVec 32 := Scf.iv c0_i32_70 c1_i32_72 k0_t6
  let c8_i32_141 : BitVec 32 := 8#32
  let v306 : BitVec 32 := Scalar.muli arg24 c8_i32_141
  let v307 : BitVec 32 := v306
  let v327 : Index := Scalar.indexCast v307
  let c0_146 : Index := 0#32
  ![v326.toNat, v327.toNat, 0]

def k0_chk3 (v114 : BitVec 32) : Prop :=
  (∀ a, (k0_off66 v114) a + S1x128.size a ≤ S250x128.size a) ∧
  (∀ a, (k0_off67 v114) a + S1x128.size a ≤ S250x128.size a) ∧
  (∀ k0_t6 : Fin k0_t6_loop.trips, ∀ a, (k0_off69 v114 k0_t6) a + S1x8x128.size a ≤ S250x256x128.size a) ∧
  (∀ k0_t6 : Fin k0_t6_loop.trips, ∀ a, (k0_off70 v114 k0_t6) a + S1x8x128.size a ≤ S250x256x128.size a)
theorem k0_off66_inb : ∀ (v114 : BitVec 32) (k0_hw3 : k0_chk3 v114), ∀ a, (k0_off66 v114) a + S1x128.size a ≤ S250x128.size a := fun v114 k0_hw3 => k0_hw3.1
theorem k0_off67_inb : ∀ (v114 : BitVec 32) (k0_hw3 : k0_chk3 v114), ∀ a, (k0_off67 v114) a + S1x128.size a ≤ S250x128.size a := fun v114 k0_hw3 => k0_hw3.2.1
theorem k0_off69_inb : ∀ (v114 : BitVec 32) (k0_hw3 : k0_chk3 v114) (k0_t6 : Fin k0_t6_loop.trips), ∀ a, (k0_off69 v114 k0_t6) a + S1x8x128.size a ≤ S250x256x128.size a := fun v114 k0_hw3 k0_t6 => k0_hw3.2.2.1 k0_t6
theorem k0_off70_inb : ∀ (v114 : BitVec 32) (k0_hw3 : k0_chk3 v114) (k0_t6 : Fin k0_t6_loop.trips), ∀ a, (k0_off70 v114 k0_t6) a + S1x8x128.size a ≤ S250x256x128.size a := fun v114 k0_hw3 k0_t6 => k0_hw3.2.2.2 k0_t6

def k0_off71 (i : grid0.Coords) : Fin 1 → Nat :=
  let arg1 : BitVec 32 := BitVec.ofNat 32 (i 1).val
  let c8_i32_74 : BitVec 32 := 8#32
  let v143 : BitVec 32 := Scalar.muli arg1 c8_i32_74
  let c3_i32 : BitVec 32 := 3#32
  let v144 : BitVec 32 := Scalar.addi v143 c3_i32
  let v145 : Index := Scalar.indexCast v144
  ![v145.toNat]
def k0_off72 (v146 : BitVec 32) : Fin 2 → Nat :=
  let c249_i32_75 : BitVec 32 := 249#32
  let v147 : BitVec 32 := Scalar.minsi v146 c249_i32_75
  let v150 : Index := Scalar.indexCast v147
  let c0_78 : Index := 0#32
  ![v150.toNat, 0]

def k0_off73 (v146 : BitVec 32) : Fin 2 → Nat :=
  let c249_i32_75 : BitVec 32 := 249#32
  let v147 : BitVec 32 := Scalar.minsi v146 c249_i32_75
  let c1_i32_76 : BitVec 32 := 1#32
  let v148 : BitVec 32 := Scalar.addi v147 c1_i32_76
  let c249_i32_77 : BitVec 32 := 249#32
  let v149 : BitVec 32 := Scalar.minsi v148 c249_i32_77
  let v155 : Index := Scalar.indexCast v149
  let c0_79 : Index := 0#32
  ![v155.toNat, 0]
@[reducible] def k0_t7_loop : Scf.Loop 32 :=
  let c0_i32_83 : BitVec 32 := 0#32
  let c32_i32_84 : BitVec 32 := 32#32
  let v174 : BitVec 32 := Scalar.addi c0_i32_83 c32_i32_84
  let c1_i32_85 : BitVec 32 := 1#32
  ⟨c0_i32_83, v174, c1_i32_85⟩
def k0_mult8 (k0_t7 : Fin k0_t7_loop.trips) : BitVec 32 :=
  let c0_i32_83 : BitVec 32 := 0#32
  let c1_i32_85 : BitVec 32 := 1#32
  let arg24 : BitVec 32 := Scf.iv c0_i32_83 c1_i32_85 k0_t7
  let c8_i32_141 : BitVec 32 := 8#32
  let v306 : BitVec 32 := Scalar.muli arg24 c8_i32_141
  v306
def k0_off74 (k0_t7 : Fin k0_t7_loop.trips) : Fin 2 → Nat :=
  let c0_i32_83 : BitVec 32 := 0#32
  let c1_i32_85 : BitVec 32 := 1#32
  let arg24 : BitVec 32 := Scf.iv c0_i32_83 c1_i32_85 k0_t7
  let c8_i32_141 : BitVec 32 := 8#32
  let v306 : BitVec 32 := Scalar.muli arg24 c8_i32_141
  let v307 : BitVec 32 := v306
  let v308 : Index := Scalar.indexCast v307
  let c384 : Index := 384#32
  ![v308.toNat, 384]
def k0_off75 (v146 : BitVec 32) (k0_t7 : Fin k0_t7_loop.trips) : Fin 3 → Nat :=
  let c249_i32_75 : BitVec 32 := 249#32
  let v147 : BitVec 32 := Scalar.minsi v146 c249_i32_75
  let v320 : Index := Scalar.indexCast v147
  let c0_i32_83 : BitVec 32 := 0#32
  let c1_i32_85 : BitVec 32 := 1#32
  let arg24 : BitVec 32 := Scf.iv c0_i32_83 c1_i32_85 k0_t7
  let c8_i32_141 : BitVec 32 := 8#32
  let v306 : BitVec 32 := Scalar.muli arg24 c8_i32_141
  let v307 : BitVec 32 := v306
  let v321 : Index := Scalar.indexCast v307
  let c0_144 : Index := 0#32
  ![v320.toNat, v321.toNat, 0]
def k0_off76 (v146 : BitVec 32) (k0_t7 : Fin k0_t7_loop.trips) : Fin 3 → Nat :=
  let c249_i32_75 : BitVec 32 := 249#32
  let v147 : BitVec 32 := Scalar.minsi v146 c249_i32_75
  let c1_i32_76 : BitVec 32 := 1#32
  let v148 : BitVec 32 := Scalar.addi v147 c1_i32_76
  let c249_i32_77 : BitVec 32 := 249#32
  let v149 : BitVec 32 := Scalar.minsi v148 c249_i32_77
  let v326 : Index := Scalar.indexCast v149
  let c0_i32_83 : BitVec 32 := 0#32
  let c1_i32_85 : BitVec 32 := 1#32
  let arg24 : BitVec 32 := Scf.iv c0_i32_83 c1_i32_85 k0_t7
  let c8_i32_141 : BitVec 32 := 8#32
  let v306 : BitVec 32 := Scalar.muli arg24 c8_i32_141
  let v307 : BitVec 32 := v306
  let v327 : Index := Scalar.indexCast v307
  let c0_145 : Index := 0#32
  ![v326.toNat, v327.toNat, 0]

def k0_chk4 (v146 : BitVec 32) : Prop :=
  (∀ a, (k0_off72 v146) a + S1x128.size a ≤ S250x128.size a) ∧
  (∀ a, (k0_off73 v146) a + S1x128.size a ≤ S250x128.size a) ∧
  (∀ k0_t7 : Fin k0_t7_loop.trips, ∀ a, (k0_off75 v146 k0_t7) a + S1x8x128.size a ≤ S250x256x128.size a) ∧
  (∀ k0_t7 : Fin k0_t7_loop.trips, ∀ a, (k0_off76 v146 k0_t7) a + S1x8x128.size a ≤ S250x256x128.size a)
theorem k0_off72_inb : ∀ (v146 : BitVec 32) (k0_hw4 : k0_chk4 v146), ∀ a, (k0_off72 v146) a + S1x128.size a ≤ S250x128.size a := fun v146 k0_hw4 => k0_hw4.1
theorem k0_off73_inb : ∀ (v146 : BitVec 32) (k0_hw4 : k0_chk4 v146), ∀ a, (k0_off73 v146) a + S1x128.size a ≤ S250x128.size a := fun v146 k0_hw4 => k0_hw4.2.1
theorem k0_off75_inb : ∀ (v146 : BitVec 32) (k0_hw4 : k0_chk4 v146) (k0_t7 : Fin k0_t7_loop.trips), ∀ a, (k0_off75 v146 k0_t7) a + S1x8x128.size a ≤ S250x256x128.size a := fun v146 k0_hw4 k0_t7 => k0_hw4.2.2.1 k0_t7
theorem k0_off76_inb : ∀ (v146 : BitVec 32) (k0_hw4 : k0_chk4 v146) (k0_t7 : Fin k0_t7_loop.trips), ∀ a, (k0_off76 v146 k0_t7) a + S1x8x128.size a ≤ S250x256x128.size a := fun v146 k0_hw4 k0_t7 => k0_hw4.2.2.2 k0_t7

def k0_off77 (i : grid0.Coords) : Fin 1 → Nat :=
  let arg1 : BitVec 32 := BitVec.ofNat 32 (i 1).val
  let c8_i32_87 : BitVec 32 := 8#32
  let v175 : BitVec 32 := Scalar.muli arg1 c8_i32_87
  let c4_i32 : BitVec 32 := 4#32
  let v176 : BitVec 32 := Scalar.addi v175 c4_i32
  let v177 : Index := Scalar.indexCast v176
  ![v177.toNat]
def k0_off78 (v178 : BitVec 32) : Fin 2 → Nat :=
  let c249_i32_88 : BitVec 32 := 249#32
  let v179 : BitVec 32 := Scalar.minsi v178 c249_i32_88
  let v182 : Index := Scalar.indexCast v179
  let c0_91 : Index := 0#32
  ![v182.toNat, 0]

def k0_off79 (v178 : BitVec 32) : Fin 2 → Nat :=
  let c249_i32_88 : BitVec 32 := 249#32
  let v179 : BitVec 32 := Scalar.minsi v178 c249_i32_88
  let c1_i32_89 : BitVec 32 := 1#32
  let v180 : BitVec 32 := Scalar.addi v179 c1_i32_89
  let c249_i32_90 : BitVec 32 := 249#32
  let v181 : BitVec 32 := Scalar.minsi v180 c249_i32_90
  let v187 : Index := Scalar.indexCast v181
  let c0_92 : Index := 0#32
  ![v187.toNat, 0]
@[reducible] def k0_t8_loop : Scf.Loop 32 :=
  let c0_i32_96 : BitVec 32 := 0#32
  let c32_i32_97 : BitVec 32 := 32#32
  let v206 : BitVec 32 := Scalar.addi c0_i32_96 c32_i32_97
  let c1_i32_98 : BitVec 32 := 1#32
  ⟨c0_i32_96, v206, c1_i32_98⟩
def k0_mult9 (k0_t8 : Fin k0_t8_loop.trips) : BitVec 32 :=
  let c0_i32_96 : BitVec 32 := 0#32
  let c1_i32_98 : BitVec 32 := 1#32
  let arg24 : BitVec 32 := Scf.iv c0_i32_96 c1_i32_98 k0_t8
  let c8_i32_141 : BitVec 32 := 8#32
  let v306 : BitVec 32 := Scalar.muli arg24 c8_i32_141
  v306
def k0_off80 (k0_t8 : Fin k0_t8_loop.trips) : Fin 2 → Nat :=
  let c0_i32_96 : BitVec 32 := 0#32
  let c1_i32_98 : BitVec 32 := 1#32
  let arg24 : BitVec 32 := Scf.iv c0_i32_96 c1_i32_98 k0_t8
  let c8_i32_141 : BitVec 32 := 8#32
  let v306 : BitVec 32 := Scalar.muli arg24 c8_i32_141
  let v307 : BitVec 32 := v306
  let v308 : Index := Scalar.indexCast v307
  let c512_142 : Index := 512#32
  ![v308.toNat, 512]
def k0_off81 (v178 : BitVec 32) (k0_t8 : Fin k0_t8_loop.trips) : Fin 3 → Nat :=
  let c249_i32_88 : BitVec 32 := 249#32
  let v179 : BitVec 32 := Scalar.minsi v178 c249_i32_88
  let v320 : Index := Scalar.indexCast v179
  let c0_i32_96 : BitVec 32 := 0#32
  let c1_i32_98 : BitVec 32 := 1#32
  let arg24 : BitVec 32 := Scf.iv c0_i32_96 c1_i32_98 k0_t8
  let c8_i32_141 : BitVec 32 := 8#32
  let v306 : BitVec 32 := Scalar.muli arg24 c8_i32_141
  let v307 : BitVec 32 := v306
  let v321 : Index := Scalar.indexCast v307
  let c0_145 : Index := 0#32
  ![v320.toNat, v321.toNat, 0]
def k0_off82 (v178 : BitVec 32) (k0_t8 : Fin k0_t8_loop.trips) : Fin 3 → Nat :=
  let c249_i32_88 : BitVec 32 := 249#32
  let v179 : BitVec 32 := Scalar.minsi v178 c249_i32_88
  let c1_i32_89 : BitVec 32 := 1#32
  let v180 : BitVec 32 := Scalar.addi v179 c1_i32_89
  let c249_i32_90 : BitVec 32 := 249#32
  let v181 : BitVec 32 := Scalar.minsi v180 c249_i32_90
  let v326 : Index := Scalar.indexCast v181
  let c0_i32_96 : BitVec 32 := 0#32
  let c1_i32_98 : BitVec 32 := 1#32
  let arg24 : BitVec 32 := Scf.iv c0_i32_96 c1_i32_98 k0_t8
  let c8_i32_141 : BitVec 32 := 8#32
  let v306 : BitVec 32 := Scalar.muli arg24 c8_i32_141
  let v307 : BitVec 32 := v306
  let v327 : Index := Scalar.indexCast v307
  let c0_146 : Index := 0#32
  ![v326.toNat, v327.toNat, 0]

def k0_chk5 (v178 : BitVec 32) : Prop :=
  (∀ a, (k0_off78 v178) a + S1x128.size a ≤ S250x128.size a) ∧
  (∀ a, (k0_off79 v178) a + S1x128.size a ≤ S250x128.size a) ∧
  (∀ k0_t8 : Fin k0_t8_loop.trips, ∀ a, (k0_off81 v178 k0_t8) a + S1x8x128.size a ≤ S250x256x128.size a) ∧
  (∀ k0_t8 : Fin k0_t8_loop.trips, ∀ a, (k0_off82 v178 k0_t8) a + S1x8x128.size a ≤ S250x256x128.size a)
theorem k0_off78_inb : ∀ (v178 : BitVec 32) (k0_hw5 : k0_chk5 v178), ∀ a, (k0_off78 v178) a + S1x128.size a ≤ S250x128.size a := fun v178 k0_hw5 => k0_hw5.1
theorem k0_off79_inb : ∀ (v178 : BitVec 32) (k0_hw5 : k0_chk5 v178), ∀ a, (k0_off79 v178) a + S1x128.size a ≤ S250x128.size a := fun v178 k0_hw5 => k0_hw5.2.1
theorem k0_off81_inb : ∀ (v178 : BitVec 32) (k0_hw5 : k0_chk5 v178) (k0_t8 : Fin k0_t8_loop.trips), ∀ a, (k0_off81 v178 k0_t8) a + S1x8x128.size a ≤ S250x256x128.size a := fun v178 k0_hw5 k0_t8 => k0_hw5.2.2.1 k0_t8
theorem k0_off82_inb : ∀ (v178 : BitVec 32) (k0_hw5 : k0_chk5 v178) (k0_t8 : Fin k0_t8_loop.trips), ∀ a, (k0_off82 v178 k0_t8) a + S1x8x128.size a ≤ S250x256x128.size a := fun v178 k0_hw5 k0_t8 => k0_hw5.2.2.2 k0_t8

def k0_off83 (i : grid0.Coords) : Fin 1 → Nat :=
  let arg1 : BitVec 32 := BitVec.ofNat 32 (i 1).val
  let c8_i32_100 : BitVec 32 := 8#32
  let v207 : BitVec 32 := Scalar.muli arg1 c8_i32_100
  let c5_i32 : BitVec 32 := 5#32
  let v208 : BitVec 32 := Scalar.addi v207 c5_i32
  let v209 : Index := Scalar.indexCast v208
  ![v209.toNat]
def k0_off84 (v210 : BitVec 32) : Fin 2 → Nat :=
  let c249_i32_101 : BitVec 32 := 249#32
  let v211 : BitVec 32 := Scalar.minsi v210 c249_i32_101
  let v214 : Index := Scalar.indexCast v211
  let c0_104 : Index := 0#32
  ![v214.toNat, 0]

def k0_off85 (v210 : BitVec 32) : Fin 2 → Nat :=
  let c249_i32_101 : BitVec 32 := 249#32
  let v211 : BitVec 32 := Scalar.minsi v210 c249_i32_101
  let c1_i32_102 : BitVec 32 := 1#32
  let v212 : BitVec 32 := Scalar.addi v211 c1_i32_102
  let c249_i32_103 : BitVec 32 := 249#32
  let v213 : BitVec 32 := Scalar.minsi v212 c249_i32_103
  let v219 : Index := Scalar.indexCast v213
  let c0_105 : Index := 0#32
  ![v219.toNat, 0]
@[reducible] def k0_t9_loop : Scf.Loop 32 :=
  let c0_i32_109 : BitVec 32 := 0#32
  let c32_i32_110 : BitVec 32 := 32#32
  let v238 : BitVec 32 := Scalar.addi c0_i32_109 c32_i32_110
  let c1_i32_111 : BitVec 32 := 1#32
  ⟨c0_i32_109, v238, c1_i32_111⟩
def k0_mult10 (k0_t9 : Fin k0_t9_loop.trips) : BitVec 32 :=
  let c0_i32_109 : BitVec 32 := 0#32
  let c1_i32_111 : BitVec 32 := 1#32
  let arg24 : BitVec 32 := Scf.iv c0_i32_109 c1_i32_111 k0_t9
  let c8_i32_141 : BitVec 32 := 8#32
  let v306 : BitVec 32 := Scalar.muli arg24 c8_i32_141
  v306
def k0_off86 (k0_t9 : Fin k0_t9_loop.trips) : Fin 2 → Nat :=
  let c0_i32_109 : BitVec 32 := 0#32
  let c1_i32_111 : BitVec 32 := 1#32
  let arg24 : BitVec 32 := Scf.iv c0_i32_109 c1_i32_111 k0_t9
  let c8_i32_141 : BitVec 32 := 8#32
  let v306 : BitVec 32 := Scalar.muli arg24 c8_i32_141
  let v307 : BitVec 32 := v306
  let v308 : Index := Scalar.indexCast v307
  let c640 : Index := 640#32
  ![v308.toNat, 640]
def k0_off87 (v210 : BitVec 32) (k0_t9 : Fin k0_t9_loop.trips) : Fin 3 → Nat :=
  let c249_i32_101 : BitVec 32 := 249#32
  let v211 : BitVec 32 := Scalar.minsi v210 c249_i32_101
  let v320 : Index := Scalar.indexCast v211
  let c0_i32_109 : BitVec 32 := 0#32
  let c1_i32_111 : BitVec 32 := 1#32
  let arg24 : BitVec 32 := Scf.iv c0_i32_109 c1_i32_111 k0_t9
  let c8_i32_141 : BitVec 32 := 8#32
  let v306 : BitVec 32 := Scalar.muli arg24 c8_i32_141
  let v307 : BitVec 32 := v306
  let v321 : Index := Scalar.indexCast v307
  let c0_144 : Index := 0#32
  ![v320.toNat, v321.toNat, 0]
def k0_off88 (v210 : BitVec 32) (k0_t9 : Fin k0_t9_loop.trips) : Fin 3 → Nat :=
  let c249_i32_101 : BitVec 32 := 249#32
  let v211 : BitVec 32 := Scalar.minsi v210 c249_i32_101
  let c1_i32_102 : BitVec 32 := 1#32
  let v212 : BitVec 32 := Scalar.addi v211 c1_i32_102
  let c249_i32_103 : BitVec 32 := 249#32
  let v213 : BitVec 32 := Scalar.minsi v212 c249_i32_103
  let v326 : Index := Scalar.indexCast v213
  let c0_i32_109 : BitVec 32 := 0#32
  let c1_i32_111 : BitVec 32 := 1#32
  let arg24 : BitVec 32 := Scf.iv c0_i32_109 c1_i32_111 k0_t9
  let c8_i32_141 : BitVec 32 := 8#32
  let v306 : BitVec 32 := Scalar.muli arg24 c8_i32_141
  let v307 : BitVec 32 := v306
  let v327 : Index := Scalar.indexCast v307
  let c0_145 : Index := 0#32
  ![v326.toNat, v327.toNat, 0]

def k0_chk6 (v210 : BitVec 32) : Prop :=
  (∀ a, (k0_off84 v210) a + S1x128.size a ≤ S250x128.size a) ∧
  (∀ a, (k0_off85 v210) a + S1x128.size a ≤ S250x128.size a) ∧
  (∀ k0_t9 : Fin k0_t9_loop.trips, ∀ a, (k0_off87 v210 k0_t9) a + S1x8x128.size a ≤ S250x256x128.size a) ∧
  (∀ k0_t9 : Fin k0_t9_loop.trips, ∀ a, (k0_off88 v210 k0_t9) a + S1x8x128.size a ≤ S250x256x128.size a)
theorem k0_off84_inb : ∀ (v210 : BitVec 32) (k0_hw6 : k0_chk6 v210), ∀ a, (k0_off84 v210) a + S1x128.size a ≤ S250x128.size a := fun v210 k0_hw6 => k0_hw6.1
theorem k0_off85_inb : ∀ (v210 : BitVec 32) (k0_hw6 : k0_chk6 v210), ∀ a, (k0_off85 v210) a + S1x128.size a ≤ S250x128.size a := fun v210 k0_hw6 => k0_hw6.2.1
theorem k0_off87_inb : ∀ (v210 : BitVec 32) (k0_hw6 : k0_chk6 v210) (k0_t9 : Fin k0_t9_loop.trips), ∀ a, (k0_off87 v210 k0_t9) a + S1x8x128.size a ≤ S250x256x128.size a := fun v210 k0_hw6 k0_t9 => k0_hw6.2.2.1 k0_t9
theorem k0_off88_inb : ∀ (v210 : BitVec 32) (k0_hw6 : k0_chk6 v210) (k0_t9 : Fin k0_t9_loop.trips), ∀ a, (k0_off88 v210 k0_t9) a + S1x8x128.size a ≤ S250x256x128.size a := fun v210 k0_hw6 k0_t9 => k0_hw6.2.2.2 k0_t9

def k0_off89 (i : grid0.Coords) : Fin 1 → Nat :=
  let arg1 : BitVec 32 := BitVec.ofNat 32 (i 1).val
  let c8_i32_113 : BitVec 32 := 8#32
  let v239 : BitVec 32 := Scalar.muli arg1 c8_i32_113
  let c6_i32 : BitVec 32 := 6#32
  let v240 : BitVec 32 := Scalar.addi v239 c6_i32
  let v241 : Index := Scalar.indexCast v240
  ![v241.toNat]
def k0_off90 (v242 : BitVec 32) : Fin 2 → Nat :=
  let c249_i32_114 : BitVec 32 := 249#32
  let v243 : BitVec 32 := Scalar.minsi v242 c249_i32_114
  let v246 : Index := Scalar.indexCast v243
  let c0_117 : Index := 0#32
  ![v246.toNat, 0]

def k0_off91 (v242 : BitVec 32) : Fin 2 → Nat :=
  let c249_i32_114 : BitVec 32 := 249#32
  let v243 : BitVec 32 := Scalar.minsi v242 c249_i32_114
  let c1_i32_115 : BitVec 32 := 1#32
  let v244 : BitVec 32 := Scalar.addi v243 c1_i32_115
  let c249_i32_116 : BitVec 32 := 249#32
  let v245 : BitVec 32 := Scalar.minsi v244 c249_i32_116
  let v251 : Index := Scalar.indexCast v245
  let c0_118 : Index := 0#32
  ![v251.toNat, 0]
@[reducible] def k0_t10_loop : Scf.Loop 32 :=
  let c0_i32_122 : BitVec 32 := 0#32
  let c32_i32_123 : BitVec 32 := 32#32
  let v270 : BitVec 32 := Scalar.addi c0_i32_122 c32_i32_123
  let c1_i32_124 : BitVec 32 := 1#32
  ⟨c0_i32_122, v270, c1_i32_124⟩
def k0_mult11 (k0_t10 : Fin k0_t10_loop.trips) : BitVec 32 :=
  let c0_i32_122 : BitVec 32 := 0#32
  let c1_i32_124 : BitVec 32 := 1#32
  let arg24 : BitVec 32 := Scf.iv c0_i32_122 c1_i32_124 k0_t10
  let c8_i32_141 : BitVec 32 := 8#32
  let v306 : BitVec 32 := Scalar.muli arg24 c8_i32_141
  v306
def k0_off92 (k0_t10 : Fin k0_t10_loop.trips) : Fin 2 → Nat :=
  let c0_i32_122 : BitVec 32 := 0#32
  let c1_i32_124 : BitVec 32 := 1#32
  let arg24 : BitVec 32 := Scf.iv c0_i32_122 c1_i32_124 k0_t10
  let c8_i32_141 : BitVec 32 := 8#32
  let v306 : BitVec 32 := Scalar.muli arg24 c8_i32_141
  let v307 : BitVec 32 := v306
  let v308 : Index := Scalar.indexCast v307
  let c768_142 : Index := 768#32
  ![v308.toNat, 768]
def k0_off93 (v242 : BitVec 32) (k0_t10 : Fin k0_t10_loop.trips) : Fin 3 → Nat :=
  let c249_i32_114 : BitVec 32 := 249#32
  let v243 : BitVec 32 := Scalar.minsi v242 c249_i32_114
  let v320 : Index := Scalar.indexCast v243
  let c0_i32_122 : BitVec 32 := 0#32
  let c1_i32_124 : BitVec 32 := 1#32
  let arg24 : BitVec 32 := Scf.iv c0_i32_122 c1_i32_124 k0_t10
  let c8_i32_141 : BitVec 32 := 8#32
  let v306 : BitVec 32 := Scalar.muli arg24 c8_i32_141
  let v307 : BitVec 32 := v306
  let v321 : Index := Scalar.indexCast v307
  let c0_145 : Index := 0#32
  ![v320.toNat, v321.toNat, 0]
def k0_off94 (v242 : BitVec 32) (k0_t10 : Fin k0_t10_loop.trips) : Fin 3 → Nat :=
  let c249_i32_114 : BitVec 32 := 249#32
  let v243 : BitVec 32 := Scalar.minsi v242 c249_i32_114
  let c1_i32_115 : BitVec 32 := 1#32
  let v244 : BitVec 32 := Scalar.addi v243 c1_i32_115
  let c249_i32_116 : BitVec 32 := 249#32
  let v245 : BitVec 32 := Scalar.minsi v244 c249_i32_116
  let v326 : Index := Scalar.indexCast v245
  let c0_i32_122 : BitVec 32 := 0#32
  let c1_i32_124 : BitVec 32 := 1#32
  let arg24 : BitVec 32 := Scf.iv c0_i32_122 c1_i32_124 k0_t10
  let c8_i32_141 : BitVec 32 := 8#32
  let v306 : BitVec 32 := Scalar.muli arg24 c8_i32_141
  let v307 : BitVec 32 := v306
  let v327 : Index := Scalar.indexCast v307
  let c0_146 : Index := 0#32
  ![v326.toNat, v327.toNat, 0]

def k0_chk7 (v242 : BitVec 32) : Prop :=
  (∀ a, (k0_off90 v242) a + S1x128.size a ≤ S250x128.size a) ∧
  (∀ a, (k0_off91 v242) a + S1x128.size a ≤ S250x128.size a) ∧
  (∀ k0_t10 : Fin k0_t10_loop.trips, ∀ a, (k0_off93 v242 k0_t10) a + S1x8x128.size a ≤ S250x256x128.size a) ∧
  (∀ k0_t10 : Fin k0_t10_loop.trips, ∀ a, (k0_off94 v242 k0_t10) a + S1x8x128.size a ≤ S250x256x128.size a)
theorem k0_off90_inb : ∀ (v242 : BitVec 32) (k0_hw7 : k0_chk7 v242), ∀ a, (k0_off90 v242) a + S1x128.size a ≤ S250x128.size a := fun v242 k0_hw7 => k0_hw7.1
theorem k0_off91_inb : ∀ (v242 : BitVec 32) (k0_hw7 : k0_chk7 v242), ∀ a, (k0_off91 v242) a + S1x128.size a ≤ S250x128.size a := fun v242 k0_hw7 => k0_hw7.2.1
theorem k0_off93_inb : ∀ (v242 : BitVec 32) (k0_hw7 : k0_chk7 v242) (k0_t10 : Fin k0_t10_loop.trips), ∀ a, (k0_off93 v242 k0_t10) a + S1x8x128.size a ≤ S250x256x128.size a := fun v242 k0_hw7 k0_t10 => k0_hw7.2.2.1 k0_t10
theorem k0_off94_inb : ∀ (v242 : BitVec 32) (k0_hw7 : k0_chk7 v242) (k0_t10 : Fin k0_t10_loop.trips), ∀ a, (k0_off94 v242 k0_t10) a + S1x8x128.size a ≤ S250x256x128.size a := fun v242 k0_hw7 k0_t10 => k0_hw7.2.2.2 k0_t10

def k0_off95 (i : grid0.Coords) : Fin 1 → Nat :=
  let arg1 : BitVec 32 := BitVec.ofNat 32 (i 1).val
  let c8_i32_126 : BitVec 32 := 8#32
  let v271 : BitVec 32 := Scalar.muli arg1 c8_i32_126
  let c7_i32_127 : BitVec 32 := 7#32
  let v272 : BitVec 32 := Scalar.addi v271 c7_i32_127
  let v273 : Index := Scalar.indexCast v272
  ![v273.toNat]
def k0_off96 (v274 : BitVec 32) : Fin 2 → Nat :=
  let c249_i32_128 : BitVec 32 := 249#32
  let v275 : BitVec 32 := Scalar.minsi v274 c249_i32_128
  let v278 : Index := Scalar.indexCast v275
  let c0_131 : Index := 0#32
  ![v278.toNat, 0]

def k0_off97 (v274 : BitVec 32) : Fin 2 → Nat :=
  let c249_i32_128 : BitVec 32 := 249#32
  let v275 : BitVec 32 := Scalar.minsi v274 c249_i32_128
  let c1_i32_129 : BitVec 32 := 1#32
  let v276 : BitVec 32 := Scalar.addi v275 c1_i32_129
  let c249_i32_130 : BitVec 32 := 249#32
  let v277 : BitVec 32 := Scalar.minsi v276 c249_i32_130
  let v283 : Index := Scalar.indexCast v277
  let c0_132 : Index := 0#32
  ![v283.toNat, 0]
@[reducible] def k0_t11_loop : Scf.Loop 32 :=
  let c0_i32_136 : BitVec 32 := 0#32
  let c32_i32_137 : BitVec 32 := 32#32
  let v302 : BitVec 32 := Scalar.addi c0_i32_136 c32_i32_137
  let c1_i32_138 : BitVec 32 := 1#32
  ⟨c0_i32_136, v302, c1_i32_138⟩
def k0_mult12 (k0_t11 : Fin k0_t11_loop.trips) : BitVec 32 :=
  let c0_i32_136 : BitVec 32 := 0#32
  let c1_i32_138 : BitVec 32 := 1#32
  let arg24 : BitVec 32 := Scf.iv c0_i32_136 c1_i32_138 k0_t11
  let c8_i32_141 : BitVec 32 := 8#32
  let v306 : BitVec 32 := Scalar.muli arg24 c8_i32_141
  v306
def k0_off98 (k0_t11 : Fin k0_t11_loop.trips) : Fin 2 → Nat :=
  let c0_i32_136 : BitVec 32 := 0#32
  let c1_i32_138 : BitVec 32 := 1#32
  let arg24 : BitVec 32 := Scf.iv c0_i32_136 c1_i32_138 k0_t11
  let c8_i32_141 : BitVec 32 := 8#32
  let v306 : BitVec 32 := Scalar.muli arg24 c8_i32_141
  let v307 : BitVec 32 := v306
  let v308 : Index := Scalar.indexCast v307
  let c896 : Index := 896#32
  ![v308.toNat, 896]
def k0_off99 (v274 : BitVec 32) (k0_t11 : Fin k0_t11_loop.trips) : Fin 3 → Nat :=
  let c249_i32_128 : BitVec 32 := 249#32
  let v275 : BitVec 32 := Scalar.minsi v274 c249_i32_128
  let v320 : Index := Scalar.indexCast v275
  let c0_i32_136 : BitVec 32 := 0#32
  let c1_i32_138 : BitVec 32 := 1#32
  let arg24 : BitVec 32 := Scf.iv c0_i32_136 c1_i32_138 k0_t11
  let c8_i32_141 : BitVec 32 := 8#32
  let v306 : BitVec 32 := Scalar.muli arg24 c8_i32_141
  let v307 : BitVec 32 := v306
  let v321 : Index := Scalar.indexCast v307
  let c0_144 : Index := 0#32
  ![v320.toNat, v321.toNat, 0]
def k0_off100 (v274 : BitVec 32) (k0_t11 : Fin k0_t11_loop.trips) : Fin 3 → Nat :=
  let c249_i32_128 : BitVec 32 := 249#32
  let v275 : BitVec 32 := Scalar.minsi v274 c249_i32_128
  let c1_i32_129 : BitVec 32 := 1#32
  let v276 : BitVec 32 := Scalar.addi v275 c1_i32_129
  let c249_i32_130 : BitVec 32 := 249#32
  let v277 : BitVec 32 := Scalar.minsi v276 c249_i32_130
  let v326 : Index := Scalar.indexCast v277
  let c0_i32_136 : BitVec 32 := 0#32
  let c1_i32_138 : BitVec 32 := 1#32
  let arg24 : BitVec 32 := Scf.iv c0_i32_136 c1_i32_138 k0_t11
  let c8_i32_141 : BitVec 32 := 8#32
  let v306 : BitVec 32 := Scalar.muli arg24 c8_i32_141
  let v307 : BitVec 32 := v306
  let v327 : Index := Scalar.indexCast v307
  let c0_145 : Index := 0#32
  ![v326.toNat, v327.toNat, 0]

def k0_chk8 (v274 : BitVec 32) : Prop :=
  (∀ a, (k0_off96 v274) a + S1x128.size a ≤ S250x128.size a) ∧
  (∀ a, (k0_off97 v274) a + S1x128.size a ≤ S250x128.size a) ∧
  (∀ k0_t11 : Fin k0_t11_loop.trips, ∀ a, (k0_off99 v274 k0_t11) a + S1x8x128.size a ≤ S250x256x128.size a) ∧
  (∀ k0_t11 : Fin k0_t11_loop.trips, ∀ a, (k0_off100 v274 k0_t11) a + S1x8x128.size a ≤ S250x256x128.size a)
theorem k0_off96_inb : ∀ (v274 : BitVec 32) (k0_hw8 : k0_chk8 v274), ∀ a, (k0_off96 v274) a + S1x128.size a ≤ S250x128.size a := fun v274 k0_hw8 => k0_hw8.1
theorem k0_off97_inb : ∀ (v274 : BitVec 32) (k0_hw8 : k0_chk8 v274), ∀ a, (k0_off97 v274) a + S1x128.size a ≤ S250x128.size a := fun v274 k0_hw8 => k0_hw8.2.1
theorem k0_off99_inb : ∀ (v274 : BitVec 32) (k0_hw8 : k0_chk8 v274) (k0_t11 : Fin k0_t11_loop.trips), ∀ a, (k0_off99 v274 k0_t11) a + S1x8x128.size a ≤ S250x256x128.size a := fun v274 k0_hw8 k0_t11 => k0_hw8.2.2.1 k0_t11
theorem k0_off100_inb : ∀ (v274 : BitVec 32) (k0_hw8 : k0_chk8 v274) (k0_t11 : Fin k0_t11_loop.trips), ∀ a, (k0_off100 v274 k0_t11) a + S1x8x128.size a ≤ S250x256x128.size a := fun v274 k0_hw8 k0_t11 => k0_hw8.2.2.2 k0_t11

def k0_cond3 (i : grid0.Coords) : BitVec 1 :=
  let arg1 : BitVec 32 := BitVec.ofNat 32 (i 1).val
  let c148_i32 : BitVec 32 := 148#32
  let v303 : BitVec 1 := Scalar.cmpi .eq arg1 c148_i32
  let v304 : BitVec 32 := Scalar.extui v303
  let c0_i32_140 : BitVec 32 := 0#32
  let v305 : BitVec 1 := Scalar.cmpi .ne v304 c0_i32_140
  v305

def k0_mult13 (i : grid0.Coords) : BitVec 32 :=
  let arg0 : BitVec 32 := BitVec.ofNat 32 (i 0).val
  let c256_i32 : BitVec 32 := 256#32
  let v306 : BitVec 32 := Scalar.muli arg0 c256_i32
  v306
def k0_off101 (i : grid0.Coords) : Fin 3 → Nat :=
  let c0_i32_146 : BitVec 32 := 0#32
  let arg0 : BitVec 32 := BitVec.ofNat 32 (i 0).val
  let c256_i32 : BitVec 32 := 256#32
  let v306 : BitVec 32 := Scalar.muli arg0 c256_i32
  let v307 : BitVec 32 := v306
  let c0_i32_147 : BitVec 32 := 0#32
  ![0, v307.toNat, 0]
@[reducible] def k0_t12_loop : Scf.Loop 32 :=
  let c0_i32_148 : BitVec 32 := 0#32
  let c32_i32_149 : BitVec 32 := 32#32
  let v313 : BitVec 32 := Scalar.addi c0_i32_148 c32_i32_149
  let c1_i32_150 : BitVec 32 := 1#32
  ⟨c0_i32_148, v313, c1_i32_150⟩
def k0_mult14 (k0_t12 : Fin k0_t12_loop.trips) : BitVec 32 :=
  let c0_i32_148 : BitVec 32 := 0#32
  let c1_i32_150 : BitVec 32 := 1#32
  let arg24 : BitVec 32 := Scf.iv c0_i32_148 c1_i32_150 k0_t12
  let c8_i32_159 : BitVec 32 := 8#32
  let v316 : BitVec 32 := Scalar.muli arg24 c8_i32_159
  v316
def k0_off102 (k0_t12 : Fin k0_t12_loop.trips) : Fin 2 → Nat :=
  let c0_i32_148 : BitVec 32 := 0#32
  let c1_i32_150 : BitVec 32 := 1#32
  let arg24 : BitVec 32 := Scf.iv c0_i32_148 c1_i32_150 k0_t12
  let c8_i32_159 : BitVec 32 := 8#32
  let v316 : BitVec 32 := Scalar.muli arg24 c8_i32_159
  let v317 : BitVec 32 := v316
  let v318 : Index := Scalar.indexCast v317
  let c0_160 : Index := 0#32
  ![v318.toNat, 0]
@[reducible] def k0_t13_loop : Scf.Loop 32 :=
  let c0_i32_152 : BitVec 32 := 0#32
  let c50_i32 : BitVec 32 := 50#32
  let v314 : BitVec 32 := Scalar.addi c0_i32_152 c50_i32
  let c1_i32_153 : BitVec 32 := 1#32
  ⟨c0_i32_152, v314, c1_i32_153⟩
def k0_cond4 (k0_t13 : Fin k0_t13_loop.trips) : BitVec 1 :=
  let c0_i32_152 : BitVec 32 := 0#32
  let c1_i32_153 : BitVec 32 := 1#32
  let arg24 : BitVec 32 := Scf.iv c0_i32_152 c1_i32_153 k0_t13
  let c1_i32_160 : BitVec 32 := 1#32
  let v317 : BitVec 32 := Scalar.addi arg24 c1_i32_160
  let c50_i32_161 : BitVec 32 := 50#32
  let v318 : BitVec 1 := Scalar.cmpi .slt v317 c50_i32_161
  let v319 : BitVec 32 := Scalar.extui v318
  let c0_i32_162 : BitVec 32 := 0#32
  let v320 : BitVec 1 := Scalar.cmpi .ne v319 c0_i32_162
  v320

def k0_mult15 (i : grid0.Coords) : BitVec 32 :=
  let arg0 : BitVec 32 := BitVec.ofNat 32 (i 0).val
  let c256_i32_176 : BitVec 32 := 256#32
  let v333 : BitVec 32 := Scalar.muli arg0 c256_i32_176
  v333
def k0_off103 (k0_t13 : Fin k0_t13_loop.trips) : Fin 1 → Nat :=
  let c1_i32_174 : BitVec 32 := 1#32
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v331 : BitVec 32 := Scalar.subi c1_i32_174 v316
  ![v331.toNat]
def k0_off104 (k0_t13 : Fin k0_t13_loop.trips) : Fin 4 → Nat :=
  let c1_i32_174 : BitVec 32 := 1#32
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v331 : BitVec 32 := Scalar.subi c1_i32_174 v316
  let c0_i32_177 : BitVec 32 := 0#32
  let c0_i32_178 : BitVec 32 := 0#32
  let c0_i32_179 : BitVec 32 := 0#32
  ![v331.toNat, 0, 0, 0]
def k0_off105 (i : grid0.Coords) (k0_t13 : Fin k0_t13_loop.trips) : Fin 3 → Nat :=
  let c0_i32_152 : BitVec 32 := 0#32
  let c1_i32_153 : BitVec 32 := 1#32
  let arg24 : BitVec 32 := Scf.iv c0_i32_152 c1_i32_153 k0_t13
  let c1_i32_173 : BitVec 32 := 1#32
  let v330 : BitVec 32 := Scalar.addi arg24 c1_i32_173
  let c5_i32_175 : BitVec 32 := 5#32
  let v332 : BitVec 32 := Scalar.muli v330 c5_i32_175
  let arg0 : BitVec 32 := BitVec.ofNat 32 (i 0).val
  let c256_i32_176 : BitVec 32 := 256#32
  let v333 : BitVec 32 := Scalar.muli arg0 c256_i32_176
  let v334 : BitVec 32 := v333
  let c0_i32_180 : BitVec 32 := 0#32
  ![v332.toNat, v334.toNat, 0]
def k0_mult16 (i : grid0.Coords) : BitVec 32 :=
  let arg0 : BitVec 32 := BitVec.ofNat 32 (i 0).val
  let c256_i32_164 : BitVec 32 := 256#32
  let v322 : BitVec 32 := Scalar.muli arg0 c256_i32_164
  v322
def k0_off106 (k0_t13 : Fin k0_t13_loop.trips) : Fin 1 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  ![v316.toNat]
def k0_off107 (k0_t13 : Fin k0_t13_loop.trips) : Fin 4 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let c0_i32_165 : BitVec 32 := 0#32
  let c0_i32_166 : BitVec 32 := 0#32
  let c0_i32_167 : BitVec 32 := 0#32
  ![v316.toNat, 0, 0, 0]
def k0_off108 (i : grid0.Coords) (k0_t13 : Fin k0_t13_loop.trips) : Fin 3 → Nat :=
  let c0_i32_152 : BitVec 32 := 0#32
  let c1_i32_153 : BitVec 32 := 1#32
  let arg24 : BitVec 32 := Scf.iv c0_i32_152 c1_i32_153 k0_t13
  let c5_i32_163 : BitVec 32 := 5#32
  let v321 : BitVec 32 := Scalar.muli arg24 c5_i32_163
  let arg0 : BitVec 32 := BitVec.ofNat 32 (i 0).val
  let c256_i32_164 : BitVec 32 := 256#32
  let v322 : BitVec 32 := Scalar.muli arg0 c256_i32_164
  let v323 : BitVec 32 := v322
  let c0_i32_168 : BitVec 32 := 0#32
  ![v321.toNat, v323.toNat, 0]
@[reducible] def k0_t14_loop : Scf.Loop 32 :=
  let c0_i32_169 : BitVec 32 := 0#32
  let c32_i32_170 : BitVec 32 := 32#32
  let v329 : BitVec 32 := Scalar.addi c0_i32_169 c32_i32_170
  let c1_i32_171 : BitVec 32 := 1#32
  ⟨c0_i32_169, v329, c1_i32_171⟩
def k0_mult17 (k0_t14 : Fin k0_t14_loop.trips) : BitVec 32 :=
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  v330
def k0_off109 (k0_t14 : Fin k0_t14_loop.trips) : Fin 2 → Nat :=
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v332 : Index := Scalar.indexCast v331
  let c0_174 : Index := 0#32
  ![v332.toNat, 0]
def k0_off110 (k0_t13 : Fin k0_t13_loop.trips) (k0_t14 : Fin k0_t14_loop.trips) (c0_i32_180 : BitVec 32) : Fin 3 → Nat :=
  let c0_i32_152 : BitVec 32 := 0#32
  let c1_i32_153 : BitVec 32 := 1#32
  let arg24 : BitVec 32 := Scf.iv c0_i32_152 c1_i32_153 k0_t13
  let c5_i32_179 : BitVec 32 := 5#32
  let v349 : BitVec 32 := Scalar.muli arg24 c5_i32_179
  let v350 : BitVec 32 := Scalar.addi v349 c0_i32_180
  let v351 : Index := Scalar.indexCast v350
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v352 : Index := Scalar.indexCast v331
  let c0_181 : Index := 0#32
  ![v351.toNat, v352.toNat, 0]
def k0_off111 (k0_t13 : Fin k0_t13_loop.trips) (k0_t14 : Fin k0_t14_loop.trips) : Fin 4 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v357 : Index := Scalar.indexCast v316
  let c0_182 : Index := 0#32
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v358 : Index := Scalar.indexCast v331
  let c0_183 : Index := 0#32
  ![v357.toNat, 0, v358.toNat, 0]
def k0_off112 (k0_t13 : Fin k0_t13_loop.trips) (k0_t14 : Fin k0_t14_loop.trips) : Fin 4 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v379 : Index := Scalar.indexCast v316
  let c1 : Index := 1#32
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v380 : Index := Scalar.indexCast v331
  let c0_189 : Index := 0#32
  ![v379.toNat, 1, v380.toNat, 0]
def k0_off113 (k0_t13 : Fin k0_t13_loop.trips) (k0_t14 : Fin k0_t14_loop.trips) : Fin 4 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v401 : Index := Scalar.indexCast v316
  let c2 : Index := 2#32
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v402 : Index := Scalar.indexCast v331
  let c0_194 : Index := 0#32
  ![v401.toNat, 2, v402.toNat, 0]
def k0_off114 (k0_t13 : Fin k0_t13_loop.trips) (k0_t14 : Fin k0_t14_loop.trips) : Fin 4 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v423 : Index := Scalar.indexCast v316
  let c3 : Index := 3#32
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v424 : Index := Scalar.indexCast v331
  let c0_200 : Index := 0#32
  ![v423.toNat, 3, v424.toNat, 0]
def k0_off115 (k0_t13 : Fin k0_t13_loop.trips) (k0_t14 : Fin k0_t14_loop.trips) : Fin 4 → Nat :=
  let c0_i32_152 : BitVec 32 := 0#32
  let c1_i32_153 : BitVec 32 := 1#32
  let arg24 : BitVec 32 := Scf.iv c0_i32_152 c1_i32_153 k0_t13
  let c2_i32_159 : BitVec 32 := 2#32
  let v316 : BitVec 32 := Scalar.remsi arg24 c2_i32_159
  let v445 : Index := Scalar.indexCast v316
  let c4 : Index := 4#32
  let c0_i32_169 : BitVec 32 := 0#32
  let c1_i32_171 : BitVec 32 := 1#32
  let arg25 : BitVec 32 := Scf.iv c0_i32_169 c1_i32_171 k0_t14
  let c8_i32_173 : BitVec 32 := 8#32
  let v330 : BitVec 32 := Scalar.muli arg25 c8_i32_173
  let v331 : BitVec 32 := v330
  let v446 : Index := Scalar.indexCast v331
  let c0_205 : Index := 0#32
  ![v445.toNat, 4, v446.toNat, 0]
@[reducible] def k0_t15_loop : Scf.Loop 32 :=
  let c0_i32_155 : BitVec 32 := 0#32
  let c32_i32_156 : BitVec 32 := 32#32
  let v315 : BitVec 32 := Scalar.addi c0_i32_155 c32_i32_156
  let c1_i32_157 : BitVec 32 := 1#32
  ⟨c0_i32_155, v315, c1_i32_157⟩
def k0_mult18 (k0_t15 : Fin k0_t15_loop.trips) : BitVec 32 :=
  let c0_i32_155 : BitVec 32 := 0#32
  let c1_i32_157 : BitVec 32 := 1#32
  let arg24 : BitVec 32 := Scf.iv c0_i32_155 c1_i32_157 k0_t15
  let c8_i32_159 : BitVec 32 := 8#32
  let v316 : BitVec 32 := Scalar.muli arg24 c8_i32_159
  v316
def k0_off116 (k0_t15 : Fin k0_t15_loop.trips) : Fin 2 → Nat :=
  let c0_i32_155 : BitVec 32 := 0#32
  let c1_i32_157 : BitVec 32 := 1#32
  let arg24 : BitVec 32 := Scf.iv c0_i32_155 c1_i32_157 k0_t15
  let c8_i32_159 : BitVec 32 := 8#32
  let v316 : BitVec 32 := Scalar.muli arg24 c8_i32_159
  let v317 : BitVec 32 := v316
  let v318 : Index := Scalar.indexCast v317
  let c0_160 : Index := 0#32
  ![v318.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S768x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S250x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== TargetIdeal.lean ====
variable {F : FTy → Type} [FloatOps F] [Named F]
def κ : String → Option EReal := fun
  | "z_gain" => some ((10 / 7 : ℝ) : EReal)
  | _ => none
-- ==== TargetRefIdeal.lean ====
variable {F : FTy → Type} [FloatOps F] [Named F]
def κ : String → Option EReal := fun
  | "temp" => some ((7 / 10 : ℝ) : EReal)
  | _ => none
-- ==== TargetRef.lean ====
abbrev S96x8x2048 : Shape := ⟨3, ![96, 8, 2048]⟩
abbrev S96x8x64 : Shape := ⟨3, ![96, 8, 64]⟩
abbrev S2048x151936 : Shape := ⟨2, ![2048, 151936]⟩
abbrev S64x151936 : Shape := ⟨2, ![64, 151936]⟩
abbrev S32000 : Shape := ⟨1, ![32000]⟩
abbrev S96x7 : Shape := ⟨2, ![96, 7]⟩
abbrev S768x128 : Shape := ⟨2, ![768, 128]⟩
abbrev S250x768x128 : Shape := ⟨3, ![250, 768, 128]⟩
abbrev S96x8x151936 : Shape := ⟨3, ![96, 8, 151936]⟩
abbrev S96x8x64x32 : Shape := ⟨4, ![96, 8, 64, 32]⟩
abbrev S96x8x64x1 : Shape := ⟨4, ![96, 8, 64, 1]⟩
abbrev S768x2048 : Shape := ⟨2, ![768, 2048]⟩
abbrev S64x32x151936 : Shape := ⟨3, ![64, 32, 151936]⟩
abbrev S64x1x151936 : Shape := ⟨3, ![64, 1, 151936]⟩
abbrev S768x151936 : Shape := ⟨2, ![768, 151936]⟩

abbrev nBuf : Space → Nat
  | .hbm => 9
  | .vmem => 5
  | .smem => 0
  | _ => 0

abbrev bufTy : (tb : Table) → Fin (tcTables nBuf tb) → BufTy
  | .hbm, ⟨0, _⟩ => ⟨S96x8x2048, .fp8e4m3⟩
  | .hbm, ⟨1, _⟩ => ⟨S96x8x64, .i8⟩
  | .hbm, ⟨2, _⟩ => ⟨S2048x151936, .fp8e4m3⟩
  | .hbm, ⟨3, _⟩ => ⟨S64x151936, .i8⟩
  | .hbm, ⟨4, _⟩ => ⟨S32000, .i32⟩
  | .hbm, ⟨5, _⟩ => ⟨S96x7, .i32⟩
  | .hbm, ⟨6, _⟩ => ⟨S768x128, .f32⟩
  | .hbm, ⟨7, _⟩ => ⟨S250x768x128, .f32⟩
  | .hbm, ⟨8, _⟩ => ⟨S96x8x151936, .bf16⟩
  | .local _ .vmem, ⟨0, _⟩ => ⟨S96x8x2048, .fp8e4m3⟩
  | .local _ .vmem, ⟨1, _⟩ => ⟨S96x8x64, .i8⟩
  | .local _ .vmem, ⟨2, _⟩ => ⟨S2048x151936, .fp8e4m3⟩
  | .local _ .vmem, ⟨3, _⟩ => ⟨S64x151936, .i8⟩
  | .local _ .vmem, ⟨4, _⟩ => ⟨S96x8x151936, .bf16⟩
  | _, _ => ⟨S96x8x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x8x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x8x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x151936 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x151936 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x8x151936 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.DraftLoops.lean ====
/- The counted loops of the draft head by their invariants. -/
module

public import proofs.«01_k».proof.Proof.Gen.Draft.Loops

@[expose] public section

set_option maxRecDepth 16384

noncomputable section

namespace Cert.Draft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option warn.classDefReducibility false in
/-- The loop over groups of 32 rows of weights. -/
@[sl_loop] def loopInv_k0_t2 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole)  (X12 : BufTy.Contents (Elt F) arg12.view.ty) (X3 : BufTy.Contents (Elt F) arg3.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15  where
  inv k _ := iprop((arg12.view.loc (c : Thread nD τ) ↦[arg12.view.set]{fullShare} X12) ∗ (arg3.view.loc (c : Thread nD τ) ↦[arg3.view.set]{fullShare} X3) ∗ (∃ f, (arg11.view.loc (c : Thread nD τ) ↦[arg11.view.set]{fullShare} f)))
  step k acc := by
    iintro ⟨H12, H3, ⟨%f11, H11⟩⟩
    unfold k0_t2_body
    sl_exec
    sl_step
    isplitl [H12]
    · iexact H12
    isplitl [H3]
    · iexact H3
    · iexists _; iexact H11

set_option warn.classDefReducibility false in
/-- The loop over blocks of 32 rows of hidden states. -/
@[sl_loop] def loopInv_k0_t1 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (k0_h1 : k0_cond1 i = 1#1) (v76 : IVec S32x128 32) (X1 : BufTy.Contents (Elt F) arg1.view.ty) (X2 : BufTy.Contents (Elt F) arg2.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v76 where
  inv k _ := iprop((arg1.view.loc (c : Thread nD τ) ↦[arg1.view.set]{fullShare} X1) ∗ (arg2.view.loc (c : Thread nD τ) ↦[arg2.view.set]{fullShare} X2) ∗ (∃ f, (arg10.view.loc (c : Thread nD τ) ↦[arg10.view.set]{fullShare} f)))
  step k acc := by
    iintro ⟨H1, H2, ⟨%f10, H10⟩⟩
    unfold k0_t1_body
    sl_exec
    sl_step
    isplitl [H1]
    · iexact H1
    isplitl [H2]
    · iexact H2
    · iexists _; iexact H10

set_option warn.classDefReducibility false in
/-- The loop over batches. -/
@[sl_loop] def loopInv_k0_t3 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (arg0 : BitVec 32) (v71 : IVec S8x128 32) (X5 : BufTy.Contents (Elt F) arg5.view.ty) (X13 : BufTy.Contents (Elt F) arg13.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v71 where
  inv k _ := iprop((arg5.view.loc (c : Thread nD τ) ↦[arg5.view.set]{fullShare} X5) ∗ (arg13.view.loc (c : Thread nD τ) ↦[arg13.view.set]{fullShare} X13) ∗ (∃ f, (arg6.view.loc (c : Thread nD τ) ↦[arg6.view.set]{fullShare} f)) ∗ (∃ f, (arg7.view.loc (c : Thread nD τ) ↦[arg7.view.set]{fullShare} f)) ∗ (∃ f, (arg9.view.loc (c : Thread nD τ) ↦[arg9.view.set]{fullShare} f)) ∗ (∃ f, (arg14.view.loc (c : Thread nD τ) ↦[arg14.view.set]{fullShare} f)) ∗ (∃ f, (arg15.view.loc (c : Thread nD τ) ↦[arg15.view.set]{fullShare} f)))
  step k acc := by
    iintro ⟨H5, H13, ⟨%f6, H6⟩, ⟨%f7, H7⟩, ⟨%f9, H9⟩, ⟨%f14, H14⟩, ⟨%f15, H15⟩⟩
    unfold k0_t3_body
    sl_exec
    sl_step
    isplitl [H5]
    · iexact H5
    isplitl [H13]
    · iexact H13
    isplitl [H6]
    · iexists _; iexact H6
    isplitl [H7]
    · iexists _; iexact H7
    isplitl [H9]
    · iexists _; iexact H9
    isplitl [H14]
    · iexists _; iexact H14
    · iexists _; iexact H15

set_option warn.classDefReducibility false in
/-- The loop over the rows of the last grid point. -/
@[sl_loop] def loopInv_k0_t4 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (k0_h2 : k0_cond2 i = 1#1) (X14 : BufTy.Contents (Elt F) arg14.view.ty) (X15 : BufTy.Contents (Elt F) arg15.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 where
  inv k _ := iprop((arg14.view.loc (c : Thread nD τ) ↦[arg14.view.set]{fullShare} X14) ∗ (arg15.view.loc (c : Thread nD τ) ↦[arg15.view.set]{fullShare} X15) ∗ (∃ f, (arg8.view.loc (c : Thread nD τ) ↦[arg8.view.set]{fullShare} f)) ∗ (∃ f, (arg9.view.loc (c : Thread nD τ) ↦[arg9.view.set]{fullShare} f)))
  step k acc := by
    iintro ⟨H14, H15, ⟨%f8, H8⟩, ⟨%f9, H9⟩⟩
    unfold k0_t4_body
    sl_exec
    sl_step
    isplitl [H14]
    · iexact H14
    isplitl [H15]
    · iexact H15
    isplitl [H8]
    · iexists _; iexact H8
    · iexists _; iexact H9

end Cert.Draft.Gen

end
-- ==== Proof.DraftBody.lean ====
/- The run of one grid point of the draft head. -/
module

public import proofs.«01_k».proof.Proof.DraftLoops

@[expose] public section

set_option maxRecDepth 16384

noncomputable section

namespace Cert.Draft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The run of one grid point: the inputs are left as they were. -/
theorem body_run (c : Dev nD) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (E : Set ℕ) (K : PUnit → sProp (MT nD τ sig Unit (Elt F) ℕ (UR sig nD τ) ℕ)) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) -∗ K PUnit.unit))
      ⊢ wp frame (wpE (defs₀ (F := F)) Variants.none (c : Thread nD τ) none) E (cc0_draft_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_draft_head_eq_skeleton]
  by_cases hc1 : k0_cond1 i = 1#1 <;> by_cases hc2 : k0_cond2 i = 1#1
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    · iexists _; iexact H15
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    · iexists _; iexact H15
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    · iexists _; iexact H15
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    · iexists _; iexact H15

end Cert.Draft.Gen

end
-- ==== Proof.DraftFrame.lean ====
/- The launch of the draft head: the blocks its windows hold, what a grid point is given and leaves, and the run of the whole program. -/
module

public import proofs.«01_k».proof.Proof.DraftBody
public import proofs.«01_k».proof.Proof.Gen.Draft.Launch
public import Idealize.ShloMosaic.Lib.Pipeline.FrameBody
public import Idealize.ShloMosaic.Lib.WordCmp
public import Idealize.ShloMosaic.Lib.Claim

@[expose] public section

set_option maxRecDepth 16384

noncomputable section

namespace Cert.Draft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input window 0 holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of input window 3 holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of input window 4 holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- Each window's current staging memref at point `t`, spelled as the pipeline passes it (`bodyAt0`), and its wholeness. -/
abbrev ms0_0 (t : Fin cfg0.N) : Memref sig .tc .vmem S672x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S672x64 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1280 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x7x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10x768x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S672x2048 .bf16 := Memref.whole cc0_scratch0
abbrev scM0_1 : Memref sig .tc .vmem S2048x1280 .bf16 := Memref.whole cc0_scratch1
abbrev scM0_2 : Memref sig .tc .vmem S64x1280 .i32 := Memref.whole cc0_scratch2
abbrev scM0_3 : Memref sig .tc .vmem S10x680x128 .f32 := Memref.whole cc0_scratch3
abbrev scM0_4 : Memref sig .tc .vmem S768x128 .f32 := Memref.whole cc0_scratch4
abbrev scM0_5 : Memref sig .tc .vmem S768x128 .f32 := Memref.whole cc0_scratch5
/-- What the launch hands the first point: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel body at point `t`, on what the pipeline calls it with (`defs₀`'s row at the slots). -/
abbrev bodyAt0 (t : Fin cfg0.N) : Prog (TpuEff nD τ sig (Elt F) Λ₀ .tc) PUnit :=
  cc0_draft_head (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-- What is held before point `n`: the scratch buffers at some contents, and the generator register. -/
def PhiS (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

/-- The outputs of which nothing is said. -/
def fgt : Fin cfg0.W → Bool := fun w => match w with
  | ⟨0, _⟩ => false | ⟨1, _⟩ => false | ⟨2, _⟩ => false | ⟨3, _⟩ => false | ⟨4, _⟩ => false
  | ⟨5, _⟩ => true | ⟨6, _⟩ => true | ⟨7, _⟩ => true | ⟨8, _⟩ => true

/-- The proof data: the arrays as the region finds them, the inputs' blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (cfg0.win 5).stage (cfg0.slots t 5) |>.view.read (Elt F) ((cfg0.win 5).stage (cfg0.slots t 5)).view.junk
    | ⟨6, _⟩ => (cfg0.win 6).stage (cfg0.slots t 6) |>.view.read (Elt F) ((cfg0.win 6).stage (cfg0.slots t 6)).view.junk
    | ⟨7, _⟩ => (cfg0.win 7).stage (cfg0.slots t 7) |>.view.read (Elt F) ((cfg0.win 7).stage (cfg0.slots t 7)).view.junk
    | ⟨8, _⟩ => (cfg0.win 8).stage (cfg0.slots t 8) |>.view.read (Elt F) ((cfg0.win 8).stage (cfg0.slots t 8)).view.junk
  Φ t := PhiS c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, and what it leaves. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ X, owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (∃ X, owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).owesAt () t.succ = (dats m 0 c).owesAt () t.castSucc from rfl]
  rw [show (dats m 0 c).Φ t.castSucc = PhiS c t.val from rfl, show (dats m 0 c).Φ t.succ = PhiS c (t.val + 1) from rfl]
  unfold PhiS owns
  iintro ⟨⟨⟨⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩⟩, Hg⟩, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) f1 f2 f3 f4 f5 Set.univ _
  isplitl [H1]
  · iexact H1
  isplitl [H2]
  · iexact H2
  isplitl [H3]
  · iexact H3
  isplitl [H4]
  · iexact H4
  isplitl [H5]
  · iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  · iintro ⟨H1, H2, H3, H4, H5, ⟨%u6, H6⟩, ⟨%u7, H7⟩, ⟨%u8, H8⟩, ⟨%u9, H9⟩, ⟨%u10, H10⟩, ⟨%u11, H11⟩, ⟨%u12, H12⟩, ⟨%u13, H13⟩, ⟨%u14, H14⟩, ⟨%u15, H15⟩⟩
    isplitl [H10 H11 H12 H13 H14 H15 Hg]
    · isplitl [H10 H11 H12 H13 H14 H15]
      · isplitl [H10]
        · iexists _; iexists _; isplitr
          swap; · iexact H10
          ipureintro; rfl
        isplitl [H11]
        · iexists _; iexists _; isplitr
          swap; · iexact H11
          ipureintro; rfl
        isplitl [H12]
        · iexists _; iexists _; isplitr
          swap; · iexact H12
          ipureintro; rfl
        isplitl [H13]
        · iexists _; iexists _; isplitr
          swap; · iexact H13
          ipureintro; rfl
        isplitl [H14]
        · iexists _; iexists _; isplitr
          swap; · iexact H14
          ipureintro; rfl
        · iexists _; iexists _; isplitr
          swap; · iexact H15
          ipureintro; rfl
      · iexact Hg
    isplitl [Ho]
    · iexact Ho
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    · iexists _; iexists _; isplitr
      swap; · iexact H9
      ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats m 0 c) (defs₀ (F := F)) Variants.none () Set.univ fgt := fun t => by
  rw [bigSep_W0, bigSep_W0, defs₀_row]
  exact sound_body m c t

theorem hin (c : Dev nD) : Pipeline.ΦA spec0 c ⊢ (dats m 0 c).Φ 0 := by
  rw [show (dats m 0 c).Φ 0 = PhiS c 0 from rfl, PhiA0_eq]
  unfold PhiS
  exact .rfl

theorem hout (c : Dev nD) : (dats m 0 c).Φ (Fin.last cfg0.N) ⊢ Pipeline.ΦA spec0 c := by
  rw [show (dats m 0 c).Φ (Fin.last cfg0.N) = PhiS c cfg0.N from rfl, PhiA0_eq]
  unfold PhiS
  exact .rfl

set_option backward.isDefEq.respectTransparency.types false in
/-- The run of the whole program. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hin := hin m) (hout := hout m)
    (hQ' := fun _ h => h)

/-- The arguments after the run. -/
theorem kept (r : PUnit × MemSt nD τ sig (Elt F)) (h : Pipeline.RDat.FramePost cfg0 (fun c => (dats m 0 c).toRForget fgt) (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main m ρ)

end Cert.Draft.Gen

end
-- ==== Proof.Scale.lean ====
/- A scale byte `b` of the block format stands for the power of two `2 ^ (b - 127)`, and for infinity at 255.
   Three spellings of that value are shown to agree: the byte shifted into the exponent of an f32 word (the rows), the byte
   shifted into the exponent of a bf16 half word (the columns), and the power computed by the reference. -/
module

public import Idealize.ShloMosaic.Lib.ValueIdx
public import Idealize.ShloMosaic.Lib.BitcastPair
public import Idealize.ShloMosaic.PureOps.Ideal

@[expose] public section

noncomputable section

namespace Cert.Proof

open Idealize.ShloMosaic

/-- What a scale byte stands for. -/
def decode (b : BitVec 8) : EReal :=
  if b.toNat = 255 then ⊤ else (((2 : ℝ) ^ ((b.toNat : ℤ) - 127) : ℝ) : EReal)

/-- The f32 word of a row scale: the byte in the exponent field, at least half the least normal number. -/
def rowWord (b : BitVec 8) : BitVec 32 :=
  IntOp.maxsi (IntOp.shli .vector (b.setWidth 32) 23#32) 4194304#32

/-- The word of a column scale: the same bf16 half word twice. -/
def colWord (b : BitVec 8) : BitVec 32 :=
  IntOp.ori (IntOp.maxsi (IntOp.shli .vector (b.setWidth 32) 7#32) 64#32)
    (IntOp.shli .vector (IntOp.maxsi (IntOp.shli .vector (b.setWidth 32) 7#32) 64#32) 16#32)

/-- The bf16 half word of a column scale. -/
def colHalf (b : BitVec 8) : BitVec 16 := (colWord b).extractLsb' 0 16

theorem rowWord_fields : ∀ b : BitVec 8, (rowWord b).extractLsb' 31 1 = 0#1 ∧ ((rowWord b).extractLsb' 23 8).toNat = b.toNat
    ∧ ((rowWord b).extractLsb' 0 23).toNat = if b.toNat = 0 then 2 ^ 22 else 0 := by decide +kernel

theorem colHalf_fields : ∀ b : BitVec 8, (colHalf b).extractLsb' 15 1 = 0#1 ∧ ((colHalf b).extractLsb' 7 8).toNat = b.toNat
    ∧ ((colHalf b).extractLsb' 0 7).toNat = if b.toNat = 0 then 2 ^ 6 else 0 := by decide +kernel

theorem colWord_hi : ∀ b : BitVec 8, (colWord b).extractLsb' 16 16 = colHalf b := by decide +kernel

/-- A number with an 8-bit exponent field `n`, sign 0, and significand half the leading bit at `n = 0` and zero elsewhere. -/
theorem pow_of_fields (n m : ℕ) (hm : 0 < m) (hn : n < 256) :
    (if n = 2 ^ 8 - 1 then (if (if n = 0 then 2 ^ (m - 1) else 0) = 0 then (⊤ : EReal) else ⊥)
      else if n = 0 then (((1 : ℝ) * ((if n = 0 then 2 ^ (m - 1) else 0 : ℕ) : ℝ) * (2 : ℝ) ^ (1 - (2 ^ (8 - 1) - 1) - (m : ℤ) : ℤ) : ℝ) : EReal)
      else (((1 : ℝ) * ((2 ^ m + (if n = 0 then 2 ^ (m - 1) else 0) : ℕ) : ℝ) * (2 : ℝ) ^ ((n : ℤ) - (2 ^ (8 - 1) - 1) - (m : ℤ)) : ℝ) : EReal))
      = if n = 255 then ⊤ else (((2 : ℝ) ^ ((n : ℤ) - 127) : ℝ) : EReal) := by
  by_cases h255 : n = 255
  · subst h255; simp
  · rw [if_neg (by simpa using h255), if_neg h255]
    by_cases h0 : n = 0
    · subst h0
      simp only [if_true]
      congr 1
      obtain ⟨k, rfl⟩ : ∃ k, m = k + 1 := ⟨m - 1, by omega⟩
      have e : (1 - (2 ^ (8 - 1) - 1) - ((k + 1 : ℕ) : ℤ) : ℤ) = -127 + -(k : ℤ) := by push_cast; ring
      rw [e, zpow_add₀ (by norm_num : (2 : ℝ) ≠ 0), zpow_neg _ (k : ℤ), zpow_natCast]
      have : (2 : ℝ) ^ k ≠ 0 := by positivity
      simp only [Nat.add_sub_cancel]
      push_cast
      field_simp
    · simp only [if_neg h0]
      congr 1
      have e : ((n : ℤ) - (2 ^ (8 - 1) - 1) - (m : ℤ) : ℤ) = ((n : ℤ) - 127) + -(m : ℤ) := by ring
      rw [e, zpow_add₀ (by norm_num : (2 : ℝ) ≠ 0), zpow_neg, zpow_natCast]
      have : (2 : ℝ) ^ m ≠ 0 := by positivity
      push_cast
      field_simp
      simp

/-- The row word is the byte's value. -/
theorem ofBits_rowWord (b : BitVec 8) : Ideal.ofBits .f32 (rowWord b) = decode b := by
  obtain ⟨h1, h2, h3⟩ := rowWord_fields b
  have := pow_of_fields b.toNat 23 (by norm_num) b.isLt
  rw [decode, ← this]
  show Ideal.ieee 8 23 (rowWord b) = _
  unfold Ideal.ieee
  simp only [show (8 + 23 : ℕ) = 31 from rfl, h1, h2, h3]
  rfl

/-- Each half of the column word is the byte's value. -/
theorem ofBits_colHalf (b : BitVec 8) : Ideal.ofBits .bf16 (colHalf b) = decode b := by
  obtain ⟨h1, h2, h3⟩ := colHalf_fields b
  have := pow_of_fields b.toNat 7 (by norm_num) b.isLt
  rw [decode, ← this]
  show Ideal.ieee 8 7 (colHalf b) = _
  unfold Ideal.ieee
  simp only [show (8 + 7 : ℕ) = 15 from rfl, h1, h2, h3]
  rfl

theorem refWord_fields : ∀ b : BitVec 8, IntOp.cmpi .eq (b.setWidth 32) 255#32 = (if b.toNat = 255 then 1#1 else 0#1)
    ∧ (IntOp.subi (b.setWidth 32) 127#32).toInt = (b.toNat : ℤ) - 127 := by decide +kernel

/-- The reference's power is the byte's value. -/
theorem refScale (b : BitVec 8) :
    Scalar.select (IntOp.cmpi .eq (b.setWidth 32) 255#32) (Ideal.ofBits .f32 0x7F800000#32)
      (Ideal.exp2 ((((IntOp.subi (b.setWidth 32) 127#32).toInt : ℝ)) : EReal)) = decode b := by
  obtain ⟨h1, h2⟩ := refWord_fields b
  rw [h1, h2, decode]
  by_cases h : b.toNat = 255
  · rw [if_pos h, if_pos h]
    show Ideal.ofBits .f32 0x7F800000#32 = ⊤
    simp [Ideal.ofBits, Ideal.ieee]
  · rw [if_neg h, if_neg h]
    rw [Ideal.exp2_coe]
    rw [show ∀ a c : EReal, Scalar.select (0#1) a c = c from fun _ _ => rfl]
    congr 1
    exact Real.rpow_intCast 2 _

/-- Both halves of a word read as bf16. -/
theorem bitcast_pair {s t : Shape} (x : s.Idx → BitVec 32) (h : s.Bitcasts 32 t 16) (j : t.Idx) (b : BitVec 8) (i : s.Idx)
    (hi : ∀ p hp, p = t.row j / 2 → h.srcIdx j p hp = i) (hx : x i = colWord b) :
    bitcast t 16 x h j = colHalf b := by
  apply BitVec.eq_of_getLsbD_eq
  intro q hq
  rw [bitcast_getLsbD x h j q hq (by norm_num), hi _ _ (by omega), hx]
  have hq' : (t.row j * 16 + q) % 32 = q ∨ (t.row j * 16 + q) % 32 = 16 + q := by omega
  rcases hq' with e | e
  · rw [e, colHalf, BitVec.getLsbD_extractLsb']; simp [hq]
  · rw [e, ← colWord_hi, BitVec.getLsbD_extractLsb']; simp [hq]

end Cert.Proof

end
-- ==== Proof.Payload.lean ====
/- The stored vectors of the two heads, read at an index: a 32 x 128 chunk of rows times its scales, a group of 32 rows of weights
   times its scale row. Stated over the operations alone, so that both heads use them. -/
module

public import proofs.«01_k».proof.Proof.Scale
public import Idealize.ShloMosaic.Lib.Pointwise
public import Idealize.ShloMosaic.Lib.Pipeline.Value

@[expose] public section

set_option maxRecDepth 16384

noncomputable section

namespace Cert.Proof

open Idealize.ShloMosaic

abbrev T32x128 : Shape := ⟨2, ![32, 128]⟩
abbrev T32x64 : Shape := ⟨2, ![32, 64]⟩
abbrev T32x128x1 : Shape := ⟨3, ![32, 128, 1]⟩

/-- The lane's group, plus `o`: `lane // 32 + o`, wrapped as an index. -/
def laneIdx (o : BitVec 32) (v76 : IVec T32x128 32) : IVec T32x128 32 :=
  have v151 : IVec T32x128 32 := broadcast T32x128 32#32
  have v152 : IVec T32x128 32 := divsi v76 v151
  have v153 : IVec T32x128 32 := broadcast T32x128 0#32
  have v154 : IVec T32x128 1 := cmpi .sgt v76 v153
  have v155 : IVec T32x128 32 := extui 32 v154 (by decide)
  have v156 : IVec T32x128 32 := broadcast T32x128 0#32
  have v157 : IVec T32x128 1 := cmpi .slt v76 v156
  have v158 : IVec T32x128 32 := extui 32 v157 (by decide)
  have v159 : IVec T32x128 32 := subi v155 v158
  let v160 : BitVec 1 := Scalar.cmpi .sgt 32#32 0#32
  let v161 : BitVec 32 := Scalar.extui v160
  let v162 : BitVec 1 := Scalar.cmpi .slt 32#32 0#32
  let v163 : BitVec 32 := Scalar.extui v162
  let v164 : BitVec 32 := Scalar.subi v161 v163
  have v165 : IVec T32x128 32 := broadcast T32x128 v164
  have v166 : IVec T32x128 1 := cmpi .ne v159 v165
  have v167 : IVec T32x128 32 := broadcast T32x128 32#32
  have v168 : IVec T32x128 32 := remsi v76 v167
  have v169 : IVec T32x128 32 := broadcast T32x128 0#32
  have v170 : IVec T32x128 1 := cmpi .ne v168 v169
  have v171 : IVec T32x128 1 := andi v166 v170
  have v172 : IVec T32x128 32 := broadcast T32x128 1#32
  have v173 : IVec T32x128 32 := subi v152 v172
  have v174 : IVec T32x128 32 := select v171 v173 v152
  have v175 : IVec T32x128 32 := broadcast T32x128 o
  have v176 : IVec T32x128 32 := addi v174 v175
  have v177 : IVec T32x128 32 := broadcast T32x128 0#32
  have v178 : IVec T32x128 1 := cmpi .slt v176 v177
  have v179 : IVec T32x128 32 := broadcast T32x128 128#32
  have v180 : IVec T32x128 32 := addi v176 v179
  have v181 : IVec T32x128 32 := select v178 v180 v176
  v181

theorem concat64 : Shape.Concatenates [T32x64, T32x64] T32x128 1 := by decide

/-- The scale words of 32 rows, each row's 64 words twice over. -/
def scaleWords (v98 : IVec T32x64 8) : IVec T32x128 32 :=
  have v99 : IVec T32x64 8 := shapeCast T32x64 v98 (by decide)
  have v100 : IVec T32x64 32 := extui 32 v99 (by decide)
  have v101 : IVec T32x128 32 := concatenate T32x128 1 [⟨T32x64, v100⟩, ⟨T32x64, v100⟩] concat64
  have v102 : IVec T32x128 32 := broadcast T32x128 23#32
  have v103 : IVec T32x128 32 := shli v101 v102
  have v104 : IVec T32x128 32 := broadcast T32x128 4194304#32
  have v105 : IVec T32x128 32 := maxsi v103 v104
  v105

/-- A 32 x 128 chunk of codes times the scales of its groups. -/
def rowChunk (o : BitVec 32) (v76 : IVec T32x128 32) (v98 : IVec T32x64 8) (v141 : FVec Ideal T32x128 .fp8e4m3) :
    FVec Ideal T32x128 .bf16 :=
  have v137 : IVec T32x128x1 32 := shapeCast T32x128x1 (laneIdx o v76) (by decide)
  have v138 : IVec T32x128 32 := shapeCast T32x128 v137 (by decide)
  have v139 : IVec T32x128 32 := dynamicGather 1 (scaleWords v98) v138
  have v142 : FVec Ideal T32x128 .fp8e4m3 := shapeCast T32x128 v141 (by decide)
  have v143 : FVec Ideal T32x128 .f32 := extf .f32 v142 (by decide)
  have v144 : FVec Ideal T32x128 .f32 := bitcastToFloat .f32 v139
  have v145 : FVec Ideal T32x128 .f32 := mulf v143 v144
  have v146 : FVec Ideal T32x128 .bf16 := truncf .bf16 v145 (by decide)
  have v150 : FVec Ideal T32x128 .bf16 := shapeCast T32x128 v146 (by decide)
  v150

/-- `laneIdx` on one word. -/
def laneWord (o w : BitVec 32) : BitVec 32 :=
  laneIdx o (fun _ => w) (ix2 0 0)

theorem laneWord_all : ((List.finRange 16).all fun c => (List.finRange 128).all fun l =>
    (laneWord (BitVec.ofNat 32 (4 * c.val)) (BitVec.ofNat 32 l.val)).toNat % 128 == 4 * c.val + l.val / 32) = true := by
  decide +kernel

theorem laneWord_eq (c : Fin 16) (l : Fin 128) :
    (laneWord (BitVec.ofNat 32 (4 * c.val)) (BitVec.ofNat 32 l.val)).toNat % 128 = 4 * c.val + l.val / 32 := by
  have h := List.all_eq_true.mp (List.all_eq_true.mp laneWord_all c (List.mem_finRange c)) l (List.mem_finRange l)
  exact eq_of_beq h

set_option maxHeartbeats 400000 in
theorem rowChunk_apply (c : Fin 16) (v76 : IVec T32x128 32) (h76 : ∀ j, v76 j = BitVec.ofNat 32 (j 1).val) (v98 : IVec T32x64 8)
    (v141 : FVec Ideal T32x128 .fp8e4m3) (r : Fin 32) (l : Fin 128) :
    rowChunk (BitVec.ofNat 32 (4 * c.val)) v76 v98 v141 (ix2 r l)
      = v141 (ix2 r l) * decode (v98 (ix2 r ⟨4 * c.val + l.val / 32, by omega⟩)) := by
  have e : ∀ j, laneIdx (BitVec.ofNat 32 (4 * c.val)) v76 j = laneWord (BitVec.ofNat 32 (4 * c.val)) (v76 j) := by
    intro j; simp only [laneWord, laneIdx, pointwise]
  have s : ∀ (r : Fin 32) (g : Fin 64), scaleWords v98 (ix2 r ⟨g.val, by omega⟩) = rowWord (v98 (ix2 r g)) := by
    intro r g
    simp [scaleWords, rowWord, pointwise]
  have hw : ∀ j : T32x128.Idx, ((laneIdx (BitVec.ofNat 32 (4 * c.val)) v76 j).toNat % 128) = 4 * c.val + (j 1).val / 32 := by
    intro j; rw [e, h76]; exact laneWord_eq c (j 1)
  unfold rowChunk
  generalize laneIdx (BitVec.ofNat 32 (4 * c.val)) v76 = L at hw ⊢
  simp only [shapeCast_id, shapeCast_comp, mulf_apply, truncf_apply, extf_apply, dynamicGather_apply, bitcastToFloat_apply]
  rw [← ofBits_rowWord, ← s]
  refine congrArg (fun w => (v141 (ix2 r l) : EReal) * Ideal.ofBits .f32 (scaleWords v98 w)) ?_
  funext b
  refine Fin.ext ?_
  match b with
  | ⟨0, _⟩ => rfl
  | ⟨1, _⟩ => exact hw (ix2 r l)

/-- A group of 32 rows of weights times the scale row of the group. -/
def colGroup (n : ℕ) (h1 : (⟨2, ![1, n]⟩ : Shape).ShapeCasts ⟨2, ![1, n]⟩) (h2 : (⟨2, ![1, n]⟩ : Shape).Broadcasts ⟨2, ![16, n]⟩)
    (h3 : (⟨2, ![16, n]⟩ : Shape).Bitcasts 32 ⟨2, ![32, n]⟩ 16) (h4 : (⟨2, ![32, n]⟩ : Shape).ShapeCasts ⟨2, ![32, n]⟩)
    (v77 : IVec ⟨2, ![1, n]⟩ 32) (v84 : FVec Ideal ⟨2, ![32, n]⟩ .fp8e4m3) : FVec Ideal ⟨2, ![32, n]⟩ .bf16 :=
  have v78 : IVec ⟨2, ![1, n]⟩ 32 := shapeCast _ v77 h1
  have v79 : IVec ⟨2, ![16, n]⟩ 32 := broadcastTo _ v78 h2
  have v80 : FVec Ideal ⟨2, ![32, n]⟩ .bf16 := bitcastToFloat .bf16 (bitcast _ 16 v79 h3)
  have v85 : FVec Ideal ⟨2, ![32, n]⟩ .bf16 := extf .bf16 v84 (by decide)
  have v86 : FVec Ideal ⟨2, ![32, n]⟩ .bf16 := mulf v85 v80
  have v90 : FVec Ideal ⟨2, ![32, n]⟩ .bf16 := shapeCast _ v86 h4
  v90

theorem colGroup_apply (n : ℕ) (hn : 1 < n) (h1 : (⟨2, ![1, n]⟩ : Shape).ShapeCasts ⟨2, ![1, n]⟩)
    (h2 : (⟨2, ![1, n]⟩ : Shape).Broadcasts ⟨2, ![16, n]⟩) (h3 : (⟨2, ![16, n]⟩ : Shape).Bitcasts 32 ⟨2, ![32, n]⟩ 16)
    (h4 : (⟨2, ![32, n]⟩ : Shape).ShapeCasts ⟨2, ![32, n]⟩) (v77 : IVec ⟨2, ![1, n]⟩ 32)
    (v84 : FVec Ideal ⟨2, ![32, n]⟩ .fp8e4m3) (r : Fin 32) (q : Fin n) (b : BitVec 8) (hb : v77 (ix2 0 q) = colWord b) :
    colGroup n h1 h2 h3 h4 v77 v84 (ix2 r q) = v84 (ix2 r q) * decode b := by
  unfold colGroup
  simp only [shapeCast_id, mulf_apply, extf_apply, bitcastToFloat_apply]
  rw [← ofBits_colHalf]
  refine congrArg (fun w => (v84 (ix2 r q) : EReal) * Ideal.ofBits .bf16 w) ?_
  have hbc : ∀ i : (⟨2, ![16, n]⟩ : Shape).Idx, broadcastTo ⟨2, ![16, n]⟩ v77 h2 i = v77 (ix2 0 (i 1)) := by
    intro i
    refine broadcastTo_apply v77 h2 i (ix2 0 (i 1)) fun a => ?_
    match a with
    | ⟨0, _⟩ => rfl
    | ⟨1, _⟩ => exact (if_neg (by show ¬ n = 1; omega)).symm
  refine bitcast_pair (broadcastTo _ v77 h2) h3 (ix2 r q) b
    (h3.srcIdx (ix2 r q) ((⟨2, ![32, n]⟩ : Shape).row (ix2 r q) / 2) ?_) (fun p hp e => h3.srcIdx_congr _ e _ _) ?_
  · intro a ha
    have ha' : a = 0 := by apply Fin.ext; show a.val = 0; have : a.val + 2 = 2 := ha; omega
    subst ha'
    show (r.val) / 2 < 16
    omega
  · rw [hbc, ← hb]
    refine congrArg (fun k => v77 (ix2 0 k)) ?_
    exact Fin.ext (h3.srcIdx_other (ix2 r q) _ _ 1 (show ¬ 1 + 2 = 2 by decide))

end Cert.Proof

end
-- ==== Proof.Pieces.lean ====
/- A list of writes whose pieces all agree with one function, read at a place that the list covers or that already held the function's value. -/
module

public import Idealize.ShloMosaic.Lib.Pointwise
public import Idealize.ShloMosaic.Lib.Pipeline.Value
public import Idealize.ShloMosaic.Lib.WritesUnit

@[expose] public section

noncomputable section

namespace Cert.Proof

open Idealize.ShloMosaic

variable {sig : RefSig} {κ : Kind} {sp : Space} {s : Shape} {e : EltTy} {Val : EltTy → Type}

/-- A place holds `G`'s value after writes whose pieces agree with `G`, if it held it before or some piece covers it. -/
theorem read_writes_of_pieces (v : View sig κ sp s e) (f : v.ty.Contents Val) (G : s.Idx → Val e) (L : List (View.Piece Val s e))
    (hG : ∀ p ∈ L, ∀ x : p.1.shape.Idx, p.2 x = G (p.1.emb x)) (y : s.Idx) (h : v.read Val f y = G y ∨ ∃ p ∈ L, y ∈ p.1.set) :
    v.read Val (v.writes Val f L) y = G y := by
  by_cases hc : ∃ p ∈ L, y ∈ p.1.set
  · exact View.read_writes_apply_of_pieces v f G L hG y hc
  · rw [View.read_writes_apply_of_forall_not_mem v f y L fun p hp => fun hy => hc ⟨p, hp, hy⟩]
    exact h.resolve_right hc

/-- A load of a unit-stride box, at an index of the box. -/
theorem readAt_unit_apply (v : View sig κ sp s e) (f : v.ty.Contents Val) {off off' size : Fin s.rank → ℕ}
    (inb : ∀ a, off a + size a ≤ s.size a) (h : off = off') (x : (Rect.unit off size inb).shape.Idx) (y : s.Idx)
    (hy : ∀ a, (y a).val = off' a + (x a).val) : v.readAt Val (Rect.unit off size inb).toLoadRect f x = v.read Val f y := by
  subst h
  exact congrArg (v.read Val f) (funext fun a => Fin.ext (by rw [hy a]; show off a + 1 * (x a).val = _; omega))

/-- Where a unit-stride box places an index. -/
theorem emb_unit_eq {off off' size : Fin s.rank → ℕ} (inb : ∀ a, off a + size a ≤ s.size a) (h : off = off')
    (x : (Rect.unit off size inb).shape.Idx) (y : s.Idx) (hy : ∀ a, (y a).val = off' a + (x a).val) :
    (Rect.unit off size inb).emb x = y := by
  subst h
  exact funext fun a => Fin.ext (by rw [hy a]; show off a + 1 * (x a).val = _; omega)

end Cert.Proof

end
-- ==== Proof.DraftIdealLoops.lean ====
/- The counted loops of the draft head by their invariants: what the rows written so far hold, over the ideal values. -/
module

public import proofs.«01_k».proof.Proof.Gen.DraftIdeal.Loops
public import proofs.«01_k».proof.Proof.Payload
public import proofs.«01_k».proof.Proof.Pieces

@[expose] public section

set_option maxRecDepth 16384

noncomputable section

namespace Cert.DraftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode rowChunk rowChunk_apply colWord colGroup colGroup_apply read_writes_of_pieces readAt_unit_apply emb_unit_eq)

/-- The decoded hidden states. -/
def statesOf (h : Vec Ideal S672x2048 .fp8e4m3) (sc : Vec Ideal S672x64 .i8) (y : S672x2048.Idx) : EReal :=
  h y * decode (sc (ix2 (⟨(y 0).val, (y 0).isLt⟩ : Fin 672) (⟨(y 1).val / 32, by have h : (y 1).val < 2048 := (y 1).isLt; omega⟩ : Fin 64)))

/-- The scaled products, batch by batch. -/
def logitsOf (z : Vec Ideal S10x680x128 .f32) (y : S96x7x1280.Idx) : EReal :=
  z (ix3 (⟨(y 2).val / 128, by have h : (y 2).val < 1280 := (y 2).isLt; omega⟩ : Fin 10)
      (⟨7 * (y 0).val + (y 1).val, by have h : (y 0).val < 96 := (y 0).isLt; have h' : (y 1).val < 7 := (y 1).isLt; omega⟩ : Fin 680)
      (⟨(y 2).val % 128, by omega⟩ : Fin 128)) * ((10 / 7 : ℝ) : EReal)
/-- A stored chunk of 32 rows and 128 columns holds the decoded states. -/
theorem states_piece (ch : Fin 16) (arg1 : Memref sig .tc .vmem S672x2048 .fp8e4m3) (arg2 : Memref sig .tc .vmem S672x64 .i8)
    (X1 : BufTy.Contents (Elt Ideal) arg1.view.ty) (X2 : BufTy.Contents (Elt Ideal) arg2.view.ty) (v76 : IVec S32x128 32)
    (h76 : ∀ j, v76 j = BitVec.ofNat 32 (j 1).val) (k : ℕ) {o o1 o2 : Fin 2 → ℕ} (ho : o = ![32 * k, 128 * ch.val])
    (ho1 : o1 = ![32 * k, 128 * ch.val]) (ho2 : o2 = ![32 * k, 0]) (inb : ∀ a, o a + S32x128.size a ≤ S672x2048.size a)
    (inb1 : ∀ a, o1 a + S32x128.size a ≤ S672x2048.size a) (inb2 : ∀ a, o2 a + S32x64.size a ≤ S672x64.size a)
    (w : FVec Ideal S32x128 .bf16)
    (hw : w = rowChunk (BitVec.ofNat 32 (4 * ch.val)) v76 (arg2.view.readAt (Elt Ideal) (Rect.unit (s := S672x64) o2 S32x64.size inb2).toLoadRect X2)
      (arg1.view.readAt (Elt Ideal) (Rect.unit (s := S672x2048) o1 S32x128.size inb1).toLoadRect X1)) (x : S32x128.Idx) :
    w x = (statesOf (arg1.view.read (Elt Ideal) X1) (arg2.view.read (Elt Ideal) X2))
      ((Rect.unit (s := S672x2048) o S32x128.size inb).emb x) := by
  have hb : 32 * k + 32 ≤ 672 := by have := inb 0; rw [ho] at this; exact this
  have h0 : (x 0).val < 32 := (x 0).isLt
  have h1 : (x 1).val < 128 := (x 1).isLt
  have he : (Rect.unit (s := S672x2048) o S32x128.size inb).emb x = ix2 ⟨32 * k + (x 0).val, by omega⟩ ⟨128 * ch.val + (x 1).val, by omega⟩ := by
    refine emb_unit_eq (s := S672x2048) (size := S32x128.size) inb ho x _ fun a => ?_
    match a with
    | ⟨0, _⟩ => rfl
    | ⟨1, _⟩ => rfl
  rw [he, hw]
  have hx : x = ix2 (⟨(x 0).val, h0⟩ : Fin 32) (⟨(x 1).val, h1⟩ : Fin 128) := by
    funext a
    match a with
    | ⟨0, _⟩ => rfl
    | ⟨1, _⟩ => rfl
  refine (congrArg (rowChunk _ _ _ _) hx).trans ?_
  refine (rowChunk_apply ch v76 h76 _ _ ⟨(x 0).val, h0⟩ ⟨(x 1).val, h1⟩).trans ?_
  refine congrArg₂ (fun a b : EReal => a * b) ?_ (congrArg decode ?_)
  · refine readAt_unit_apply arg1.view X1 inb1 ho1 _ _ fun a => ?_
    match a with
    | ⟨0, _⟩ => rfl
    | ⟨1, _⟩ => rfl
  · refine readAt_unit_apply arg2.view X2 inb2 ho2 _ _ fun a => ?_
    match a with
    | ⟨0, _⟩ => rfl
    | ⟨1, _⟩ => show (128 * ch.val + (x 1).val) / 32 = 0 + (4 * ch.val + (x 1).val / 32); omega

/-- The scaled logits of a group of 128 columns, at an index. -/
theorem scaled_apply (v : Vec Ideal S1x8x128 .f32) (r : Fin 7) (l : Fin 128) :
    k0_pay48 (F := Ideal) v (ix3 0 r l) = v (ix3 0 ⟨r.val, by omega⟩ l) * ((10 / 7 : ℝ) : EReal) := by
  have hc : (Named.named (F := Ideal) (φ := .f32) κ "z_gain" 0x3FB6DB6E#32 : EReal) = ((10 / 7 : ℝ) : EReal) :=
    IdealRules.named_const.ideal_named_scalar _ _ _ _ rfl
  unfold k0_pay48 k0_pay47
  simp only [hc]
  simp [pointwise]
  first | done | trace_state

/-- A stored group of 128 columns of a batch holds the scaled products. -/
theorem logits_piece (g : Fin 10) (arg13 : Memref sig .tc .vmem S10x680x128 .f32)
    (X13 : BufTy.Contents (Elt Ideal) arg13.view.ty) (k : Fin 96) {o o1 : Fin 3 → ℕ} (ho : o = ![k.val, 0, 128 * g.val])
    (ho1 : o1 = ![g.val, 7 * k.val, 0]) (inb : ∀ a, o a + S1x7x128.size a ≤ S96x7x1280.size a)
    (inb1 : ∀ a, o1 a + S1x8x128.size a ≤ S10x680x128.size a) (w : FVec Ideal S1x7x128 .bf16)
    (hw : w = k0_pay48 (F := Ideal) (arg13.view.readAt (Elt Ideal) (Rect.unit (s := S10x680x128) o1 S1x8x128.size inb1).toLoadRect X13)) (x : S1x7x128.Idx) :
    w x = (logitsOf (arg13.view.read (Elt Ideal) X13))
      ((Rect.unit (s := S96x7x1280) o S1x7x128.size inb).emb x) := by
  have h0 : (x 0).val < 1 := (x 0).isLt
  have h1 : (x 1).val < 7 := (x 1).isLt
  have h2 : (x 2).val < 128 := (x 2).isLt
  have he : (Rect.unit (s := S96x7x1280) o S1x7x128.size inb).emb x = ix3 k ⟨(x 1).val, h1⟩ ⟨128 * g.val + (x 2).val, by omega⟩ := by
    refine emb_unit_eq (s := S96x7x1280) (size := S1x7x128.size) inb ho x _ fun a => ?_
    match a with
    | ⟨0, _⟩ => show k.val = k.val + (x 0).val; omega
    | ⟨1, _⟩ => show (x 1).val = 0 + (x 1).val; omega
    | ⟨2, _⟩ => rfl
  rw [he, hw]
  have hx : x = ix3 (0 : Fin 1) (⟨(x 1).val, h1⟩ : Fin 7) (⟨(x 2).val, h2⟩ : Fin 128) := by
    funext a
    match a with
    | ⟨0, _⟩ => exact Fin.ext (by show (x 0).val = 0; omega)
    | ⟨1, _⟩ => rfl
    | ⟨2, _⟩ => rfl
  refine (congrArg (k0_pay48 _) hx).trans ((scaled_apply _ _ _).trans ?_)
  refine congrArg (fun a : EReal => a * ((10 / 7 : ℝ) : EReal)) ?_
  refine readAt_unit_apply arg13.view X13 inb1 ho1 _ _ fun a => ?_
  match a with
  | ⟨0, _⟩ => show (128 * g.val + (x 2).val) / 128 = g.val + 0; omega
  | ⟨1, _⟩ => rfl
  | ⟨2, _⟩ => show (128 * g.val + (x 2).val) % 128 = 0 + (x 2).val; omega

set_option warn.classDefReducibility false in
/-- The loop over groups of 32 rows of weights: the rows before trip `k` hold the decoded weights. -/
@[sl_loop] def loopInv_k0_t2 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole)  (X12 : BufTy.Contents (Elt Ideal) arg12.view.ty) (X3 : BufTy.Contents (Elt Ideal) arg3.view.ty) :
    LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15  where
  inv k _ := iprop((arg12.view.loc (c : Thread nD τ) ↦[arg12.view.set]{fullShare} X12) ∗ (arg3.view.loc (c : Thread nD τ) ↦[arg3.view.set]{fullShare} X3) ∗ (∃ f, (arg11.view.loc (c : Thread nD τ) ↦[arg11.view.set]{fullShare} f) ∗ ⌜∀ (r : Fin 2048) (q : Fin 1280), r.val < 32 * k → ∀ b : BitVec 8, arg12.view.read (Elt Ideal) X12 (ix2 ⟨r.val / 32, by omega⟩ q) = colWord b → arg11.view.read (Elt Ideal) f (ix2 r q) = arg3.view.read (Elt Ideal) X3 (ix2 r q) * decode b⌝))
  step k acc := by
    iintro ⟨H12, H3, ⟨%f11, H11, %h11⟩⟩
    unfold k0_t2_body
    sl_exec
    sl_step
    isplitl [H12]
    · iexact H12
    isplitl [H3]
    · iexact H3
    · iexists _; isplitl [H11]; · iexact H11
      ipureintro
      intro r q hr b hb
      by_cases hk : r.val < 32 * k.val
      · rw [View.writes_cons]
        refine (View.read_writes_cons_unit_of_not_mem arg11.view _ _ _ [] _ (k0_off35_eq k) 0 (.inl hk)).trans ?_
        exact h11 r q hk b hb
      · have hd : r.val / 32 = k.val := by omega
        refine (View.read_writes_cons_unit_of_mem arg11.view _ _ _ _ (ix2 r q) (ix2 ⟨r.val - 32 * k.val, by omega⟩ q) (k0_off35_eq k) ?_).trans ?_
        · intro a
          match a with
          | ⟨0, _⟩ => show r.val = 32 * k.val + (r.val - 32 * k.val); omega
          | ⟨1, _⟩ => show q.val = 0 + q.val; omega
        · refine (colGroup_apply 1280 (by decide) _ _ _ _ _ _ ⟨r.val - 32 * k.val, by omega⟩ q b ?_).trans ?_
          · refine (readAt_unit_apply arg12.view X12 _ (k0_off34_eq k) _ (ix2 ⟨r.val / 32, by omega⟩ q) ?_).trans hb
            intro a
            match a with
            | ⟨0, _⟩ => show r.val / 32 = k.val + 0; omega
            | ⟨1, _⟩ => show q.val = 0 + q.val; omega
          · refine congrArg (· * decode b) (readAt_unit_apply arg3.view X3 _ (k0_off35_eq k) _ (ix2 r q) ?_)
            intro a
            match a with
            | ⟨0, _⟩ => show r.val = 32 * k.val + (r.val - 32 * k.val); omega
            | ⟨1, _⟩ => show q.val = 0 + q.val; omega

set_option warn.classDefReducibility false in
/-- The loop over blocks of 32 rows of hidden states: the rows before trip `k` hold the decoded states. -/
@[sl_loop] def loopInv_k0_t1 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (k0_h1 : k0_cond1 i = 1#1) (v76 : IVec S32x128 32) (X1 : BufTy.Contents (Elt Ideal) arg1.view.ty) (X2 : BufTy.Contents (Elt Ideal) arg2.view.ty) :
    LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v76 where
  inv k _ := iprop((arg1.view.loc (c : Thread nD τ) ↦[arg1.view.set]{fullShare} X1) ∗ (arg2.view.loc (c : Thread nD τ) ↦[arg2.view.set]{fullShare} X2) ∗ (∃ f, (arg10.view.loc (c : Thread nD τ) ↦[arg10.view.set]{fullShare} f) ∗ ⌜∀ (r : Fin 672) (q : Fin 2048), r.val < 32 * k → (∀ j, v76 j = BitVec.ofNat 32 (j 1).val) → arg10.view.read (Elt Ideal) f (ix2 r q) = statesOf (arg1.view.read (Elt Ideal) X1) (arg2.view.read (Elt Ideal) X2) (ix2 r q)⌝))
  step k acc := by
    iintro ⟨H1, H2, ⟨%f10, H10, %h10⟩⟩
    unfold k0_t1_body
    sl_exec
    sl_step
    isplitl [H1]
    · iexact H1
    isplitl [H2]
    · iexact H2
    · iexists _; isplitl [H10]; · iexact H10
      ipureintro
      intro r q hr h76
      refine read_writes_of_pieces arg10.view f10 (statesOf (arg1.view.read (Elt Ideal) X1) (arg2.view.read (Elt Ideal) X2)) _ ?_ (ix2 r q) ?_
      · simp only [List.forall_mem_cons, List.not_mem_nil, false_imp_iff, implies_true, _root_.and_true]
        refine ⟨states_piece 15 arg1 arg2 X1 X2 v76 h76 k.val (k0_off33_eq k) (k0_off32_eq k) (k0_off1_eq k) _ _ _ _ rfl, states_piece 14 arg1 arg2 X1 X2 v76 h76 k.val (k0_off31_eq k) (k0_off30_eq k) (k0_off1_eq k) _ _ _ _ rfl, states_piece 13 arg1 arg2 X1 X2 v76 h76 k.val (k0_off29_eq k) (k0_off28_eq k) (k0_off1_eq k) _ _ _ _ rfl, states_piece 12 arg1 arg2 X1 X2 v76 h76 k.val (k0_off27_eq k) (k0_off26_eq k) (k0_off1_eq k) _ _ _ _ rfl, states_piece 11 arg1 arg2 X1 X2 v76 h76 k.val (k0_off25_eq k) (k0_off24_eq k) (k0_off1_eq k) _ _ _ _ rfl, states_piece 10 arg1 arg2 X1 X2 v76 h76 k.val (k0_off23_eq k) (k0_off22_eq k) (k0_off1_eq k) _ _ _ _ rfl, states_piece 9 arg1 arg2 X1 X2 v76 h76 k.val (k0_off21_eq k) (k0_off20_eq k) (k0_off1_eq k) _ _ _ _ rfl, states_piece 8 arg1 arg2 X1 X2 v76 h76 k.val (k0_off19_eq k) (k0_off18_eq k) (k0_off1_eq k) _ _ _ _ rfl, states_piece 7 arg1 arg2 X1 X2 v76 h76 k.val (k0_off17_eq k) (k0_off16_eq k) (k0_off1_eq k) _ _ _ _ rfl, states_piece 6 arg1 arg2 X1 X2 v76 h76 k.val (k0_off15_eq k) (k0_off14_eq k) (k0_off1_eq k) _ _ _ _ rfl, states_piece 5 arg1 arg2 X1 X2 v76 h76 k.val (k0_off13_eq k) (k0_off12_eq k) (k0_off1_eq k) _ _ _ _ rfl, states_piece 4 arg1 arg2 X1 X2 v76 h76 k.val (k0_off11_eq k) (k0_off10_eq k) (k0_off1_eq k) _ _ _ _ rfl, states_piece 3 arg1 arg2 X1 X2 v76 h76 k.val (k0_off9_eq k) (k0_off8_eq k) (k0_off1_eq k) _ _ _ _ rfl, states_piece 2 arg1 arg2 X1 X2 v76 h76 k.val (k0_off7_eq k) (k0_off6_eq k) (k0_off1_eq k) _ _ _ _ rfl, states_piece 1 arg1 arg2 X1 X2 v76 h76 k.val (k0_off5_eq k) (k0_off4_eq k) (k0_off1_eq k) _ _ _ _ rfl, states_piece 0 arg1 arg2 X1 X2 v76 h76 k.val (k0_off3_eq k) (k0_off2_eq k) (k0_off1_eq k) _ _ _ _ rfl⟩
      · by_cases hk : r.val < 32 * k.val
        · exact .inl (h10 r q hk h76)
        · refine .inr ?_
          simp only [List.mem_cons, exists_eq_or_imp, Rect.mem_set_unit, Fin.forall_fin_two, List.not_mem_nil, _root_.false_and, exists_false, _root_.or_false, k0_off3_eq, k0_off5_eq, k0_off7_eq, k0_off9_eq, k0_off11_eq, k0_off13_eq, k0_off15_eq, k0_off17_eq, k0_off19_eq, k0_off21_eq, k0_off23_eq, k0_off25_eq, k0_off27_eq, k0_off29_eq, k0_off31_eq, k0_off33_eq]
          simp [Rect.mem_set_unit, k0_off3_eq]
          omega

set_option warn.classDefReducibility false in
/-- The loop over batches: the batches before trip `k` hold the scaled logits. -/
@[sl_loop] def loopInv_k0_t3 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (arg0 : BitVec 32) (v71 : IVec S8x128 32) (X5 : BufTy.Contents (Elt Ideal) arg5.view.ty) (X13 : BufTy.Contents (Elt Ideal) arg13.view.ty) :
    LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v71 where
  inv k _ := iprop((arg5.view.loc (c : Thread nD τ) ↦[arg5.view.set]{fullShare} X5) ∗ (arg13.view.loc (c : Thread nD τ) ↦[arg13.view.set]{fullShare} X13) ∗ (∃ f, (arg6.view.loc (c : Thread nD τ) ↦[arg6.view.set]{fullShare} f) ∗ ⌜∀ (b : Fin 96) (r : Fin 7) (q : Fin 1280), b.val < k → arg6.view.read (Elt Ideal) f (ix3 b r q) = logitsOf (arg13.view.read (Elt Ideal) X13) (ix3 b r q)⌝) ∗ (∃ f, (arg7.view.loc (c : Thread nD τ) ↦[arg7.view.set]{fullShare} f)) ∗ (∃ f, (arg9.view.loc (c : Thread nD τ) ↦[arg9.view.set]{fullShare} f)) ∗ (∃ f, (arg14.view.loc (c : Thread nD τ) ↦[arg14.view.set]{fullShare} f)) ∗ (∃ f, (arg15.view.loc (c : Thread nD τ) ↦[arg15.view.set]{fullShare} f)))
  step k acc := by
    iintro ⟨H5, H13, ⟨%f6, H6, %h6⟩, ⟨%f7, H7⟩, ⟨%f9, H9⟩, ⟨%f14, H14⟩, ⟨%f15, H15⟩⟩
    unfold k0_t3_body
    sl_exec
    sl_step
    isplitl [H5]
    · iexact H5
    isplitl [H13]
    · iexact H13
    isplitl [H6]
    · iexists _; isplitl [H6]; · iexact H6
      ipureintro
      have hk : k.val < 96 := Nat.lt_of_lt_of_le k.isLt k0_t3_abs.2.1
      intro b r q hb
      refine read_writes_of_pieces arg6.view f6 (logitsOf (arg13.view.read (Elt Ideal) X13)) _ ?_ (ix3 b r q) ?_
      · simp only [List.forall_mem_cons, List.not_mem_nil, false_imp_iff, implies_true, _root_.and_true]
        refine ⟨logits_piece 9 arg13 X13 ⟨k.val, hk⟩ (k0_off65_eq k) (k0_off64_eq k) _ _ _ rfl, logits_piece 8 arg13 X13 ⟨k.val, hk⟩ (k0_off62_eq k) (k0_off61_eq k) _ _ _ rfl, logits_piece 7 arg13 X13 ⟨k.val, hk⟩ (k0_off59_eq k) (k0_off58_eq k) _ _ _ rfl, logits_piece 6 arg13 X13 ⟨k.val, hk⟩ (k0_off56_eq k) (k0_off55_eq k) _ _ _ rfl, logits_piece 5 arg13 X13 ⟨k.val, hk⟩ (k0_off53_eq k) (k0_off52_eq k) _ _ _ rfl, logits_piece 4 arg13 X13 ⟨k.val, hk⟩ (k0_off50_eq k) (k0_off49_eq k) _ _ _ rfl, logits_piece 3 arg13 X13 ⟨k.val, hk⟩ (k0_off47_eq k) (k0_off46_eq k) _ _ _ rfl, logits_piece 2 arg13 X13 ⟨k.val, hk⟩ (k0_off44_eq k) (k0_off43_eq k) _ _ _ rfl, logits_piece 1 arg13 X13 ⟨k.val, hk⟩ (k0_off41_eq k) (k0_off40_eq k) _ _ _ rfl, logits_piece 0 arg13 X13 ⟨k.val, hk⟩ (k0_off38_eq k) (k0_off37_eq k) _ _ _ rfl⟩
      · by_cases hlt : b.val < k.val
        · exact .inl (h6 b r q hlt)
        · refine .inr ?_
          simp only [List.mem_cons, exists_eq_or_imp, Rect.mem_set_unit, List.not_mem_nil, _root_.false_and, exists_false, _root_.or_false, k0_off38_eq, k0_off41_eq, k0_off44_eq, k0_off47_eq, k0_off50_eq, k0_off53_eq, k0_off56_eq, k0_off59_eq, k0_off62_eq, k0_off65_eq]
          simp [Fin.forall_fin_succ, Rect.mem_set_unit, k0_off38_eq]
          omega
    isplitl [H7]
    · iexists _; iexact H7
    isplitl [H9]
    · iexists _; iexact H9
    isplitl [H14]
    · iexists _; iexact H14
    · iexists _; iexact H15

set_option warn.classDefReducibility false in
/-- The loop over the rows of the last grid point. -/
@[sl_loop] def loopInv_k0_t4 (𝒱 : Variants) (c : Dev nD) (bd : Option 𝒱.V) (E : Set ℕ) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (k0_h2 : k0_cond2 i = 1#1) (X14 : BufTy.Contents (Elt Ideal) arg14.view.ty) (X15 : BufTy.Contents (Elt Ideal) arg15.view.ty) :
    LoopInvTy_k0_t4 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 where
  inv k _ := iprop((arg14.view.loc (c : Thread nD τ) ↦[arg14.view.set]{fullShare} X14) ∗ (arg15.view.loc (c : Thread nD τ) ↦[arg15.view.set]{fullShare} X15) ∗ (∃ f, (arg8.view.loc (c : Thread nD τ) ↦[arg8.view.set]{fullShare} f)) ∗ (∃ f, (arg9.view.loc (c : Thread nD τ) ↦[arg9.view.set]{fullShare} f)))
  step k acc := by
    iintro ⟨H14, H15, ⟨%f8, H8⟩, ⟨%f9, H9⟩⟩
    unfold k0_t4_body
    sl_exec
    sl_step
    isplitl [H14]
    · iexact H14
    isplitl [H15]
    · iexact H15
    isplitl [H8]
    · iexists _; iexact H8
    · iexists _; iexact H9

end Cert.DraftIdeal.Gen

end
-- ==== Proof.DraftIdealFacts.lean ====
/- What the products of a grid point of the draft head hold, over the ideal values. -/
module

public import proofs.«01_k».proof.Proof.DraftIdealLoops
public import Idealize.ShloMosaic.Lib.IdealHost

@[expose] public section

set_option maxRecDepth 16384

noncomputable section

namespace Cert.DraftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode colWord read_writes_of_pieces readAt_unit_apply emb_unit_eq)

/-- The scaled products of the decoded operands, batch by batch. -/
def headOf (h : Vec Ideal S672x2048 .fp8e4m3) (sc : Vec Ideal S672x64 .i8) (w : Vec Ideal S2048x1280 .fp8e4m3) (ws : Vec Ideal S64x1280 .i8)
    (y : S96x7x1280.Idx) : EReal :=
  (∑ k : Fin 2048, statesOf h sc (ix2 (⟨7 * (y 0).val + (y 1).val, by have h : (y 0).val < 96 := (y 0).isLt; have h' : (y 1).val < 7 := (y 1).isLt; omega⟩ : Fin 672) k)
      * (w (ix2 k (⟨(y 2).val, (y 2).isLt⟩ : Fin 1280)) * decode (ws (ix2 (⟨k.val / 32, by omega⟩ : Fin 64) (⟨(y 2).val, (y 2).isLt⟩ : Fin 1280)))))
    * ((10 / 7 : ℝ) : EReal)

/-- The products, in ten groups of 128 columns, zero below the rows. -/
def zOf (A : Vec Ideal S672x2048 .bf16) (B : Vec Ideal S2048x1280 .bf16) (y : S10x680x128.Idx) : EReal :=
  if h : (y 1).val < 672 then ∑ k : Fin 2048, A (ix2 (⟨(y 1).val, h⟩ : Fin 672) k) * B (ix2 k (⟨128 * (y 0).val + (y 2).val, by
    have h0 : (y 0).val < 10 := (y 0).isLt; have h2 : (y 2).val < 128 := (y 2).isLt; omega⟩ : Fin 1280)) else 0

theorem product_apply (A : Vec Ideal S672x2048 .bf16) (B : Vec Ideal S2048x256 .bf16) (r : Fin 672) (q : Fin 256) :
    k0_pay2 (F := Ideal) A B (ix2 r q) = ∑ k : Fin 2048, A (ix2 r k) * B (ix2 k q) := by
  unfold k0_pay2
  simp [pointwise]

theorem low_apply (A : Vec Ideal S672x2048 .bf16) (B : Vec Ideal S2048x256 .bf16) (r : Fin 672) (l : Fin 128) :
    k0_pay3 (F := Ideal) A B (ix3 0 r l) = ∑ k : Fin 2048, A (ix2 r k) * B (ix2 k (⟨l.val, by omega⟩ : Fin 256)) := by
  rw [← product_apply]
  unfold k0_pay3
  simp [pointwise]

theorem high_apply (A : Vec Ideal S672x2048 .bf16) (B : Vec Ideal S2048x256 .bf16) (r : Fin 672) (l : Fin 128) :
    k0_pay4 (F := Ideal) A B (ix3 0 r l) = ∑ k : Fin 2048, A (ix2 r k) * B (ix2 k (⟨128 + l.val, by omega⟩ : Fin 256)) := by
  rw [← product_apply]
  unfold k0_pay4
  simp [pointwise]

theorem words_apply (v : Vec Ideal S64x1280 .i8) (y : S64x1280.Idx) : k0_pay104 (F := Ideal) v y = colWord (v y) := by
  unfold k0_pay104
  simp [pointwise, colWord]

theorem zero_apply (y : S10x8x128.Idx) : k0_pay103 (F := Ideal) y = 0 := by
  unfold k0_pay103
  simp [pointwise]

/-- A stored group of 128 columns holds the products: `lo` tells the half of the 256 columns it is. -/
theorem z_piece (lo : Bool) (j : Fin 5) (g : ℕ) (hg : g = if lo then 2 * j.val else 2 * j.val + 1) (arg10 : Memref sig .tc .vmem S672x2048 .bf16) (arg11 : Memref sig .tc .vmem S2048x1280 .bf16)
    (X10 : BufTy.Contents (Elt Ideal) arg10.view.ty) (X11 : BufTy.Contents (Elt Ideal) arg11.view.ty)
    (inb : ∀ a, (![g, 0, 0] : Fin 3 → ℕ) a + S1x672x128.size a ≤ S10x680x128.size a)
    (inb1 : ∀ a, (![0, 0] : Fin 2 → ℕ) a + S672x2048.size a ≤ S672x2048.size a)
    (inb2 : ∀ a, (![0, 256 * j.val] : Fin 2 → ℕ) a + S2048x256.size a ≤ S2048x1280.size a) (w : FVec Ideal S1x672x128 .f32)
    (hw : w = (if lo then k0_pay3 (F := Ideal) else k0_pay4 (F := Ideal))
      (arg10.view.readAt (Elt Ideal) (Rect.unit (s := S672x2048) ![0, 0] S672x2048.size inb1).toLoadRect X10)
      (arg11.view.readAt (Elt Ideal) (Rect.unit (s := S2048x1280) ![0, 256 * j.val] S2048x256.size inb2).toLoadRect X11)) (x : S1x672x128.Idx) :
    w x = (zOf (arg10.view.read (Elt Ideal) X10) (arg11.view.read (Elt Ideal) X11)) ((Rect.unit (s := S10x680x128) ![g, 0, 0] S1x672x128.size inb).emb x) := by
  have h0 : (x 0).val < 1 := (x 0).isLt
  have h1 : (x 1).val < 672 := (x 1).isLt
  have h2 : (x 2).val < 128 := (x 2).isLt
  have hg' : g < 10 := by rw [hg]; split <;> omega
  have he : (Rect.unit (s := S10x680x128) ![g, 0, 0] S1x672x128.size inb).emb x = ix3 (⟨g, hg'⟩ : Fin 10) (⟨(x 1).val, by omega⟩ : Fin 680) (⟨(x 2).val, h2⟩ : Fin 128) := by
    refine emb_unit_eq (s := S10x680x128) (size := S1x672x128.size) inb rfl x _ fun a => ?_
    match a with
    | ⟨0, _⟩ => show g = g + (x 0).val; omega
    | ⟨1, _⟩ => show (x 1).val = 0 + (x 1).val; omega
    | ⟨2, _⟩ => show (x 2).val = 0 + (x 2).val; omega
  have hx : x = ix3 (0 : Fin 1) (⟨(x 1).val, h1⟩ : Fin 672) (⟨(x 2).val, h2⟩ : Fin 128) := by
    funext a
    match a with
    | ⟨0, _⟩ => exact Fin.ext (by show (x 0).val = 0; omega)
    | ⟨1, _⟩ => rfl
    | ⟨2, _⟩ => rfl
  rw [he, hw]
  have hz : zOf (arg10.view.read (Elt Ideal) X10) (arg11.view.read (Elt Ideal) X11) (ix3 (⟨g, hg'⟩ : Fin 10) (⟨(x 1).val, by omega⟩ : Fin 680) (⟨(x 2).val, h2⟩ : Fin 128))
      = ∑ k : Fin 2048, arg10.view.read (Elt Ideal) X10 (ix2 (⟨(x 1).val, h1⟩ : Fin 672) k) * arg11.view.read (Elt Ideal) X11 (ix2 k (⟨128 * g + (x 2).val, by omega⟩ : Fin 1280)) :=
    dif_pos h1
  rw [hz]
  refine (congrArg _ hx).trans ?_
  have hA : ∀ k : Fin 2048, arg10.view.readAt (Elt Ideal) (Rect.unit (s := S672x2048) ![0, 0] S672x2048.size inb1).toLoadRect X10 (ix2 (⟨(x 1).val, h1⟩ : Fin 672) k)
      = arg10.view.read (Elt Ideal) X10 (ix2 (⟨(x 1).val, h1⟩ : Fin 672) k) := fun k => by
    refine readAt_unit_apply arg10.view X10 inb1 rfl _ _ fun a => ?_
    match a with
    | ⟨0, _⟩ => show (x 1).val = 0 + (x 1).val; omega
    | ⟨1, _⟩ => show k.val = 0 + k.val; omega
  have hB : ∀ (k : Fin 2048) (q : Fin 256), arg11.view.readAt (Elt Ideal) (Rect.unit (s := S2048x1280) ![0, 256 * j.val] S2048x256.size inb2).toLoadRect X11 (ix2 k q)
      = arg11.view.read (Elt Ideal) X11 (ix2 k (⟨256 * j.val + q.val, by omega⟩ : Fin 1280)) := fun k q => by
    refine readAt_unit_apply arg11.view X11 inb2 rfl _ _ fun a => ?_
    match a with
    | ⟨0, _⟩ => show k.val = 0 + k.val; omega
    | ⟨1, _⟩ => rfl
  cases lo
  · refine (high_apply _ _ _ _).trans ?_
    refine Finset.sum_congr rfl fun k _ => congrArg₂ (fun a b : EReal => a * b) (hA k) ((hB k _).trans (congrArg _ ?_))
    refine congrArg (ix2 k) (Fin.ext ?_)
    show 256 * j.val + (128 + (x 2).val) = 128 * g + (x 2).val
    simp at hg; omega
  · refine (low_apply _ _ _ _).trans ?_
    refine Finset.sum_congr rfl fun k _ => congrArg₂ (fun a b : EReal => a * b) (hA k) ((hB k _).trans (congrArg _ ?_))
    refine congrArg (ix2 k) (Fin.ext ?_)
    show 256 * j.val + (x 2).val = 128 * g + (x 2).val
    simp at hg; omega

/-- The rows below the products are zero. -/
theorem zero_piece (A : Vec Ideal S672x2048 .bf16) (B : Vec Ideal S2048x1280 .bf16)
    (inb : ∀ a, (![0, 672, 0] : Fin 3 → ℕ) a + S10x8x128.size a ≤ S10x680x128.size a) (x : S10x8x128.Idx) :
    k0_pay103 (F := Ideal) x = zOf A B ((Rect.unit (s := S10x680x128) ![0, 672, 0] S10x8x128.size inb).emb x) := by
  rw [zero_apply]
  unfold zOf
  rw [dif_neg]
  show ¬ 672 + 1 * (x 1).val < 672
  omega

/-- The scaled logits of the products of decoded operands. -/
theorem head_of_z (z : Vec Ideal S10x680x128 .f32) (A : Vec Ideal S672x2048 .bf16) (B : Vec Ideal S2048x1280 .bf16)
    (h : Vec Ideal S672x2048 .fp8e4m3) (sc : Vec Ideal S672x64 .i8) (w : Vec Ideal S2048x1280 .fp8e4m3) (ws : Vec Ideal S64x1280 .i8)
    (hz : ∀ y : S10x680x128.Idx, (y 1).val < 672 → z y = zOf A B y) (hA : ∀ (r : Fin 672) (q : Fin 2048), A (ix2 r q) = statesOf h sc (ix2 r q))
    (hB : ∀ (r : Fin 2048) (q : Fin 1280), B (ix2 r q) = w (ix2 r q) * decode (ws (ix2 (⟨r.val / 32, by omega⟩ : Fin 64) q))) (b : Fin 96) (r : Fin 7) (q : Fin 1280) :
    logitsOf z (ix3 b r q) = headOf h sc w ws (ix3 b r q) := by
  unfold logitsOf headOf
  refine congrArg (fun a : EReal => a * ((10 / 7 : ℝ) : EReal)) ?_
  have hr : 7 * b.val + r.val < 672 := by omega
  refine (hz _ hr).trans ((dif_pos hr).trans ?_)
  refine Finset.sum_congr rfl fun k _ => ?_
  refine congrArg₂ (fun a b : EReal => a * b) (hA _ _) ?_
  have hq : (⟨128 * (q.val / 128) + q.val % 128, by omega⟩ : Fin 1280) = q := Fin.ext (by show 128 * (q.val / 128) + q.val % 128 = q.val; omega)
  exact (congrArg (fun t : Fin 1280 => B (ix2 k t)) hq).trans (hB k q)

/-- The products' covering boxes. -/
theorem z_cover (y : S10x680x128.Idx) (hy : (y 1).val < 672) (L : List (View.Piece (Elt Ideal) S10x680x128 .f32))
    (hL : ∀ g : Fin 10, ∃ p ∈ L, ∃ inb, p.1 = Rect.unit (s := S10x680x128) ![g.val, 0, 0] S1x672x128.size inb) : ∃ p ∈ L, y ∈ p.1.set := by
  obtain ⟨p, hp, inb, e⟩ := hL (⟨(y 0).val, (y 0).isLt⟩ : Fin 10)
  refine ⟨p, hp, ?_⟩
  rw [e, Rect.mem_set_unit]
  intro a
  match a with
  | ⟨0, _⟩ => exact ⟨le_refl _, Nat.lt_succ_self _⟩
  | ⟨1, _⟩ => exact ⟨Nat.zero_le _, by show (y 1).val < 0 + 672; omega⟩
  | ⟨2, _⟩ => exact ⟨Nat.zero_le _, by have h : (y 2).val < 128 := (y 2).isLt; show (y 2).val < 0 + 128; omega⟩

/-- The products read back after the ten stores. -/
theorem z_read (arg10 : Memref sig .tc .vmem S672x2048 .bf16) (arg11 : Memref sig .tc .vmem S2048x1280 .bf16) (arg13 : Memref sig .tc .vmem S10x680x128 .f32)
    (X10 : BufTy.Contents (Elt Ideal) arg10.view.ty) (X11 : BufTy.Contents (Elt Ideal) arg11.view.ty) (f : BufTy.Contents (Elt Ideal) arg13.view.ty)
    (rest : List (View.Piece (Elt Ideal) S10x680x128 .f32)) (inbA : ∀ a, (![0, 0] : Fin 2 → ℕ) a + S672x2048.size a ≤ S672x2048.size a)
    (cb0 : ∀ a, (![0, 0] : Fin 2 → ℕ) a + S2048x256.size a ≤ S2048x1280.size a) (cb1 : ∀ a, (![0, 256] : Fin 2 → ℕ) a + S2048x256.size a ≤ S2048x1280.size a) (cb2 : ∀ a, (![0, 512] : Fin 2 → ℕ) a + S2048x256.size a ≤ S2048x1280.size a) (cb3 : ∀ a, (![0, 768] : Fin 2 → ℕ) a + S2048x256.size a ≤ S2048x1280.size a) (cb4 : ∀ a, (![0, 1024] : Fin 2 → ℕ) a + S2048x256.size a ≤ S2048x1280.size a)
    (w0 : FVec Ideal S1x672x128 .f32) (inb0 : ∀ a, (![0, 0, 0] : Fin 3 → ℕ) a + S1x672x128.size a ≤ S10x680x128.size a) (w1 : FVec Ideal S1x672x128 .f32) (inb1 : ∀ a, (![1, 0, 0] : Fin 3 → ℕ) a + S1x672x128.size a ≤ S10x680x128.size a) (w2 : FVec Ideal S1x672x128 .f32) (inb2 : ∀ a, (![2, 0, 0] : Fin 3 → ℕ) a + S1x672x128.size a ≤ S10x680x128.size a) (w3 : FVec Ideal S1x672x128 .f32) (inb3 : ∀ a, (![3, 0, 0] : Fin 3 → ℕ) a + S1x672x128.size a ≤ S10x680x128.size a) (w4 : FVec Ideal S1x672x128 .f32) (inb4 : ∀ a, (![4, 0, 0] : Fin 3 → ℕ) a + S1x672x128.size a ≤ S10x680x128.size a) (w5 : FVec Ideal S1x672x128 .f32) (inb5 : ∀ a, (![5, 0, 0] : Fin 3 → ℕ) a + S1x672x128.size a ≤ S10x680x128.size a) (w6 : FVec Ideal S1x672x128 .f32) (inb6 : ∀ a, (![6, 0, 0] : Fin 3 → ℕ) a + S1x672x128.size a ≤ S10x680x128.size a) (w7 : FVec Ideal S1x672x128 .f32) (inb7 : ∀ a, (![7, 0, 0] : Fin 3 → ℕ) a + S1x672x128.size a ≤ S10x680x128.size a) (w8 : FVec Ideal S1x672x128 .f32) (inb8 : ∀ a, (![8, 0, 0] : Fin 3 → ℕ) a + S1x672x128.size a ≤ S10x680x128.size a) (w9 : FVec Ideal S1x672x128 .f32) (inb9 : ∀ a, (![9, 0, 0] : Fin 3 → ℕ) a + S1x672x128.size a ≤ S10x680x128.size a)
    (h0 : w0 = k0_pay3 (F := Ideal) (arg10.view.readAt (Elt Ideal) (Rect.unit (s := S672x2048) ![0, 0] S672x2048.size inbA).toLoadRect X10) (arg11.view.readAt (Elt Ideal) (Rect.unit (s := S2048x1280) ![0, 0] S2048x256.size cb0).toLoadRect X11))
    (h1 : w1 = k0_pay4 (F := Ideal) (arg10.view.readAt (Elt Ideal) (Rect.unit (s := S672x2048) ![0, 0] S672x2048.size inbA).toLoadRect X10) (arg11.view.readAt (Elt Ideal) (Rect.unit (s := S2048x1280) ![0, 0] S2048x256.size cb0).toLoadRect X11))
    (h2 : w2 = k0_pay3 (F := Ideal) (arg10.view.readAt (Elt Ideal) (Rect.unit (s := S672x2048) ![0, 0] S672x2048.size inbA).toLoadRect X10) (arg11.view.readAt (Elt Ideal) (Rect.unit (s := S2048x1280) ![0, 256] S2048x256.size cb1).toLoadRect X11))
    (h3 : w3 = k0_pay4 (F := Ideal) (arg10.view.readAt (Elt Ideal) (Rect.unit (s := S672x2048) ![0, 0] S672x2048.size inbA).toLoadRect X10) (arg11.view.readAt (Elt Ideal) (Rect.unit (s := S2048x1280) ![0, 256] S2048x256.size cb1).toLoadRect X11))
    (h4 : w4 = k0_pay3 (F := Ideal) (arg10.view.readAt (Elt Ideal) (Rect.unit (s := S672x2048) ![0, 0] S672x2048.size inbA).toLoadRect X10) (arg11.view.readAt (Elt Ideal) (Rect.unit (s := S2048x1280) ![0, 512] S2048x256.size cb2).toLoadRect X11))
    (h5 : w5 = k0_pay4 (F := Ideal) (arg10.view.readAt (Elt Ideal) (Rect.unit (s := S672x2048) ![0, 0] S672x2048.size inbA).toLoadRect X10) (arg11.view.readAt (Elt Ideal) (Rect.unit (s := S2048x1280) ![0, 512] S2048x256.size cb2).toLoadRect X11))
    (h6 : w6 = k0_pay3 (F := Ideal) (arg10.view.readAt (Elt Ideal) (Rect.unit (s := S672x2048) ![0, 0] S672x2048.size inbA).toLoadRect X10) (arg11.view.readAt (Elt Ideal) (Rect.unit (s := S2048x1280) ![0, 768] S2048x256.size cb3).toLoadRect X11))
    (h7 : w7 = k0_pay4 (F := Ideal) (arg10.view.readAt (Elt Ideal) (Rect.unit (s := S672x2048) ![0, 0] S672x2048.size inbA).toLoadRect X10) (arg11.view.readAt (Elt Ideal) (Rect.unit (s := S2048x1280) ![0, 768] S2048x256.size cb3).toLoadRect X11))
    (h8 : w8 = k0_pay3 (F := Ideal) (arg10.view.readAt (Elt Ideal) (Rect.unit (s := S672x2048) ![0, 0] S672x2048.size inbA).toLoadRect X10) (arg11.view.readAt (Elt Ideal) (Rect.unit (s := S2048x1280) ![0, 1024] S2048x256.size cb4).toLoadRect X11))
    (h9 : w9 = k0_pay4 (F := Ideal) (arg10.view.readAt (Elt Ideal) (Rect.unit (s := S672x2048) ![0, 0] S672x2048.size inbA).toLoadRect X10) (arg11.view.readAt (Elt Ideal) (Rect.unit (s := S2048x1280) ![0, 1024] S2048x256.size cb4).toLoadRect X11))
    (hrest : ∀ p ∈ rest, ∀ x : p.1.shape.Idx, p.2 x = (zOf (arg10.view.read (Elt Ideal) X10) (arg11.view.read (Elt Ideal) X11)) (p.1.emb x)) (y : S10x680x128.Idx) (hy : (y 1).val < 672) :
    arg13.view.read (Elt Ideal) (arg13.view.writes (Elt Ideal) f (⟨Rect.unit (s := S10x680x128) ![9, 0, 0] S1x672x128.size inb9, w9⟩ :: ⟨Rect.unit (s := S10x680x128) ![8, 0, 0] S1x672x128.size inb8, w8⟩ :: ⟨Rect.unit (s := S10x680x128) ![7, 0, 0] S1x672x128.size inb7, w7⟩ :: ⟨Rect.unit (s := S10x680x128) ![6, 0, 0] S1x672x128.size inb6, w6⟩ :: ⟨Rect.unit (s := S10x680x128) ![5, 0, 0] S1x672x128.size inb5, w5⟩ :: ⟨Rect.unit (s := S10x680x128) ![4, 0, 0] S1x672x128.size inb4, w4⟩ :: ⟨Rect.unit (s := S10x680x128) ![3, 0, 0] S1x672x128.size inb3, w3⟩ :: ⟨Rect.unit (s := S10x680x128) ![2, 0, 0] S1x672x128.size inb2, w2⟩ :: ⟨Rect.unit (s := S10x680x128) ![1, 0, 0] S1x672x128.size inb1, w1⟩ :: ⟨Rect.unit (s := S10x680x128) ![0, 0, 0] S1x672x128.size inb0, w0⟩ :: rest)) y = (zOf (arg10.view.read (Elt Ideal) X10) (arg11.view.read (Elt Ideal) X11)) y := by
  refine read_writes_of_pieces arg13.view f (zOf (arg10.view.read (Elt Ideal) X10) (arg11.view.read (Elt Ideal) X11)) _ ?_ y (.inr (z_cover y hy _ fun g => ?_))
  · simp only [List.forall_mem_cons]
    exact ⟨z_piece false 4 9 rfl arg10 arg11 X10 X11 inb9 inbA cb4 w9 h9, z_piece true 4 8 rfl arg10 arg11 X10 X11 inb8 inbA cb4 w8 h8, z_piece false 3 7 rfl arg10 arg11 X10 X11 inb7 inbA cb3 w7 h7, z_piece true 3 6 rfl arg10 arg11 X10 X11 inb6 inbA cb3 w6 h6, z_piece false 2 5 rfl arg10 arg11 X10 X11 inb5 inbA cb2 w5 h5, z_piece true 2 4 rfl arg10 arg11 X10 X11 inb4 inbA cb2 w4 h4, z_piece false 1 3 rfl arg10 arg11 X10 X11 inb3 inbA cb1 w3 h3, z_piece true 1 2 rfl arg10 arg11 X10 X11 inb2 inbA cb1 w2 h2, z_piece false 0 1 rfl arg10 arg11 X10 X11 inb1 inbA cb0 w1 h1, z_piece true 0 0 rfl arg10 arg11 X10 X11 inb0 inbA cb0 w0 h0, hrest⟩
  · simp only [List.mem_cons]
    match g with
    | ⟨0, _⟩ => exact ⟨_, .inr (.inr (.inr (.inr (.inr (.inr (.inr (.inr (.inr (.inl rfl))))))))), inb0, rfl⟩
    | ⟨1, _⟩ => exact ⟨_, .inr (.inr (.inr (.inr (.inr (.inr (.inr (.inr (.inl rfl)))))))), inb1, rfl⟩
    | ⟨2, _⟩ => exact ⟨_, .inr (.inr (.inr (.inr (.inr (.inr (.inr (.inl rfl))))))), inb2, rfl⟩
    | ⟨3, _⟩ => exact ⟨_, .inr (.inr (.inr (.inr (.inr (.inr (.inl rfl)))))), inb3, rfl⟩
    | ⟨4, _⟩ => exact ⟨_, .inr (.inr (.inr (.inr (.inr (.inl rfl))))), inb4, rfl⟩
    | ⟨5, _⟩ => exact ⟨_, .inr (.inr (.inr (.inr (.inl rfl)))), inb5, rfl⟩
    | ⟨6, _⟩ => exact ⟨_, .inr (.inr (.inr (.inl rfl))), inb6, rfl⟩
    | ⟨7, _⟩ => exact ⟨_, .inr (.inr (.inl rfl)), inb7, rfl⟩
    | ⟨8, _⟩ => exact ⟨_, .inr (.inl rfl), inb8, rfl⟩
    | ⟨9, _⟩ => exact ⟨_, .inl rfl, inb9, rfl⟩

/-- The words of the columns' scales, read back after their store. -/
theorem words_read (arg4 : Memref sig .tc .vmem S64x1280 .i8) (arg12 : Memref sig .tc .vmem S64x1280 .i32) (X4 : BufTy.Contents (Elt Ideal) arg4.view.ty)
    (f : BufTy.Contents (Elt Ideal) arg12.view.ty) (inb : ∀ a, (![0, 0] : Fin 2 → ℕ) a + S64x1280.size a ≤ S64x1280.size a)
    (inb' : ∀ a, (![0, 0] : Fin 2 → ℕ) a + S64x1280.size a ≤ S64x1280.size a) (r : Fin 64) (q : Fin 1280) :
    arg12.view.read (Elt Ideal) (arg12.view.writes (Elt Ideal) f [⟨Rect.unit (s := S64x1280) ![0, 0] S64x1280.size inb,
      k0_pay104 (F := Ideal) (arg4.view.readAt (Elt Ideal) (Rect.unit (s := S64x1280) ![0, 0] S64x1280.size inb').toLoadRect X4)⟩]) (ix2 r q)
      = colWord (arg4.view.read (Elt Ideal) X4 (ix2 r q)) := by
  refine read_writes_of_pieces arg12.view f (fun y => colWord (arg4.view.read (Elt Ideal) X4 y)) _ ?_ (ix2 r q) (.inr ⟨_, List.mem_singleton_self _, ?_⟩)
  · simp only [List.forall_mem_cons, List.not_mem_nil, false_imp_iff, implies_true, _root_.and_true]
    exact fun x => (words_apply _ _).trans rfl
  · rw [Rect.mem_set_unit]
    intro a
    match a with
    | ⟨0, _⟩ => exact ⟨Nat.zero_le _, by show r.val < 0 + 64; omega⟩
    | ⟨1, _⟩ => exact ⟨Nat.zero_le _, by show q.val < 0 + 1280; omega⟩

end Cert.DraftIdeal.Gen

end
-- ==== Proof.DraftIdealBody.lean ====
/- The run of one grid point of the draft head. -/
module

public import proofs.«01_k».proof.Proof.DraftIdealFacts

@[expose] public section

set_option maxRecDepth 16384

noncomputable section

namespace Cert.DraftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode colWord read_writes_of_pieces readAt_unit_apply emb_unit_eq)

/-- The run of one grid point: the inputs are left as they were, the decoded states are in place, and the logits window holds the scaled products of the decoded operands. -/
theorem body_run (c : Dev nD) (i : grid0.Coords) (arg1 : Memref sig .tc .vmem S672x2048 .fp8e4m3) (harg1 : arg1.IsWhole) (arg2 : Memref sig .tc .vmem S672x64 .i8) (harg2 : arg2.IsWhole) (arg3 : Memref sig .tc .vmem S2048x1280 .fp8e4m3) (harg3 : arg3.IsWhole) (arg4 : Memref sig .tc .vmem S64x1280 .i8) (harg4 : arg4.IsWhole) (arg5 : Memref sig .tc .vmem S768x128 .i32) (harg5 : arg5.IsWhole) (arg6 : Memref sig .tc .vmem S96x7x1280 .bf16) (harg6 : arg6.IsWhole) (arg7 : Memref sig .tc .vmem S10x768x128 .f32) (harg7 : arg7.IsWhole) (arg8 : Memref sig .tc .vmem S768x128 .f32) (harg8 : arg8.IsWhole) (arg9 : Memref sig .tc .vmem S768x128 .f32) (harg9 : arg9.IsWhole) (arg10 : Memref sig .tc .vmem S672x2048 .bf16) (harg10 : arg10.IsWhole) (arg11 : Memref sig .tc .vmem S2048x1280 .bf16) (harg11 : arg11.IsWhole) (arg12 : Memref sig .tc .vmem S64x1280 .i32) (harg12 : arg12.IsWhole) (arg13 : Memref sig .tc .vmem S10x680x128 .f32) (harg13 : arg13.IsWhole) (arg14 : Memref sig .tc .vmem S768x128 .f32) (harg14 : arg14.IsWhole) (arg15 : Memref sig .tc .vmem S768x128 .f32) (harg15 : arg15.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (E : Set ℕ) (K : PUnit → sProp (MT nD τ sig Unit (Elt Ideal) ℕ (UR sig nD τ) ℕ)) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f) ∗ ⌜¬k0_cond1 i = 1#1 → ∀ (r : Fin 672) (q : Fin 2048), arg10.view.read (Elt Ideal) f (ix2 r q) = statesOf (arg1.view.read (Elt Ideal) X1) (arg2.view.read (Elt Ideal) X2) (ix2 r q)⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜∀ (b : Fin 96) (r : Fin 7) (q : Fin 1280), arg6.view.read (Elt Ideal) f (ix3 b r q) = headOf (arg1.view.read (Elt Ideal) X1) (arg2.view.read (Elt Ideal) X2) (arg3.view.read (Elt Ideal) X3) (arg4.view.read (Elt Ideal) X4) (ix3 b r q)⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f) ∗ ⌜∀ (r : Fin 672) (q : Fin 2048), arg10.view.read (Elt Ideal) f (ix2 r q) = statesOf (arg1.view.read (Elt Ideal) X1) (arg2.view.read (Elt Ideal) X2) (ix2 r q)⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) -∗ K PUnit.unit))
      ⊢ wp frame (wpE (defs₀ (F := Ideal)) Variants.none (c : Thread nD τ) none) E (cc0_draft_head (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_draft_head_eq_skeleton]
  by_cases hc1 : k0_cond1 i = 1#1 <;> by_cases hc2 : k0_cond2 i = 1#1
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10, %h10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; isplitl [H6]; · iexact H6
      ipureintro
      exact fun b r q => (hL11 b r q (by exact b.isLt)).trans (head_of_z _ (arg10.view.read (Elt Ideal) fL0) (arg11.view.read (Elt Ideal) fL1) _ _ _ _ (fun y hy => z_read arg10 arg11 arg13 fL0 fL1 _ _ _ _ _ _ _ _ _ _ _ _ _ _ _ _ _ _ _ _ _ _ _ _ _ _ _ _ rfl rfl rfl rfl rfl rfl rfl rfl rfl rfl (by simp only [List.forall_mem_cons, List.not_mem_nil, false_imp_iff, implies_true, _root_.and_true]; exact zero_piece _ _ _) y hy) (fun r q => hL3 r q (by exact r.isLt) (fun j => (iota_apply _ _ _ j).trans (congrArg (BitVec.ofNat 32) (by simp)))) (fun r q => hL7 r q (by exact r.isLt) _ (words_read arg4 arg12 X4 _ _ _ _ _)) b r q)
    isplitl [H7]
    · iexists _; iexact H7
    isplitl [H8]
    · iexists _; iexact H8
    isplitl [H9]
    · iexists _; iexact H9
    isplitl [H10]
    · iexists _; isplitl [H10]; · iexact H10
      ipureintro
      exact (fun r q => hL3 r q (by exact r.isLt) (fun j => (iota_apply _ _ _ j).trans (congrArg (BitVec.ofNat 32) (by simp))))
    isplitl [H11]
    · iexists _; iexact H11
    isplitl [H12]
    · iexists _; iexact H12
    isplitl [H13]
    · iexists _; iexact H13
    isplitl [H14]
    · iexists _; iexact H14
    · iexists _; iexact H15
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10, %h10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; isplitl [H6]; · iexact H6
      ipureintro
      exact fun b r q => (hL11 b r q (by exact b.isLt)).trans (head_of_z _ (arg10.view.read (Elt Ideal) fL0) (arg11.view.read (Elt Ideal) fL1) _ _ _ _ (fun y hy => z_read arg10 arg11 arg13 fL0 fL1 _ _ _ _ _ _ _ _ _ _ _ _ _ _ _ _ _ _ _ _ _ _ _ _ _ _ _ _ rfl rfl rfl rfl rfl rfl rfl rfl rfl rfl (by simp only [List.forall_mem_cons, List.not_mem_nil, false_imp_iff, implies_true, _root_.and_true]; exact zero_piece _ _ _) y hy) (fun r q => hL3 r q (by exact r.isLt) (fun j => (iota_apply _ _ _ j).trans (congrArg (BitVec.ofNat 32) (by simp)))) (fun r q => hL7 r q (by exact r.isLt) _ (words_read arg4 arg12 X4 _ _ _ _ _)) b r q)
    isplitl [H7]
    · iexists _; iexact H7
    isplitl [H8]
    · iexists _; iexact H8
    isplitl [H9]
    · iexists _; iexact H9
    isplitl [H10]
    · iexists _; isplitl [H10]; · iexact H10
      ipureintro
      exact (fun r q => hL3 r q (by exact r.isLt) (fun j => (iota_apply _ _ _ j).trans (congrArg (BitVec.ofNat 32) (by simp))))
    isplitl [H11]
    · iexists _; iexact H11
    isplitl [H12]
    · iexists _; iexact H12
    isplitl [H13]
    · iexists _; iexact H13
    isplitl [H14]
    · iexists _; iexact H14
    · iexists _; iexact H15
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10, %h10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; isplitl [H6]; · iexact H6
      ipureintro
      exact fun b r q => (hL7 b r q (by exact b.isLt)).trans (head_of_z _ (arg10.view.read (Elt Ideal) f10) (arg11.view.read (Elt Ideal) fL0) _ _ _ _ (fun y hy => z_read arg10 arg11 arg13 f10 fL0 _ _ _ _ _ _ _ _ _ _ _ _ _ _ _ _ _ _ _ _ _ _ _ _ _ _ _ _ rfl rfl rfl rfl rfl rfl rfl rfl rfl rfl (fun _ h => absurd h List.not_mem_nil) y hy) (h10 hc1) (fun r q => hL3 r q (by exact r.isLt) _ (words_read arg4 arg12 X4 _ _ _ _ _)) b r q)
    isplitl [H7]
    · iexists _; iexact H7
    isplitl [H8]
    · iexists _; iexact H8
    isplitl [H9]
    · iexists _; iexact H9
    isplitl [H10]
    · iexists _; isplitl [H10]; · iexact H10
      ipureintro
      exact h10 hc1
    isplitl [H11]
    · iexists _; iexact H11
    isplitl [H12]
    · iexists _; iexact H12
    isplitl [H13]
    · iexists _; iexact H13
    isplitl [H14]
    · iexists _; iexact H14
    · iexists _; iexact H15
  · unfold cc0_draft_head_skel
    simp only [k0_part24_eq_skeleton, k0_part25_eq_skeleton]
    iintro ⟨H1, H2, H3, H4, H5, ⟨%f6, H6⟩, ⟨%f7, H7⟩, ⟨%f8, H8⟩, ⟨%f9, H9⟩, ⟨%f10, H10, %h10⟩, ⟨%f11, H11⟩, ⟨%f12, H12⟩, ⟨%f13, H13⟩, ⟨%f14, H14⟩, ⟨%f15, H15⟩, Hk⟩
    sl_exec (disch := first | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexists _; isplitl [H6]; · iexact H6
      ipureintro
      exact fun b r q => (hL7 b r q (by exact b.isLt)).trans (head_of_z _ (arg10.view.read (Elt Ideal) f10) (arg11.view.read (Elt Ideal) fL0) _ _ _ _ (fun y hy => z_read arg10 arg11 arg13 f10 fL0 _ _ _ _ _ _ _ _ _ _ _ _ _ _ _ _ _ _ _ _ _ _ _ _ _ _ _ _ rfl rfl rfl rfl rfl rfl rfl rfl rfl rfl (fun _ h => absurd h List.not_mem_nil) y hy) (h10 hc1) (fun r q => hL3 r q (by exact r.isLt) _ (words_read arg4 arg12 X4 _ _ _ _ _)) b r q)
    isplitl [H7]
    · iexists _; iexact H7
    isplitl [H8]
    · iexists _; iexact H8
    isplitl [H9]
    · iexists _; iexact H9
    isplitl [H10]
    · iexists _; isplitl [H10]; · iexact H10
      ipureintro
      exact h10 hc1
    isplitl [H11]
    · iexists _; iexact H11
    isplitl [H12]
    · iexists _; iexact H12
    isplitl [H13]
    · iexists _; iexact H13
    isplitl [H14]
    · iexists _; iexact H14
    · iexists _; iexact H15

end Cert.DraftIdeal.Gen

end
-- ==== Proof.DraftIdealFrame.lean ====
/- The launch of the draft head: the blocks its windows hold, what a grid point is given and leaves, and the run of the whole program. -/
module

public import proofs.«01_k».proof.Proof.DraftIdealBody
public import proofs.«01_k».proof.Proof.Gen.DraftIdeal.Launch
public import Idealize.ShloMosaic.Lib.Pipeline.FrameBody
public import Idealize.ShloMosaic.Lib.WordCmp
public import Idealize.ShloMosaic.Lib.Claim

@[expose] public section

set_option maxRecDepth 16384

noncomputable section

namespace Cert.DraftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode)

local notation "𝕄" => MT nD τ sig Unit (Elt Ideal) ℕ (UR sig nD τ) ℕ

variable (m : (ℓ : Loc nD τ sig) → Buf (Elt Ideal) ℓ) (ρ : Dev nD → PrngReg)

/-! ## @main up to the region -/

/-- Core `c`'s TensorCore buffers when the region is entered: after the host operations `hostOps0`, `hostOps0_1`, `hostOps0_2`. -/
abbrev V (c : Dev nD) (b : Ref sig .tc) : Buf (Elt Ideal) ((c : Thread nD τ).loc b) :=
  StableHlo.after (List.flatten [hostOps0, hostOps0_1, hostOps0_2]) (fun b => m (c, b)) b

theorem hostOps0_fresh : (hostOps0 : List (HloOp τ sig (Elt Ideal))).Forall fun op => op.fresh = ∅ := by
  simp only [List.Forall]; repeat' constructor
theorem hostOps0_1_fresh : (hostOps0_1 : List (HloOp τ sig (Elt Ideal))).Forall fun op => op.fresh = ∅ := by
  simp only [List.Forall]; repeat' constructor
theorem hostOps0_2_fresh : (hostOps0_2 : List (HloOp τ sig (Elt Ideal))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := Ideal)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it (`V`). -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The buffer of input window 0 holds its block at every point. -/
theorem before0_0_of {c : Dev nD} (dat : Dat τ (Elt Ideal) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 holds its block at every point. -/
theorem before0_1_of {c : Dev nD} (dat : Dat τ (Elt Ideal) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 holds its block at every point. -/
theorem before0_2_of {c : Dev nD} (dat : Dat τ (Elt Ideal) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of input window 3 holds its block at every point. -/
theorem before0_3_of {c : Dev nD} (dat : Dat τ (Elt Ideal) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of input window 4 holds its block at every point. -/
theorem before0_4_of {c : Dev nD} (dat : Dat τ (Elt Ideal) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- Each window's current staging memref at point `t`, spelled as the pipeline passes it (`bodyAt0`), and its wholeness. -/
abbrev ms0_0 (t : Fin cfg0.N) : Memref sig .tc .vmem S672x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S672x64 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1280 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x7x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10x768x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S672x2048 .bf16 := Memref.whole cc0_scratch0
abbrev scM0_1 : Memref sig .tc .vmem S2048x1280 .bf16 := Memref.whole cc0_scratch1
abbrev scM0_2 : Memref sig .tc .vmem S64x1280 .i32 := Memref.whole cc0_scratch2
abbrev scM0_3 : Memref sig .tc .vmem S10x680x128 .f32 := Memref.whole cc0_scratch3
abbrev scM0_4 : Memref sig .tc .vmem S768x128 .f32 := Memref.whole cc0_scratch4
abbrev scM0_5 : Memref sig .tc .vmem S768x128 .f32 := Memref.whole cc0_scratch5
/-- What the launch hands the first point: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel body at point `t`, on what the pipeline calls it with (`defs₀`'s row at the slots). -/
abbrev bodyAt0 (t : Fin cfg0.N) : Prog (TpuEff nD τ sig (Elt Ideal) Λ₀ .tc) PUnit :=
  cc0_draft_head (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-- The decoded states' operands, as the region finds them. -/
abbrev hs (c : Dev nD) : Vec Ideal S672x2048 .fp8e4m3 := V m c main_v3
abbrev sc (c : Dev nD) : Vec Ideal S672x64 .i8 := V m c main_v4

theorem idx_facts0 : ∀ t : Fin cfg0.N, win0_0.index t (0 : Fin 2) = 0 ∧ win0_0.index t (1 : Fin 2) = 0 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)

/-- The states' window is on the whole array at every point. -/
theorem iblk_states (c : Dev nD) (t : Fin cfg0.N) : iblk m c 0 t = hs m c := by
  obtain ⟨e0, e1⟩ := idx_facts0 t
  funext y
  refine congrArg (V m c main_v3) (funext fun a => Fin.ext ?_)
  match a with
  | ⟨0, _⟩ => show win0_0.index t (0 : Fin 2) * 672 + 1 * (y 0).val = (y 0).val; rw [e0]; omega
  | ⟨1, _⟩ => show win0_0.index t (1 : Fin 2) * 2048 + 1 * (y 1).val = (y 1).val; rw [e1]; omega
/-- So is the window of the states' scales. -/
theorem iblk_scales (c : Dev nD) (t : Fin cfg0.N) : iblk m c 1 t = sc m c := by
  obtain ⟨e0, e1⟩ := idx_facts1 t
  funext y
  refine congrArg (V m c main_v4) (funext fun a => Fin.ext ?_)
  match a with
  | ⟨0, _⟩ => show win0_1.index t (0 : Fin 2) * 672 + 1 * (y 0).val = (y 0).val; rw [e0]; omega
  | ⟨1, _⟩ => show win0_1.index t (1 : Fin 2) * 64 + 1 * (y 1).val = (y 1).val; rw [e1]; omega

/-- What a point's logits window ends holding. -/
def outAt (c : Dev nD) (t : Fin cfg0.N) : Vec Ideal S96x7x1280 .bf16 := headOf (hs m c) (sc m c) (iblk m c 2 t) (iblk m c 3 t)

/-- What is held before point `n`: the scratch buffers at some contents, the decoded states in place after the first point, and the generator register. -/
def PhiS (c : Dev nD) (n : ℕ) : sProp 𝕄 :=
  iprop(iprop((∃ d, owns (c : Thread nD τ) scM0_0 fullShare d ∗ ⌜n ≠ 0 → ∀ (r : Fin 672) (q : Fin 2048), d (ix2 r q) = statesOf (hs m c) (sc m c) (ix2 r q)⌝) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

/-- The outputs of which nothing is said. -/
def fgt : Fin cfg0.W → Bool := fun w => match w with
  | ⟨0, _⟩ => false | ⟨1, _⟩ => false | ⟨2, _⟩ => false | ⟨3, _⟩ => false | ⟨4, _⟩ => false
  | ⟨5, _⟩ => false | ⟨6, _⟩ => true | ⟨7, _⟩ => true | ⟨8, _⟩ => true

/-- The proof data: the arrays as the region finds them, the inputs' blocks left in place, the logits as stated. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => (cfg0.win 6).stage (cfg0.slots t 6) |>.view.read (Elt Ideal) ((cfg0.win 6).stage (cfg0.slots t 6)).view.junk
    | ⟨7, _⟩ => (cfg0.win 7).stage (cfg0.slots t 7) |>.view.read (Elt Ideal) ((cfg0.win 7).stage (cfg0.slots t 7)).view.junk
    | ⟨8, _⟩ => (cfg0.win 8).stage (cfg0.slots t 8) |>.view.read (Elt Ideal) ((cfg0.win 8).stage (cfg0.slots t 8)).view.junk
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, and what it leaves. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ X, owns (c : Thread nD τ) (ms0_6 t) fullShare X) ∗ (∃ X, owns (c : Thread nD τ) (ms0_7 t) fullShare X) ∗ (∃ X, owns (c : Thread nD τ) (ms0_8 t) fullShare X))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ (∃ X, owns (c : Thread nD τ) (ms0_6 t) fullShare X) ∗ (∃ X, owns (c : Thread nD τ) (ms0_7 t) fullShare X) ∗ (∃ X, owns (c : Thread nD τ) (ms0_8 t) fullShare X))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, after0_0, after0_1, after0_2, after0_3, after0_4, after0_5]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  unfold PhiS owns
  iintro ⟨⟨⟨⟨%d10, ⟨%f10, %e10, H10⟩, %k10⟩, ⟨%d11, %f11, %e11, H11⟩, ⟨%d12, %f12, %e12, H12⟩, ⟨%d13, %f13, %e13, H13⟩, ⟨%d14, %f14, %e14, H14⟩, ⟨%d15, %f15, %e15, H15⟩⟩, Hg⟩, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) f1 f2 f3 f4 f5 Set.univ _
  isplitl [H1]
  · iexact H1
  isplitl [H2]
  · iexact H2
  isplitl [H3]
  · iexact H3
  isplitl [H4]
  · iexact H4
  isplitl [H5]
  · iexact H5
  isplitl [H6]
  · iexists _; iexact H6
  isplitl [H7]
  · iexists _; iexact H7
  isplitl [H8]
  · iexists _; iexact H8
  isplitl [H9]
  · iexists _; iexact H9
  isplitl [H10]
  · iexists _; isplitl [H10]; · iexact H10
    ipureintro
    intro hc r q
    rw [e1, e2, iblk_states, iblk_scales]
    refine (congrFun e10 _).trans (k10 (fun h => hc ((hcond0_0 t).mpr (by rw [h]))) r q)
  isplitl [H11]
  · iexists _; iexact H11
  isplitl [H12]
  · iexists _; iexact H12
  isplitl [H13]
  · iexists _; iexact H13
  isplitl [H14]
  · iexists _; iexact H14
  isplitl [H15]
  · iexists _; iexact H15
  · iintro ⟨H1, H2, H3, H4, H5, ⟨%u6, H6, %k6⟩, ⟨%u7, H7⟩, ⟨%u8, H8⟩, ⟨%u9, H9⟩, ⟨%u10, H10, %w10⟩, ⟨%u11, H11⟩, ⟨%u12, H12⟩, ⟨%u13, H13⟩, ⟨%u14, H14⟩, ⟨%u15, H15⟩⟩
    isplitl [H10 H11 H12 H13 H14 H15 Hg]
    · isplitl [H10 H11 H12 H13 H14 H15]
      · isplitl [H10]
        · iexists _; isplitl [H10]
          · iexists _; isplitr
            swap; · iexact H10
            ipureintro; rfl
          · ipureintro
            intro _ r q
            refine (w10 r q).trans ?_
            rw [e1, e2, iblk_states, iblk_scales]
        isplitl [H11]
        · iexists _; iexists _; isplitr
          swap; · iexact H11
          ipureintro; rfl
        isplitl [H12]
        · iexists _; iexists _; isplitr
          swap; · iexact H12
          ipureintro; rfl
        isplitl [H13]
        · iexists _; iexists _; isplitr
          swap; · iexact H13
          ipureintro; rfl
        isplitl [H14]
        · iexists _; iexists _; isplitr
          swap; · iexact H14
          ipureintro; rfl
        · iexists _; iexists _; isplitr
          swap; · iexact H15
          ipureintro; rfl
      · iexact Hg
    isplitl [Ho]
    · iexact Ho
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro
      funext y
      have hy : y = ix3 (⟨(y 0).val, (y 0).isLt⟩ : Fin 96) (⟨(y 1).val, (y 1).isLt⟩ : Fin 7) (⟨(y 2).val, (y 2).isLt⟩ : Fin 1280) := by
        funext a
        match a with
        | ⟨0, _⟩ => rfl
        | ⟨1, _⟩ => rfl
        | ⟨2, _⟩ => rfl
      rw [e1, e2, e3, e4, iblk_states, iblk_scales] at k6
      rw [hy]
      exact k6 _ _ _
    isplitl [H7]
    · iexists _; iexists _; isplitr
      swap; · iexact H7
      ipureintro; rfl
    isplitl [H8]
    · iexists _; iexists _; isplitr
      swap; · iexact H8
      ipureintro; rfl
    · iexists _; iexists _; isplitr
      swap; · iexact H9
      ipureintro; rfl

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationLoose (dats m 0 c) (defs₀ (F := Ideal)) Variants.none () Set.univ fgt := fun t => by
  rw [bigSep_W0, bigSep_W0, defs₀_row]
  exact sound_body m c t

theorem hin (c : Dev nD) : Pipeline.ΦA spec0 c ⊢ (dats m 0 c).Φ 0 := by
  rw [show (dats m 0 c).Φ 0 = PhiS m c 0 from rfl, PhiA0_eq]
  unfold PhiS
  iintro ⟨⟨⟨%d, H⟩, HS⟩, Hg⟩
  isplitr [Hg]
  · isplitl [H]
    · iexists _; isplitl [H]; · iexact H
      ipureintro; exact fun h => absurd rfl h
    · iexact HS
  · iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨⟨%d, H, -⟩, HS⟩, Hg⟩
  isplitr [Hg]
  · isplitl [H]
    · iexists _; iexact H
    · iexact HS
  · iexact Hg

set_option backward.isDefEq.respectTransparency.types false in
/-- The run of the whole program. -/
theorem run_main : θ_run defs (onTc (τ := τ) (main (F := Ideal))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hin := hin m) (hout := hout m)
    (hQ' := fun _ h => h)

/-- The arguments after the run. -/
theorem kept (r : PUnit × MemSt nD τ sig (Elt Ideal)) (h : Pipeline.RDat.FramePost cfg0 (fun c => (dats m 0 c).toRForget fgt) (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩

/-- Every run ends with the arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main m ρ)

end Cert.DraftIdeal.Gen

end
-- ==== Proof.Reference.lean ====
/- Batches of rows and one run of rows; the temperature and the gain. -/
module

public import proofs.«01_k».proof.Proof.Scale
public import Idealize.ShloMosaic.Lib.Pointwise
public import Idealize.ShloMosaic.Lib.Pipeline.Value

@[expose] public section

noncomputable section

namespace Cert.Proof

open Idealize.ShloMosaic

variable {α : Type}

/-- Batches of rows read as one run of rows. -/
theorem rows_apply {b s d R : ℕ} (x : (⟨3, ![b, s, d]⟩ : Shape).Idx → α) (h : (⟨3, ![b, s, d]⟩ : Shape).ShapeCasts ⟨2, ![R, d]⟩)
    (i : Fin b) (j : Fin s) (k : Fin d) (r : Fin R) (hr : r.val = i.val * s + j.val) :
    shapeCast ⟨2, ![R, d]⟩ x h (ix2 r k) = x (ix3 i j k) :=
  shapeCast_apply x h _ _ (by
    rw [rowMajor_val3 _ (s * d) d rfl rfl, rowMajor_val2 _ d rfl]
    show i.val * (s * d) + j.val * d + k.val = r.val * d + k.val
    rw [hr]; ring)

/-- One run of rows read as batches. -/
theorem batches_apply {b s d R : ℕ} (x : (⟨2, ![R, d]⟩ : Shape).Idx → α) (h : (⟨2, ![R, d]⟩ : Shape).ShapeCasts ⟨3, ![b, s, d]⟩)
    (i : Fin b) (j : Fin s) (k : Fin d) (r : Fin R) (hr : r.val = i.val * s + j.val) :
    shapeCast ⟨3, ![b, s, d]⟩ x h (ix3 i j k) = x (ix2 r k) :=
  shapeCast_apply x h _ _ (by
    rw [rowMajor_val3 _ (s * d) d rfl rfl, rowMajor_val2 _ d rfl]
    show r.val * d + k.val = i.val * (s * d) + j.val * d + k.val
    rw [hr]; ring)

/-- A product divided by the temperature is the product times the gain. -/
theorem temp_gain (a : EReal) : Ideal.div a ((7 / 10 : ℝ) : EReal) = a * ((10 / 7 : ℝ) : EReal) := by
  rw [Ideal.div_coe (by norm_num)]; norm_num

end Cert.Proof

end
-- ==== Proof.DraftIdealValue.lean ====
/- The array of logits the draft head leaves, and the reference's, compared over the ideal values. -/
module

public import proofs.«01_k».proof.Proof.DraftIdealFrame
public import proofs.«01_k».proof.Proof.Reference
public import proofs.«01_k».proof.Proof.Gen.DraftRefIdeal.Value
public import Idealize.ShloMosaic.Lib.StableHlo.RunRead

@[expose] public section

set_option maxRecDepth 16384

noncomputable section

namespace Cert.DraftIdeal.Gen

open Idealize.ShloMosaic Idealize.ShloMosaic.TcCoe Idealize.SL.Sem
open Cert.Proof (decode refScale rows_apply batches_apply temp_gain)

/-- The head: the products of the decoded states with the decoded weights, times the gain. -/
def head (h : Vec Ideal S96x7x2048 .fp8e4m3) (sc : Vec Ideal S96x7x64 .i8) (w : Vec Ideal S2048x32000 .fp8e4m3) (ws : Vec Ideal S64x32000 .i8)
    (b : Fin 96) (r : Fin 7) (v : Fin 32000) : EReal :=
  (∑ k : Fin 2048, (h (ix3 b r k) * decode (sc (ix3 b r (⟨k.val / 32, by omega⟩ : Fin 64))))
      * (w (ix2 k v) * decode (ws (ix2 (⟨k.val / 32, by omega⟩ : Fin 64) v)))) * ((10 / 7 : ℝ) : EReal)

/-- What the reference computes is the head. -/
theorem reference_eq (a0 : Vec Ideal S96x7x2048 .fp8e4m3) (a1 : Vec Ideal S96x7x64 .i8) (a2 : Vec Ideal S2048x32000 .fp8e4m3) (a3 : Vec Ideal S64x32000 .i8)
    (b : Fin 96) (r : Fin 7) (v : Fin 32000) :
    Cert.DraftRefIdeal.Gen.k0_pay1 (F := Ideal) a0 a1 a2 a3 (ix3 b r v) = head a0 a1 a2 a3 b r v := by
  unfold Cert.DraftRefIdeal.Gen.k0_pay1
  refine (batches_apply (b := 96) (s := 7) (d := 32000) (R := 672) _ _ b r v ⟨7 * b.val + r.val, by omega⟩ (by show 7 * b.val + r.val = b.val * 7 + r.val; omega)).trans ?_
  simp only [pointwise]
  rw [show (Named.named Cert.DraftRefIdeal.κ "temp" 0x3F333333#32 : Ideal .f32) = ((7 / 10 : ℝ) : EReal) from IdealRules.named_const.ideal_named_scalar _ _ _ _ rfl,
    temp_gain, zero_add]
  refine congrArg (fun a : EReal => a * ((10 / 7 : ℝ) : EReal)) (Finset.sum_congr rfl fun k _ => ?_)
  exact congrArg₂ (fun a b : EReal => a * b) (congrArg (fun a : EReal => a0 (ix3 b r k) * a) (refScale _)) (congrArg (fun a : EReal => a2 (ix2 k v) * a) (refScale _))

/-- The states in one run of rows. -/
theorem hs_apply (m : (ℓ : Loc nD τ sig) → Buf (Elt Ideal) ℓ) (c : Dev nD) (b : Fin 96) (r : Fin 7) (k : Fin 2048) :
    hs m c (ix2 (⟨7 * b.val + r.val, by omega⟩ : Fin 672) k) = m ((c : Thread nD τ).loc main_arg0) (ix3 b r k) := by
  have e : hs m c = shapeCast S672x2048 (m ((c : Thread nD τ).loc main_arg0)) shapeCasts_S96x7x2048_S672x2048 := by
    show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append]
    after_reads_simp
    rfl
  refine (congrFun e _).trans ?_
  exact rows_apply (b := 96) (s := 7) (d := 2048) (R := 672) _ _ b r k _ (by show 7 * b.val + r.val = b.val * 7 + r.val; omega)

/-- The states' scales in one run of rows. -/
theorem sc_apply (m : (ℓ : Loc nD τ sig) → Buf (Elt Ideal) ℓ) (c : Dev nD) (b : Fin 96) (r : Fin 7) (k : Fin 64) :
    sc m c (ix2 (⟨7 * b.val + r.val, by omega⟩ : Fin 672) k) = m ((c : Thread nD τ).loc main_arg1) (ix3 b r k) := by
  have e : sc m c = shapeCast S672x64 (m ((c : Thread nD τ).loc main_arg1)) shapeCasts_S96x7x64_S672x64 := by
    show StableHlo.after (List.flatten [hostOps0, hostOps0_1, hostOps0_2]) (fun b => m (c, b)) (Proc.devRef .tc main_v4) = _
    simp only [hostOps0, hostOps0_1, hostOps0_2, List.flatten_cons, List.flatten_nil, List.append_nil, List.cons_append, List.nil_append]
    after_reads_simp
    rfl
  refine (congrFun e _).trans ?_
  exact rows_apply (b := 96) (s := 7) (d := 64) (R := 672) _ _ b r k _ (by show 7 * b.val + r.val = b.val * 7 + r.val; omega)

variable (m : (ℓ : Loc nD τ sig) → Buf (Elt Ideal) ℓ) (ρ : Dev nD → PrngReg)

/-- The logits: the head of the arguments. -/
def G (c : Dev nD) (i : S96x7x32000.Idx) : EReal :=
  head (m ((c : Thread nD τ).loc main_arg0)) (m ((c : Thread nD τ).loc main_arg1)) (m ((c : Thread nD τ).loc main_arg2)) (m ((c : Thread nD τ).loc main_arg3))
    (⟨(i 0).val, (i 0).isLt⟩ : Fin 96) (⟨(i 1).val, (i 1).isLt⟩ : Fin 7) (⟨(i 2).val, (i 2).isLt⟩ : Fin 32000)

theorem idx_facts2 : ∀ t : Fin cfg0.N, win0_2.index t (0 : Fin 2) = 0 ∧ win0_2.index t (1 : Fin 2) = t.val :=
  (by decide +kernel : ∀ t : Fin grid0.N, _)
theorem idx_facts3 : ∀ t : Fin cfg0.N, win0_3.index t (0 : Fin 2) = 0 ∧ win0_3.index t (1 : Fin 2) = t.val :=
  (by decide +kernel : ∀ t : Fin grid0.N, _)
theorem idx_facts5 : ∀ t : Fin cfg0.N, win0_5.index t (0 : Fin 3) = 0 ∧ win0_5.index t (1 : Fin 3) = 0 ∧ win0_5.index t (2 : Fin 3) = t.val
    ∧ (cfg0.win 5).flush t = true :=
  (by decide +kernel : ∀ t : Fin grid0.N, _)

/-- Point `t`'s weights are columns `1280 t` onward. -/
theorem iblk_weights (c : Dev nD) (t : Fin cfg0.N) (k : Fin 2048) (q : Fin 1280) (v : Fin 32000) (hv : v.val = 1280 * t.val + q.val) :
    iblk m c 2 t (ix2 k q) = m ((c : Thread nD τ).loc main_arg2) (ix2 k v) := by
  obtain ⟨e0, e1⟩ := idx_facts2 t
  rw [← V_main_arg2 m c]
  refine congrArg (V m c main_arg2) (funext fun a => Fin.ext ?_)
  match a with
  | ⟨0, _⟩ => show win0_2.index t (0 : Fin 2) * 2048 + 1 * k.val = k.val; rw [e0]; omega
  | ⟨1, _⟩ => show win0_2.index t (1 : Fin 2) * 1280 + 1 * q.val = v.val; rw [e1]; omega
/-- So are its scales. -/
theorem iblk_weightScales (c : Dev nD) (t : Fin cfg0.N) (k : Fin 64) (q : Fin 1280) (v : Fin 32000) (hv : v.val = 1280 * t.val + q.val) :
    iblk m c 3 t (ix2 k q) = m ((c : Thread nD τ).loc main_arg3) (ix2 k v) := by
  obtain ⟨e0, e1⟩ := idx_facts3 t
  rw [← V_main_arg3 m c]
  refine congrArg (V m c main_arg3) (funext fun a => Fin.ext ?_)
  match a with
  | ⟨0, _⟩ => show win0_3.index t (0 : Fin 2) * 64 + 1 * k.val = k.val; rw [e0]; omega
  | ⟨1, _⟩ => show win0_3.index t (1 : Fin 2) * 1280 + 1 * q.val = v.val; rw [e1]; omega

/-- What a point writes back is its block of the logits. -/
theorem flushed5_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨e0, e1, e2, -⟩ := idx_facts5 t
  funext y
  have hy0 : (y 0).val < 96 := (y 0).isLt
  have hy1 : (y 1).val < 7 := (y 1).isLt
  have hy2 : (y 2).val < 1280 := (y 2).isLt
  have ht : t.val < 25 := Nat.lt_of_lt_of_eq t.isLt N_0
  have hb0 : (((cfg0.win 5).blk t).view.emb y 0).val = win0_5.index t (0 : Fin 3) * 96 + 1 * (y 0).val := rfl
  have hb1 : (((cfg0.win 5).blk t).view.emb y 1).val = win0_5.index t (1 : Fin 3) * 7 + 1 * (y 1).val := rfl
  have hb2 : (((cfg0.win 5).blk t).view.emb y 2).val = win0_5.index t (2 : Fin 3) * 1280 + 1 * (y 2).val := rfl
  rw [e0] at hb0; rw [e1] at hb1; rw [e2] at hb2
  show headOf (hs m c) (sc m c) (iblk m c 2 t) (iblk m c 3 t) ((cfg0.win 5).xinj (grid0.coords t) y) = G m c (((cfg0.win 5).blk t).view.emb y)
  have hG : G m c (((cfg0.win 5).blk t).view.emb y) = head (m ((c : Thread nD τ).loc main_arg0)) (m ((c : Thread nD τ).loc main_arg1)) (m ((c : Thread nD τ).loc main_arg2)) (m ((c : Thread nD τ).loc main_arg3))
      (⟨(y 0).val, hy0⟩ : Fin 96) (⟨(y 1).val, hy1⟩ : Fin 7) (⟨1280 * t.val + (y 2).val, by omega⟩ : Fin 32000) := by
    unfold G
    congr 1
    · exact Fin.ext (hb0.trans (by show _ = (y 0).val; omega))
    · exact Fin.ext (hb1.trans (by show _ = (y 1).val; omega))
    · exact Fin.ext (hb2.trans (by show _ = 1280 * t.val + (y 2).val; omega))
  rw [hG]
  unfold headOf head statesOf
  refine congrArg (fun a : EReal => a * ((10 / 7 : ℝ) : EReal)) (Finset.sum_congr rfl fun k _ => ?_)
  refine congrArg₂ (fun a b : EReal => a * b) (congrArg₂ (fun a b : EReal => a * b) (hs_apply m c ⟨(y 0).val, hy0⟩ ⟨(y 1).val, hy1⟩ k) (congrArg decode (sc_apply m c ⟨(y 0).val, hy0⟩ ⟨(y 1).val, hy1⟩ _)))
    (congrArg₂ (fun a b : EReal => a * b) (iblk_weights m c t k ⟨(y 2).val, hy2⟩ _ rfl) (congrArg decode (iblk_weightScales m c t _ ⟨(y 2).val, hy2⟩ _ rfl)))

theorem mem_blk5 (t : Fin cfg0.N) (i : S96x7x32000.Idx) :
    i ∈ ((cfg0.win 5).blk t).view.set ↔ ∀ a : Fin 3, win0_5.index t a * S96x7x1280.size a ≤ (i a).val ∧ (i a).val < win0_5.index t a * S96x7x1280.size a + S96x7x1280.size a := by
  show i ∈ ((View.whole main_v5_0).slice (win0_5.rect t)).set ↔ _
  rw [View.set_slice_whole, Rect.mem_set_unit]
  exact Iff.rfl

/-- Every index of the logits is in some point's block. -/
theorem covered5 (i : S96x7x32000.Idx) : ∃ t : Fin cfg0.N, (cfg0.win 5).flush t = true ∧ i ∈ ((cfg0.win 5).blk t).view.set := by
  have hi0 : (i 0).val < 96 := (i 0).isLt
  have hi1 : (i 1).val < 7 := (i 1).isLt
  have hi2 : (i 2).val < 32000 := (i 2).isLt
  have hN : (i 2).val / 1280 < cfg0.N := Nat.lt_of_lt_of_eq (by omega : (i 2).val / 1280 < 25) N_0.symm
  obtain ⟨e0, e1, e2, hf⟩ := idx_facts5 ⟨(i 2).val / 1280, hN⟩
  refine ⟨⟨(i 2).val / 1280, hN⟩, hf, ?_⟩
  rw [mem_blk5]
  intro a
  match a with
  | ⟨0, _⟩ => show win0_5.index _ (0 : Fin 3) * 96 ≤ (i 0).val ∧ (i 0).val < win0_5.index _ (0 : Fin 3) * 96 + 96; rw [e0]; omega
  | ⟨1, _⟩ => show win0_5.index _ (1 : Fin 3) * 7 ≤ (i 1).val ∧ (i 1).val < win0_5.index _ (1 : Fin 3) * 7 + 7; rw [e1]; omega
  | ⟨2, _⟩ => show win0_5.index _ (2 : Fin 3) * 1280 ≤ (i 2).val ∧ (i 2).val < win0_5.index _ (2 : Fin 3) * 1280 + 1280; rw [e2]; show (i 2).val / 1280 * 1280 ≤ _ ∧ _ < (i 2).val / 1280 * 1280 + 1280; omega

/-- Every run ends with the logits the head of the arguments, and the arguments as they were. -/
theorem run : θ_run defs (onTc (τ := τ) (main (F := Ideal))) ⟨m, fun _ => 0, ρ⟩ fun r => ∀ c : Dev nD,
      r.2.mem ((c.tc : Thread nD τ).loc main_v5_0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (((dats m 0 c).toRForget_arrAt_iff (fgt := fgt) (w := 5) rfl cfg0.N _).mp ((h.1 c).1 5)).trans
        ((dats m 0 c).arrAt_eq_of_cover 5 (G m c) (fun t _ => flushed5_eq m c t) covered5),
      kept m r h.1 c⟩) (run_main m ρ)

end Cert.DraftIdeal.Gen

end
-- ==== Proof.TargetGather.lean ====
/- The counted loops of the target head that gather logits by token and reduce lanes, by their invariants. -/
module

public import proofs.«01_k».proof.Proof.Gen.Target.Loops

@[expose] public section

set_option maxRecDepth 16384

noncomputable section

namespace Cert.Target.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option warn.classDefReducibility false in
/-- A loop that gathers logits by token. -/
@[sl_loop] def head_t4 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v48 : BitVec 32) (v50 : Elt F .i32) (k0_hw1 : k0_chk1 v50) (v51 : BitVec 32) (v53 : BitVec 32) (v55 : Vec F S1x128 .i32) (v60 : Vec F S1x128 .i32) (X18 : BufTy.Contents (Elt F) arg18.view.ty) :
    LoopInvTy_k0_t4 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v48 v50 k0_hw1 v51 v53 v55 v60 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t4_body
    sl_exec
    sl_step
    isplitl [H18]
    · iexact H18
    · iexists _; iexact H19

set_option warn.classDefReducibility false in
/-- A loop that gathers logits by token. -/
@[sl_loop] def head_t5 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v80 : BitVec 32) (v82 : Elt F .i32) (k0_hw2 : k0_chk2 v82) (v83 : BitVec 32) (v85 : BitVec 32) (v90 : IVec S8x128 32) (v95 : IVec S8x128 32) (X18 : BufTy.Contents (Elt F) arg18.view.ty) :
    LoopInvTy_k0_t5 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v80 v82 k0_hw2 v83 v85 v90 v95 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t5_body
    sl_exec
    sl_step
    isplitl [H18]
    · iexact H18
    · iexists _; iexact H19

set_option warn.classDefReducibility false in
/-- A loop that gathers logits by token. -/
@[sl_loop] def head_t6 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v114 : Elt F .i32) (k0_hw3 : k0_chk3 v114) (v115 : BitVec 32) (v117 : BitVec 32) (v122 : IVec S8x128 32) (v127 : IVec S8x128 32) (v131 : IVec S8x128 1) (v135 : IVec S8x128 1) (v137 : IVec S8x128 1) (X18 : BufTy.Contents (Elt F) arg18.view.ty) :
    LoopInvTy_k0_t6 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v114 k0_hw3 v115 v117 v122 v127 v131 v135 v137 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t6_body
    sl_exec
    sl_step
    isplitl [H18]
    · iexact H18
    · iexists _; iexact H19

set_option warn.classDefReducibility false in
/-- A loop that gathers logits by token. -/
@[sl_loop] def head_t7 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v114 : Elt F .i32) (k0_hw3 : k0_chk3 v114) (v115 : BitVec 32) (v117 : BitVec 32) (v122 : IVec S8x128 32) (v127 : IVec S8x128 32) (v131 : IVec S8x128 1) (v135 : IVec S8x128 1) (v137 : IVec S8x128 1) (v146 : Elt F .i32) (k0_hw4 : k0_chk4 v146) (v151 : Vec F S1x128 .i32) (v156 : Vec F S1x128 .i32) (X18 : BufTy.Contents (Elt F) arg18.view.ty) :
    LoopInvTy_k0_t7 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v114 k0_hw3 v115 v117 v122 v127 v131 v135 v137 v146 k0_hw4 v151 v156 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t7_body
    sl_exec
    sl_step
    isplitl [H18]
    · iexact H18
    · iexists _; iexact H19

set_option warn.classDefReducibility false in
/-- A loop that gathers logits by token. -/
@[sl_loop] def head_t8 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (c8_i32_87 : BitVec 32) (v178 : Elt F .i32) (k0_hw5 : k0_chk5 v178) (v183 : Vec F S1x128 .i32) (v188 : Vec F S1x128 .i32) (X18 : BufTy.Contents (Elt F) arg18.view.ty) :
    LoopInvTy_k0_t8 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 c8_i32_87 v178 k0_hw5 v183 v188 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t8_body
    sl_exec
    sl_step
    isplitl [H18]
    · iexact H18
    · iexists _; iexact H19

set_option warn.classDefReducibility false in
/-- A loop that gathers logits by token. -/
@[sl_loop] def head_t9 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v208 : BitVec 32) (v210 : Elt F .i32) (k0_hw6 : k0_chk6 v210) (v211 : BitVec 32) (v213 : BitVec 32) (v215 : Vec F S1x128 .i32) (v220 : Vec F S1x128 .i32) (X18 : BufTy.Contents (Elt F) arg18.view.ty) :
    LoopInvTy_k0_t9 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v208 v210 k0_hw6 v211 v213 v215 v220 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t9_body
    sl_exec
    sl_step
    isplitl [H18]
    · iexact H18
    · iexists _; iexact H19

set_option warn.classDefReducibility false in
/-- A loop that gathers logits by token. -/
@[sl_loop] def head_t10 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v240 : BitVec 32) (v242 : Elt F .i32) (k0_hw7 : k0_chk7 v242) (v243 : BitVec 32) (v245 : BitVec 32) (v250 : IVec S8x128 32) (v255 : IVec S8x128 32) (X18 : BufTy.Contents (Elt F) arg18.view.ty) :
    LoopInvTy_k0_t10 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v240 v242 k0_hw7 v243 v245 v250 v255 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t10_body
    sl_exec
    sl_step
    isplitl [H18]
    · iexact H18
    · iexists _; iexact H19

set_option warn.classDefReducibility false in
/-- The last of the loops that gather logits by token. -/
@[sl_loop] def head_t11 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (v274 : Elt F .i32) (k0_hw8 : k0_chk8 v274) (v282 : IVec S8x128 32) (v287 : IVec S8x128 32) (v291 : IVec S8x128 1) (v295 : IVec S8x128 1) (v297 : IVec S8x128 1) (X18 : BufTy.Contents (Elt F) arg18.view.ty) :
    LoopInvTy_k0_t11 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v274 k0_hw8 v282 v287 v291 v295 v297 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t11_body
    sl_exec
    sl_step
    isplitl [H18]
    · iexact H18
    · iexists _; iexact H19

set_option warn.classDefReducibility false in
/-- The loop that reduces the lanes of the running maximum and sum. -/
@[sl_loop] def head_t12 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (k0_h3 : k0_cond3 i = 1#1) (X21 : BufTy.Contents (Elt F) arg21.view.ty) (X22 : BufTy.Contents (Elt F) arg22.view.ty) :
    LoopInvTy_k0_t12 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h3 where
  inv k _ := iprop((arg21.view.loc (c : Thread nD τ) ↦[arg21.view.set]{fullShare} X21) ∗ (arg22.view.loc (c : Thread nD τ) ↦[arg22.view.set]{fullShare} X22) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))
  step k acc := by
    iintro ⟨H21, H22, ⟨%f12, H12⟩, ⟨%f13, H13⟩, ⟨%f14, H14⟩⟩
    unfold k0_t12_body
    sl_exec
    sl_step
    isplitl [H21]
    · iexact H21
    isplitl [H22]
    · iexact H22
    isplitl [H12]
    · iexists _; iexact H12
    isplitl [H13]
    · iexists _; iexact H13
    · iexists _; iexact H14

set_option warn.classDefReducibility false in
/-- The loop that reduces the lanes of the sums over drafts. -/
@[sl_loop] def head_t15 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (k0_h3 : k0_cond3 i = 1#1)  :
    LoopInvTy_k0_t15 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h3 where
  inv k _ := iprop((∃ f, (arg13.view.loc (c : Thread nD τ) ↦[arg13.view.set]{fullShare} f)) ∗ (∃ f, (arg14.view.loc (c : Thread nD τ) ↦[arg14.view.set]{fullShare} f)))
  step k acc := by
    iintro ⟨⟨%f13, H13⟩, ⟨%f14, H14⟩⟩
    unfold k0_t15_body
    sl_exec
    sl_step
    isplitl [H13]
    · iexists _; iexact H13
    · iexists _; iexact H14

end Cert.Target.Gen

end
-- ==== Proof.TargetRing.lean ====
/- The ring of transfers of the target head: two slots of a buffer on two semaphores, refilled in turn from the draft logits. -/
module

public import proofs.«01_k».proof.Proof.Gen.Target.Loops
public import Idealize.ShloMosaic.Lib.Ring
public import Idealize.ShloMosaic.Lib.Affine
public import Idealize.ShloMosaic.Lib.Transfers

@[expose] public section

set_option maxRecDepth 16384

noncomputable section

namespace Cert.Target.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The slots, their semaphores, and the printed offsets in closed form -/

abbrev slotOff (s : Fin 2) : Fin 4 → Nat := ![s.val, 0, 0, 0]
theorem slotOff_inb (s : Fin 2) : ∀ a, slotOff s a + S1x5x256x128.size a ≤ S2x5x256x128.size a := by
  have := s.isLt; intro a; fin_cases a
  · show s.val + 1 ≤ 2; omega
  · show 0 + 5 ≤ 5; omega
  · show 0 + 256 ≤ 256; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Slot `s` of the buffer, as the body slices and squeezes it. -/
def rslot (arg20 : Memref sig .tc .vmem S2x5x256x128 .f32) (s : Fin 2) : Memref sig .tc .vmem S5x256x128 .f32 :=
  (arg20.slice (Rect.unit (s := S2x5x256x128) (slotOff s) S1x5x256x128.size (slotOff_inb s)) (fun _ => rfl)).squeeze S5x256x128 squeezes_S1x5x256x128_S5x256x128
/-- Slot `s`'s semaphore. -/
def csm (arg23 : DmaSems sig S2) (s : Fin 2) : DmaSems sig S_ := (arg23.slice (Rect.unit (s := S2) (semOff s) S1.size (semOff_inb s))).squeeze S_ squeezes_S1_S_

instance (s : Fin 2) : ClosedOff (slotOff s) := ⟨slotOff s, rfl⟩

section Chain
open Affine

theorem trips13 : k0_t13_loop.trips = 50 := by decide
theorem trips14 : k0_t14_loop.trips = 32 := by decide
variable (k : Fin k0_t13_loop.trips) (j : Fin k0_t14_loop.trips)
theorem k13_lt : k.val < 50 := Nat.lt_of_lt_of_eq k.isLt trips13
theorem k14_lt : j.val < 32 := Nat.lt_of_lt_of_eq j.isLt trips14

theorem isInt_lit (n : Nat) (h : n < 2 ^ 31) : IsInt (BitVec.ofNat 32 n) n := ofNat (e := n) n ⟨rfl, by omega⟩
theorem isInt_iv13 : IsInt (Scf.iv 0#32 1#32 k.val) k.val :=
  have := k13_lt k
  iv (e := k.val) (ofNat (e := 0) 0 ⟨rfl, by decide⟩) (ofNat (e := 1) 1 ⟨rfl, by decide⟩) k.val ⟨by omega, by omega, by omega⟩
theorem isInt_iv14 : IsInt (Scf.iv 0#32 1#32 j.val) j.val :=
  have := k14_lt j
  iv (e := j.val) (ofNat (e := 0) 0 ⟨rfl, by decide⟩) (ofNat (e := 1) 1 ⟨rfl, by decide⟩) j.val ⟨by omega, by omega, by omega⟩
theorem isInt_rem : IsInt (Scalar.remsi (Scf.iv 0#32 1#32 k.val) 2#32) (k.val % 2 : Nat) :=
  have := k13_lt k
  remsi (e := (k.val % 2 : Nat)) (isInt_iv13 k) (ofNat (e := 2) 2 ⟨rfl, by decide⟩) ⟨by omega, by omega, by omega⟩
theorem isInt_other : IsInt (Scalar.subi 1#32 (Scalar.remsi (Scf.iv 0#32 1#32 k.val) 2#32)) ((k.val + 1) % 2 : Nat) :=
  subi (e := ((k.val + 1) % 2 : Nat)) (ofNat (e := 1) 1 ⟨rfl, by decide⟩) (isInt_rem k) ⟨by omega, by omega, by omega⟩
theorem isInt_row : IsInt (Scalar.indexCast (Scalar.muli (Scf.iv 0#32 1#32 j.val) 8#32)) (8 * j.val : Nat) :=
  have := k14_lt j
  indexCast (muli (e := (8 * j.val : Nat)) (isInt_iv14 j) (ofNat (e := 8) 8 ⟨rfl, by decide⟩) ⟨by push_cast; omega, by omega, by omega⟩)

theorem off103_eq : k0_off103 k = semOff (Ring.sl 2 (k.val + 1)) :=
  vec_cons (isInt_other k) (by simp [Ring.sl, Fin.ofNat]) vec_nil
theorem off104_eq : k0_off104 k = slotOff (Ring.sl 2 (k.val + 1)) :=
  vec_cons (isInt_other k) (by simp [Ring.sl, Fin.ofNat]) rfl
theorem off106_eq : k0_off106 k = semOff (Ring.sl 2 k.val) :=
  vec_cons (isInt_rem k) (by simp [Ring.sl, Fin.ofNat]) vec_nil
theorem off107_eq : k0_off107 k = slotOff (Ring.sl 2 k.val) :=
  vec_cons (isInt_rem k) (by simp [Ring.sl, Fin.ofNat]) rfl
/-- Rows `8 j` of page `p` of slot `k % 2`. -/
theorem page_eq (p : BitVec 32) (q : Nat) (h : p.toNat = q) :
    (![(Scalar.indexCast (Scalar.remsi (Scf.iv 0#32 1#32 k.val) 2#32)).toNat, p.toNat, (Scalar.indexCast (Scalar.muli (Scf.iv 0#32 1#32 j.val) 8#32)).toNat, 0] : Fin 4 → Nat)
      = ![(Ring.sl 2 k.val).val, q, 8 * j.val, 0] :=
  vec_cons (indexCast (isInt_rem k)) (by simp [Ring.sl, Fin.ofNat])
    (congrArg₂ Matrix.vecCons h (vec_cons (isInt_row j) rfl rfl))
instance : ClosedOff (k0_off111 k j) := ⟨![(Ring.sl 2 k.val).val, 0, 8 * j.val, 0], page_eq k j 0#32 0 rfl⟩
instance : ClosedOff (k0_off112 k j) := ⟨![(Ring.sl 2 k.val).val, 1, 8 * j.val, 0], page_eq k j 1#32 1 rfl⟩
instance : ClosedOff (k0_off113 k j) := ⟨![(Ring.sl 2 k.val).val, 2, 8 * j.val, 0], page_eq k j 2#32 2 rfl⟩
instance : ClosedOff (k0_off114 k j) := ⟨![(Ring.sl 2 k.val).val, 3, 8 * j.val, 0], page_eq k j 3#32 3 rfl⟩
instance : ClosedOff (k0_off115 k j) := ⟨![(Ring.sl 2 k.val).val, 4, 8 * j.val, 0], page_eq k j 4#32 4 rfl⟩

end Chain

section Canon

private theorem csm_congr (arg23 : DmaSems sig S2) {off : Fin 1 → Nat} {s : Fin 2} (e : off = semOff s) (hh) :
    (arg23.slice (Rect.unit (s := S2) off S1.size hh)).squeeze S_ squeezes_S1_S_ = csm arg23 s :=
  congrArg (fun A : DmaSems sig S1 => A.squeeze S_ squeezes_S1_S_) (SemArray.slice_unit_congr _ e _ _)
private theorem rslot_congr (arg20 : Memref sig .tc .vmem S2x5x256x128 .f32) {off : Fin 4 → Nat} {s : Fin 2} (e : off = slotOff s) (hh hs) :
    (arg20.slice (Rect.unit (s := S2x5x256x128) off S1x5x256x128.size hh) hs).squeeze S5x256x128 squeezes_S1x5x256x128_S5x256x128 = rslot arg20 s :=
  congrArg (fun M : Memref sig .tc .vmem S1x5x256x128 .f32 => M.squeeze S5x256x128 squeezes_S1x5x256x128_S5x256x128) (Memref.slice_unit_congr _ e _ _ _ _)

variable (arg20 : Memref sig .tc .vmem S2x5x256x128 .f32) (arg23 : DmaSems sig S2) (k : Fin k0_t13_loop.trips)

@[sl_canon] theorem sem_first (hh) : (arg23.slice (Rect.unit (s := S2) ![0] S1.size hh)).squeeze S_ squeezes_S1_S_ = csm arg23 0 := csm_congr arg23 (by decide) _
@[sl_canon] theorem slot_first (hh hs) : (arg20.slice (Rect.unit (s := S2x5x256x128) ![0, 0, 0, 0] S1x5x256x128.size hh) hs).squeeze S5x256x128 squeezes_S1x5x256x128_S5x256x128 = rslot arg20 0 := rslot_congr arg20 (by decide) _ _
@[sl_canon] theorem sem_next (hh) : (arg23.slice (Rect.unit (s := S2) (k0_off103 k) S1.size hh)).squeeze S_ squeezes_S1_S_ = csm arg23 (Ring.sl 2 (k.val + 1)) := csm_congr arg23 (off103_eq k) _
@[sl_canon] theorem slot_next (hh hs) : (arg20.slice (Rect.unit (s := S2x5x256x128) (k0_off104 k) S1x5x256x128.size hh) hs).squeeze S5x256x128 squeezes_S1x5x256x128_S5x256x128 = rslot arg20 (Ring.sl 2 (k.val + 1)) := rslot_congr arg20 (off104_eq k) _ _
@[sl_canon] theorem sem_here (hh) : (arg23.slice (Rect.unit (s := S2) (k0_off106 k) S1.size hh)).squeeze S_ squeezes_S1_S_ = csm arg23 (Ring.sl 2 k.val) := csm_congr arg23 (off106_eq k) _
@[sl_canon] theorem slot_here (hh hs) : (arg20.slice (Rect.unit (s := S2x5x256x128) (k0_off107 k) S1x5x256x128.size hh) hs).squeeze S5x256x128 squeezes_S1x5x256x128_S5x256x128 = rslot arg20 (Ring.sl 2 k.val) := rslot_congr arg20 (off107_eq k) _ _

end Canon

/-! ## A slot free, a slot in flight, and the two steps between them -/

section Slots
local notation "𝕄" => MT nD τ sig Unit (Elt F) ℕ (UR sig nD τ × Counters) ℕ

variable (c : Dev nD) (arg10 : Memref sig .tc .hbm S250x768x128 .f32) (arg20 : Memref sig .tc .vmem S2x5x256x128 .f32) (arg23 : DmaSems sig S2)
  (Z : BufTy.Contents (Elt F) arg10.view.ty) (q : PosShare TreeShare)

/-- The units a page group's transfer moves. -/
abbrev ringAmount : ℕ := (rslot arg20 0).view.dmaCredit
abbrev slotP (s : Fin 2) (f : BufTy.Contents (Elt F) arg20.view.ty) : sProp 𝕄 := (rslot arg20 s).view.loc (c : Thread nD τ) ↦[(rslot arg20 s).view.set]{fullShare} f

/-- Slot `s` free: its semaphore at zero, its elements at some contents, and its share of the draft logits. -/
def slotFree (s : Fin 2) : sProp 𝕄 :=
  iprop(semVal ((c : Thread nD τ), SemLoc.dma (csm arg23 s).sem) 0 ∗ (∃ f, slotP (F := F) c arg20 s f) ∗ (arg10.view.loc (c : Thread nD τ) ↦[arg10.view.set]{q} Z))
/-- Slot `s` in flight: a transfer that gives back the slot and the part `I` of the share it reads, and the rest of that share. -/
def slotBusy (s : Fin 2) : sProp 𝕄 :=
  iprop(∃ I, ⌜I ⊆ arg10.view.set⌝
    ∗ Transfers.Flight countersEmb (c : Thread nD τ) (SemLoc.dma (csm arg23 s).sem) () (ringAmount arg20)
        iprop((∃ f, slotP (F := F) c arg20 s f) ∗ (arg10.view.loc (c : Thread nD τ) ↦[I]{q} Z))
    ∗ (arg10.view.loc (c : Thread nD τ) ↦[arg10.view.set \ I]{q} Z))

theorem slotFree_iff (s : Fin 2) : slotFree (F := F) c arg10 arg20 arg23 Z q s
    ⊣⊢ iprop(semVal ((c : Thread nD τ), SemLoc.dma (csm arg23 s).sem) 0 ∗ (∃ f, slotP (F := F) c arg20 s f) ∗ (arg10.view.loc (c : Thread nD τ) ↦[arg10.view.set]{q} Z)) := .rfl

/-- Starting a transfer into a free slot. -/
theorem slot_start (𝒱 : Variants) (bd : Option 𝒱.V) (harg10 : arg10.IsWhole) (s : Fin 2) {off : Fin 3 → Nat} (hh : ∀ a, off a + S5x256x128.size a ≤ S250x768x128.size a)
    {hsrc} {hdst} {hsem} {α : Type} {K : PUnit → Prog (TpuEff nD τ sig (Elt F) Λ₀ .tc) α} {Q : α → sProp 𝕄} :
    slotFree (F := F) c arg10 arg20 arg23 Z q s
      ⊢ iprop((slotBusy (F := F) c arg10 arg20 arg23 Z q s -∗ wp frame (wpE (defs₀ (F := F)) 𝒱 (c : Thread nD τ) bd) Set.univ (K ⟨⟩) Q)
          -∗ wp frame (wpE (defs₀ (F := F)) 𝒱 (c : Thread nD τ) bd) Set.univ
              (.op (.enqueueDma (arg10.slice (Rect.unit (s := S250x768x128) off S5x256x128.size hh) (fun _ => rfl)) (.here (rslot arg20 s)) (.dma (csm arg23 s).sem) hsrc hdst hsem) K) Q) := by
  have hI : (arg10.slice (Rect.unit (s := S250x768x128) off S5x256x128.size hh) (fun _ => rfl)).view.set ⊆ arg10.view.set := by
    rw [harg10.set_eq_univ]; exact Finset.subset_univ _
  unfold slotFree
  iintro ⟨Hv, ⟨%f, Hs⟩, HZ⟩ Hk
  ihave H2 := (pointsTo_split_subset hI).1 $$ HZ
  icases H2 with ⟨HI, HR⟩
  iapply (Transfers.wp_dmaLocal countersEmb 𝒱 (c : Thread nD τ) bd () (ringAmount arg20) (src := arg10.slice (Rect.unit (s := S250x768x128) off S5x256x128.size hh) (fun _ => rfl)) (dst := rslot arg20 s) (hsrc := hsrc) (hdst := hdst) (hsem := hsem) (Sd := (rslot arg20 s).view.set) rfl (View.dmaCredit_pos _ (by decide)) (Finset.Subset.refl _)) $$ [HI Hs Hv]
  · isplitl [HI]; · iexact HI
    isplitl [Hs]; · iexact Hs
    iexact Hv
  iintro HF
  iapply Hk
  unfold slotBusy
  iexists _
  isplitr; · ipureintro; exact hI
  isplitl [HF]
  · iapply (Transfers.Flight_mono countersEmb (c : Thread nD τ) (by
      iintro ⟨HA, HB⟩
      isplitl [HA]; · iexists _; iexact HA
      iexact HB)) $$ HF
  · iexact HR

/-- Waiting for a slot's transfer. -/
theorem slot_wait (𝒱 : Variants) (bd : Option 𝒱.V) (s : Fin 2) {srcw : Memref sig .tc .hbm S5x256x128 .f32} {W : Waits sig Unit}
    {hsrc} {hdst} {α : Type} {K : PUnit → Prog (TpuEff nD τ sig (Elt F) Λ₀ .tc) α} {Q : α → sProp 𝕄} :
    iprop(slotBusy (F := F) c arg10 arg20 arg23 Z q s ∗ owes (c : Thread nD τ) 0 W)
      ⊢ iprop(((slotFree (F := F) c arg10 arg20 arg23 Z q s ∗ (∃ W, owes (c : Thread nD τ) 0 W)) -∗ wp frame (wpE (defs₀ (F := F)) 𝒱 (c : Thread nD τ) bd) Set.univ (K ⟨⟩) Q)
          -∗ wp frame (wpE (defs₀ (F := F)) 𝒱 (c : Thread nD τ) bd) Set.univ
              (.op (.waitDma2 (csm arg23 s).sem srcw (rslot arg20 s) hsrc hdst) K) Q) := by
  unfold slotBusy
  iintro ⟨⟨%I, %hI, HF, HR⟩, HW⟩ Hk
  iapply (Transfers.wp_waitLocal countersEmb 𝒱 (c : Thread nD τ) bd () (srcw := srcw) (dstw := rslot arg20 s) (hsrc := hsrc) (hdst := hdst) (N := ringAmount arg20) rfl) $$ [HF HW]
  · isplitl [HF]; · iexact HF
    iexact HW
  iintro ⟨⟨Hs, HI⟩, Hv, HW⟩
  iapply Hk
  isplitr [HW]
  · unfold slotFree
    isplitl [Hv]; · iexact Hv
    isplitl [Hs]; · iexact Hs
    iapply (pointsTo_split_subset hI).2
    isplitl [HI]; · iexact HI
    iexact HR
  · iexists _; iexact HW

/-- The two slots before trip `k` of 50: slot `k % 2` in flight and the other free, both free at the end. -/
def ringAt (q : Fin 2 → PosShare TreeShare) (k : ℕ) : sProp 𝕄 :=
  if k < 50 then iprop(slotBusy (F := F) c arg10 arg20 arg23 Z (q (Ring.sl 2 k)) (Ring.sl 2 k) ∗ slotFree (F := F) c arg10 arg20 arg23 Z (q (Ring.sl 2 (k + 1))) (Ring.sl 2 (k + 1)))
  else iprop(slotFree (F := F) c arg10 arg20 arg23 Z (q (Ring.sl 2 k)) (Ring.sl 2 k) ∗ slotFree (F := F) c arg10 arg20 arg23 Z (q (Ring.sl 2 (k + 1))) (Ring.sl 2 (k + 1)))

theorem ringAt_lt (q : Fin 2 → PosShare TreeShare) {k : ℕ} (h : k < 50) : ringAt (F := F) c arg10 arg20 arg23 Z q k
    ⊣⊢ iprop(slotBusy (F := F) c arg10 arg20 arg23 Z (q (Ring.sl 2 k)) (Ring.sl 2 k) ∗ slotFree (F := F) c arg10 arg20 arg23 Z (q (Ring.sl 2 (k + 1))) (Ring.sl 2 (k + 1))) := by
  unfold ringAt; rw [if_pos h]
theorem ringAt_ge (q : Fin 2 → PosShare TreeShare) {k : ℕ} (h : ¬ k < 50) : ringAt (F := F) c arg10 arg20 arg23 Z q k
    ⊣⊢ iprop(slotFree (F := F) c arg10 arg20 arg23 Z (q (Ring.sl 2 k)) (Ring.sl 2 k) ∗ slotFree (F := F) c arg10 arg20 arg23 Z (q (Ring.sl 2 (k + 1))) (Ring.sl 2 (k + 1))) := by
  unfold ringAt; rw [if_neg h]

theorem cond4_iff (k : Fin k0_t13_loop.trips) : k0_cond4 k = 1#1 ↔ k.val + 1 < 50 := by
  revert k; decide

end Slots

set_option warn.classDefReducibility false in
/-- The loop over rows within one trip of the transfer ring. -/
@[sl_loop] def head_t14 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (v0 : IVec S8x128 32) (k0_h3 : k0_cond3 i = 1#1) (k0_t13 : Fin k0_t13_loop.trips) (arg24 : BitVec 32) (v316 : BitVec 32)
    (X8 : BufTy.Contents (Elt F) arg8.view.ty) (X9 : BufTy.Contents (Elt F) arg9.view.ty) (X12 : BufTy.Contents (Elt F) arg12.view.ty) (X19 : BufTy.Contents (Elt F) arg19.view.ty) (X20 : BufTy.Contents (Elt F) arg20.view.ty) :
    LoopInvTy_k0_t14 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v0 k0_h3 k0_t13 arg24 v316 where
  inv k _ := iprop((arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg19.view.loc (c : Thread nD τ) ↦[arg19.view.set]{fullShare} X19) ∗ slotP (F := F) c arg20 (Ring.sl 2 k0_t13.val) X20 ∗ (∃ f, (arg13.view.loc (c : Thread nD τ) ↦[arg13.view.set]{fullShare} f)) ∗ (∃ f, (arg14.view.loc (c : Thread nD τ) ↦[arg14.view.set]{fullShare} f)))
  step k acc := by
    iintro ⟨H8, H9, H12, H19, HS, ⟨%f13, H13⟩, ⟨%f14, H14⟩⟩
    unfold k0_t14_body
    have hk := k14_lt k
    sl_exec
    sl_step
    isplitl [H8]; · iexact H8
    isplitl [H9]; · iexact H9
    isplitl [H12]; · iexact H12
    isplitl [H19]; · iexact H19
    isplitl [HS]; · iexact HS
    isplitl [H13]; · iexists _; iexact H13
    iexists _; iexact H14

set_option warn.classDefReducibility false in
/-- The transfer ring: trip `k` starts the transfer of page group `k + 1` into the slot that is free, waits for that of group `k`, and adds the rows it brought. -/
@[sl_loop] def head_t13 (𝒱 : Variants) (c : Dev nD) (bd : Option 𝒱.V) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (v0 : IVec S8x128 32) (k0_h3 : k0_cond3 i = 1#1)
    (X8 : BufTy.Contents (Elt F) arg8.view.ty) (X9 : BufTy.Contents (Elt F) arg9.view.ty) (X12 : BufTy.Contents (Elt F) arg12.view.ty) (X19 : BufTy.Contents (Elt F) arg19.view.ty) (Z : BufTy.Contents (Elt F) arg10.view.ty) (q : Fin 2 → PosShare TreeShare) :
    LoopInvTy_k0_t13 (F := F) Unit ℕ (UR sig nD τ × Counters) ℕ 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v0 k0_h3 where
  inv k _ := iprop((arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg19.view.loc (c : Thread nD τ) ↦[arg19.view.set]{fullShare} X19) ∗ (∃ f, (arg13.view.loc (c : Thread nD τ) ↦[arg13.view.set]{fullShare} f)) ∗ (∃ f, (arg14.view.loc (c : Thread nD τ) ↦[arg14.view.set]{fullShare} f)) ∗ (∃ W, owes (c : Thread nD τ) 0 W) ∗ ringAt (F := F) c arg10 arg20 arg23 Z q k)
  step k acc := by
    have hk := k13_lt k
    iintro ⟨H8, H9, H12, H19, ⟨%f13, H13⟩, ⟨%f14, H14⟩, ⟨%W, HW⟩, HR⟩
    ihave HR2 := (ringAt_lt (F := F) c arg10 arg20 arg23 Z q hk).1 $$ HR
    icases HR2 with ⟨Hbusy, Hfree⟩
    unfold k0_t13_body
    by_cases hc : k0_cond4 k = 1#1
    · sl_exec
      iapply (slot_start (F := F) c arg10 arg20 arg23 Z (q (Ring.sl 2 (k.val + 1))) 𝒱 bd harg10 (Ring.sl 2 (k.val + 1)) _) $$ Hfree
      iintro Hnext
      sl_exec
      iapply (slot_wait (F := F) c arg10 arg20 arg23 Z (q (Ring.sl 2 k.val)) 𝒱 bd (Ring.sl 2 k.val)) $$ [Hbusy HW]
      · isplitl [Hbusy]; · iexact Hbusy
        iexact HW
      iintro ⟨Hhere, ⟨%W', HW⟩⟩
      ihave Hh := (slotFree_iff (F := F) c arg10 arg20 arg23 Z (q (Ring.sl 2 k.val)) (Ring.sl 2 k.val)).1 $$ Hhere
      icases Hh with ⟨Hsem, ⟨%fS, HS⟩, HZ⟩
      sl_exec
      sl_step
      isplitl [H8]; · iexact H8
      isplitl [H9]; · iexact H9
      isplitl [H12]; · iexact H12
      isplitl [H19]; · iexact H19
      isplitl [H13]; · iexists _; iexact H13
      isplitl [H14]; · iexists _; iexact H14
      isplitl [HW]; · iexists _; iexact HW
      iapply (ringAt_lt (F := F) c arg10 arg20 arg23 Z q ((cond4_iff k).1 hc)).2
      irw [show Ring.sl 2 (k.val + 1 + 1) = Ring.sl 2 k.val from Ring.sl_add 2 _]
      isplitl [Hnext]; · iexact Hnext
      iapply (slotFree_iff (F := F) c arg10 arg20 arg23 Z (q (Ring.sl 2 k.val)) (Ring.sl 2 k.val)).2
      isplitl [Hsem]; · iexact Hsem
      isplitl [HS]; · iexists _; iexact HS
      iexact HZ
    · sl_exec
      iapply (slot_wait (F := F) c arg10 arg20 arg23 Z (q (Ring.sl 2 k.val)) 𝒱 bd (Ring.sl 2 k.val)) $$ [Hbusy HW]
      · isplitl [Hbusy]; · iexact Hbusy
        iexact HW
      iintro ⟨Hhere, ⟨%W', HW⟩⟩
      ihave Hh := (slotFree_iff (F := F) c arg10 arg20 arg23 Z (q (Ring.sl 2 k.val)) (Ring.sl 2 k.val)).1 $$ Hhere
      icases Hh with ⟨Hsem, ⟨%fS, HS⟩, HZ⟩
      sl_exec
      sl_step
      isplitl [H8]; · iexact H8
      isplitl [H9]; · iexact H9
      isplitl [H12]; · iexact H12
      isplitl [H19]; · iexact H19
      isplitl [H13]; · iexists _; iexact H13
      isplitl [H14]; · iexists _; iexact H14
      isplitl [HW]; · iexists _; iexact HW
      iapply (ringAt_ge (F := F) c arg10 arg20 arg23 Z q (fun h => hc ((cond4_iff k).2 h))).2
      irw [show Ring.sl 2 (k.val + 1 + 1) = Ring.sl 2 k.val from Ring.sl_add 2 _]
      isplitl [Hfree]; · iexact Hfree
      iapply (slotFree_iff (F := F) c arg10 arg20 arg23 Z (q (Ring.sl 2 k.val)) (Ring.sl 2 k.val)).2
      isplitl [Hsem]; · iexact Hsem
      isplitl [HS]; · iexists _; iexact HS
      iexact HZ

end Cert.Target.Gen

end
-- ==== Proof.TargetLoops.lean ====
/- The counted loops of the target head that decode operands and write logits, by their invariants. -/
module

public import proofs.«01_k».proof.Proof.Gen.Target.Loops

@[expose] public section

set_option maxRecDepth 16384

noncomputable section

namespace Cert.Target.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option warn.classDefReducibility false in
/-- The loop over blocks of 32 rows of hidden states. -/
@[sl_loop] def head_t1 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (k0_h1 : k0_cond1 i = 1#1) (v306 : BitVec 32) (v307 : IVec S32x128 32) (X3 : BufTy.Contents (Elt F) arg3.view.ty) (X4 : BufTy.Contents (Elt F) arg4.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h1 v306 v307 where
  inv k _ := iprop((arg3.view.loc (c : Thread nD τ) ↦[arg3.view.set]{fullShare} X3) ∗ (arg4.view.loc (c : Thread nD τ) ↦[arg4.view.set]{fullShare} X4) ∗ (∃ f, (arg15.view.loc (c : Thread nD τ) ↦[arg15.view.set]{fullShare} f)))
  step k acc := by
    iintro ⟨H3, H4, ⟨%f15, H15⟩⟩
    unfold k0_t1_body
    sl_exec
    sl_step
    isplitl [H3]
    · iexact H3
    isplitl [H4]
    · iexact H4
    · iexists _; iexact H15

set_option warn.classDefReducibility false in
/-- The loop over groups of 32 rows of weights. -/
@[sl_loop] def head_t2 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (X5 : BufTy.Contents (Elt F) arg5.view.ty) (X17 : BufTy.Contents (Elt F) arg17.view.ty) :
    LoopInvTy_k0_t2 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 where
  inv k _ := iprop((arg5.view.loc (c : Thread nD τ) ↦[arg5.view.set]{fullShare} X5) ∗ (arg17.view.loc (c : Thread nD τ) ↦[arg17.view.set]{fullShare} X17) ∗ (∃ f, (arg16.view.loc (c : Thread nD τ) ↦[arg16.view.set]{fullShare} f)))
  step k acc := by
    iintro ⟨H5, H17, ⟨%f16, H16⟩⟩
    unfold k0_t2_body
    sl_exec
    sl_step
    isplitl [H5]
    · iexact H5
    isplitl [H17]
    · iexact H17
    · iexists _; iexact H16

set_option warn.classDefReducibility false in
/-- The loop over the positions of a block of logits. -/
@[sl_loop] def head_t3 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v25 : FVec F S256x256 .f32) (v26 : Vec F S256x256 .f32) (X18 : BufTy.Contents (Elt F) arg18.view.ty) :
    LoopInvTy_k0_t3 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v25 v26 where
  inv k _ := iprop((arg18.view.loc (c : Thread nD τ) ↦[arg18.view.set]{fullShare} X18) ∗ (∃ f, (arg11.view.loc (c : Thread nD τ) ↦[arg11.view.set]{fullShare} f)) ∗ (∃ f, (arg21.view.loc (c : Thread nD τ) ↦[arg21.view.set]{fullShare} f)) ∗ (∃ f, (arg22.view.loc (c : Thread nD τ) ↦[arg22.view.set]{fullShare} f)))
  step k acc := by
    iintro ⟨H18, ⟨%f11, H11⟩, ⟨%f21, H21⟩, ⟨%f22, H22⟩⟩
    unfold k0_t3_body
    sl_exec
    sl_step
    isplitl [H18]
    · iexact H18
    isplitl [H11]
    · iexists _; iexact H11
    isplitl [H21]
    · iexists _; iexact H21
    · iexists _; iexact H22

end Cert.Target.Gen

end
-- ==== Proof.TargetBody.lean ====
/- The run of one grid point of the target head. -/
module

public import proofs.«01_k».proof.Proof.TargetGather
public import proofs.«01_k».proof.Proof.TargetRing
public import proofs.«01_k».proof.Proof.TargetLoops
public import proofs.«01_k».proof.Proof.Gen.Target.Skeleton

@[expose] public section

set_option maxRecDepth 16384

noncomputable section

namespace Cert.Target.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The last block of columns runs past the vocabulary: the printed test for it. -/
abbrev k0_clip (i : grid0.Coords) : BitVec 1 :=
  Scalar.cmpi .ne (Scalar.extui (Scalar.cmpi .sgt (Scalar.muli (Scalar.addi (BitVec.ofNat 32 (i 1).val) 1#32) 1024#32) 151936#32)) 0#32

theorem clip_iff (i : grid0.Coords) : k0_clip i = 1#1 ↔ k0_cond3 i = 1#1 := by
  have h : ∀ j : Fin 149, Scalar.cmpi .ne (Scalar.extui (Scalar.cmpi .sgt (Scalar.muli (Scalar.addi (BitVec.ofNat 32 j.val) 1#32) 1024#32) 151936#32)) 0#32 = 1#1
      ↔ Scalar.cmpi .ne (Scalar.extui (Scalar.cmpi .eq (BitVec.ofNat 32 j.val) 148#32)) 0#32 = 1#1 := by decide
  exact h (i 1)
theorem not_both (i : grid0.Coords) : k0_cond1 i = 1#1 → ¬ k0_cond3 i = 1#1 := by
  have h : ∀ j : Fin 149, Scalar.cmpi .ne (Scalar.extui (Scalar.cmpi .eq (BitVec.ofNat 32 j.val) 0#32)) 0#32 = 1#1
      → ¬ Scalar.cmpi .ne (Scalar.extui (Scalar.cmpi .eq (BitVec.ofNat 32 j.val) 148#32)) 0#32 = 1#1 := by decide
  exact h (i 1)

theorem minsi_le (v : BitVec 32) (h : v.toNat < 2 ^ 31) : (Scalar.minsi v 249#32).toNat ≤ 249 := by
  unfold Scalar.minsi IntOp.minsi
  split
  · rename_i hs
    rw [BitVec.slt_eq_decide, decide_eq_true_eq, BitVec.toInt_eq_toNat_of_lt (by omega)] at hs
    have e : (249#32 : BitVec 32).toInt = 249 := by decide
    omega
  · decide

theorem succ_lt (v : BitVec 32) (h : v.toNat ≤ 249) : (Scalar.addi v 1#32).toNat < 2 ^ 31 := by
  show (v + 1#32).toNat < 2 ^ 31
  have e : (1#32 : BitVec 32).toNat = 1 := by decide
  rw [BitVec.toNat_add, e]; omega

theorem row_le (t : Fin k0_t4_loop.trips) : (Scalar.indexCast (Scalar.muli (Scf.iv 0#32 1#32 t) 8#32)).toNat + 8 ≤ 256 := by
  revert t; decide

/-- The side conditions of a block of draft tokens, at any word that is not negative. -/
theorem chk_ok (v : BitVec 32) (h : v.toNat < 2 ^ 31) : k0_chk1 v := by
  have h1 := minsi_le v h
  have h2 := minsi_le _ (succ_lt _ h1)
  refine ⟨?_, ?_, ?_, ?_⟩
  · intro a; fin_cases a
    · show (Scalar.minsi v 249#32).toNat + 1 ≤ 250; omega
    · show 0 + 128 ≤ 128; omega
  · intro a; fin_cases a
    · show (Scalar.minsi (Scalar.addi (Scalar.minsi v 249#32) 1#32) 249#32).toNat + 1 ≤ 250; omega
    · show 0 + 128 ≤ 128; omega
  · intro t a
    have ht := row_le t
    fin_cases a
    · show (Scalar.minsi v 249#32).toNat + 1 ≤ 250; omega
    · exact ht
    · show 0 + 128 ≤ 128; omega
  · intro t a
    have ht := row_le t
    fin_cases a
    · show (Scalar.minsi (Scalar.addi (Scalar.minsi v 249#32) 1#32) 249#32).toNat + 1 ≤ 250; omega
    · exact ht
    · show 0 + 128 ≤ 128; omega

local notation "𝕄" => MT nD τ sig Unit (Elt F) ℕ (UR sig nD τ × Counters) ℕ

/-- After the last trip of the transfer ring both slots are free. -/
theorem ringAt_end (c : Dev nD) (arg10 : Memref sig .tc .hbm S250x768x128 .f32) (arg20 : Memref sig .tc .vmem S2x5x256x128 .f32) (arg23 : DmaSems sig S2)
    (Z : BufTy.Contents (Elt F) arg10.view.ty) (q : Fin 2 → PosShare TreeShare) :
    ringAt (F := F) c arg10 arg20 arg23 Z q (Scf.trips k0_t13_loop.lb k0_t13_loop.ub k0_t13_loop.st)
      ⊣⊢ (iprop(slotFree (F := F) c arg10 arg20 arg23 Z (q 0) 0 ∗ slotFree (F := F) c arg10 arg20 arg23 Z (q 1) 1) : sProp 𝕄) := by
  rw [show Scf.trips k0_t13_loop.lb k0_t13_loop.ub k0_t13_loop.st = 50 from trips13]
  exact ringAt_ge (F := F) c arg10 arg20 arg23 Z q (k := 50) (by decide)

attribute [local irreducible] ringAt

/-- The run of one grid point: the inputs are left as they were. -/
theorem body_run (c : Dev nD) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (Z : BufTy.Contents (Elt F) arg10.view.ty) (q2 : PosShare TreeShare) (q : Fin 2 → PosShare TreeShare)
    (hst : ∀ (r : LoadRect S1192) (j : r.shape.Idx), BitVec.toNat (w := 32) (arg2.view.readAt (Elt F) r X2 j) < 2 ^ 31)
    (W : Waits sig Unit) (K : PUnit → sProp (MT nD τ sig Unit (Elt F) ℕ (UR sig nD τ × Counters) ℕ)) :
    iprop((arg2.view.loc (c : Thread nD τ) ↦[arg2.view.set]{q2} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ slotFree (F := F) c arg10 arg20 arg23 Z (q 0) 0 ∗ slotFree (F := F) c arg10 arg20 arg23 Z (q 1) 1 ∗ owes (c : Thread nD τ) 0 W ∗ (iprop((arg2.view.loc (c : Thread nD τ) ↦[arg2.view.set]{q2} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ slotFree (F := F) c arg10 arg20 arg23 Z (q 0) 0 ∗ slotFree (F := F) c arg10 arg20 arg23 Z (q 1) 1 ∗ (∃ W, owes (c : Thread nD τ) 0 W)) -∗ K PUnit.unit))
      ⊢ wp frame (wpE (defs₀ (F := F)) Variants.none (c : Thread nD τ) none) Set.univ (cc0_target_head (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) K := by
  simp only [cc0_target_head_eq_skeleton]
  have hclip := clip_iff i
  unfold k0_clip at hclip
  by_cases hc3 : k0_cond3 i = 1#1
  · have hc1 : ¬ k0_cond1 i = 1#1 := fun h => not_both i h hc3
    have hcl := hclip.2 hc3
    unfold cc0_target_head_skel
    simp only [k0_part17_eq_skeleton, k0_part18_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H2, H3, H4, H5, H6, H7, H8, H9, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f21, H21⟩, ⟨%f22, H22⟩, HS0, HS1, HW, Hk⟩
    sl_exec (disch := first | sl_exact hc1 | sl_exact hc3 | sl_exact hcl | sl_exact chk_ok _ (hst _ _))
    iapply (slot_start (F := F) c arg10 arg20 arg23 Z (q 0) Variants.none none harg10 0 _) $$ HS0
    iintro HB
    ihave HR := (ringAt_lt (F := F) c arg10 arg20 arg23 Z q (k := 0) (by decide)).2 $$ [HB HS1]
    · isplitl [HB]; · iexact HB
      iexact HS1
    sl_exec (disch := first | sl_exact hc1 | sl_exact hc3 | sl_exact hcl | sl_exact chk_ok _ (hst _ _))
    ihave HR2 := (ringAt_end (F := F) c arg10 arg20 arg23 Z q).1 $$ HR
    icases HR2 with ⟨HS0, HS1⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H21]; · iexists _; iexact H21
    isplitl [H22]; · iexists _; iexact H22
    isplitl [HS0]; · iexact HS0
    isplitl [HS1]; · iexact HS1
    iexists _; iexact HW
  · have hcl := fun h => hc3 (hclip.1 h)
    unfold cc0_target_head_skel
    simp only [k0_part17_eq_skeleton, k0_part18_eq_skeleton, k0_part25_eq_skeleton, k0_part26_eq_skeleton, k0_part27_eq_skeleton, k0_part28_eq_skeleton, k0_part29_eq_skeleton, k0_part30_eq_skeleton, k0_part31_eq_skeleton, k0_part32_eq_skeleton]
    by_cases hc1 : k0_cond1 i = 1#1
    · iintro ⟨H2, H3, H4, H5, H6, H7, H8, H9, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f21, H21⟩, ⟨%f22, H22⟩, HS0, HS1, HW, Hk⟩
      sl_exec (disch := first | sl_exact hc1 | sl_exact hc3 | sl_exact hcl | sl_exact chk_ok _ (hst _ _))
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H21]; · iexists _; iexact H21
      isplitl [H22]; · iexists _; iexact H22
      isplitl [HS0]; · iexact HS0
      isplitl [HS1]; · iexact HS1
      iexists _; iexact HW
    · iintro ⟨H2, H3, H4, H5, H6, H7, H8, H9, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f21, H21⟩, ⟨%f22, H22⟩, HS0, HS1, HW, Hk⟩
      sl_exec (disch := first | sl_exact hc1 | sl_exact hc3 | sl_exact hcl | sl_exact chk_ok _ (hst _ _))
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H21]; · iexists _; iexact H21
      isplitl [H22]; · iexists _; iexact H22
      isplitl [HS0]; · iexact HS0
      isplitl [HS1]; · iexact HS1
      iexists _; iexact HW

end Cert.Target.Gen

end
-- ==== Proof.TargetFrame.lean ====
/- The launch of the target head: what a grid point is given and leaves, and the run of the whole program. -/
module

public import proofs.«01_k».proof.Proof.TargetBody
public import proofs.«01_k».proof.Proof.Gen.Target.Launch
public import Idealize.ShloMosaic.Lib.Pipeline.FrameBody
public import Idealize.ShloMosaic.Lib.WordCmp
public import Idealize.ShloMosaic.Lib.Claim
public import Idealize.ShloMosaic.Lib.StableHlo.RunRead

@[expose] public section

set_option maxRecDepth 16384

noncomputable section

namespace Cert.Target.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-! ## @main up to the region -/

/-- Core `c`'s buffers when the region is entered. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region: the lines of host operations, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of starts: counts, so small -/

/-- A sum of words each zero or one is at most the number of its terms over what it starts from. -/
theorem fold_le {α : Type} (f : α → BitVec 32) (hf : ∀ n, (f n).toNat ≤ 1) : ∀ (l : List α) (a : BitVec 32),
    (l.foldl (fun r n => IntOp.addi r (f n)) a).toNat ≤ a.toNat + l.length
  | [], a => by simp
  | n :: l, a => by
    refine (fold_le f hf l (IntOp.addi a (f n))).trans ?_
    have h1 : (IntOp.addi a (f n)).toNat ≤ a.toNat + (f n).toNat := by
      show (a + f n).toNat ≤ _
      rw [BitVec.toNat_add]; exact Nat.mod_le _ _
    have := hf n
    rw [List.length_cons]; omega

/-- A row sum of a matrix of bits. -/
theorem count_lt (B : IVec S1192x250 1) (j : S1192.Idx) :
    (Host.reduce IntOp.addi (extui 32 B natLt_1_32) (constantI S_ 32 0#32) reducesTo_S1192x250_S1192_d1 h_S_ j).toNat < 2 ^ 31 := by
  unfold Host.reduce
  refine lt_of_le_of_lt (fold_le (fun n => extui 32 B natLt_1_32 (S1192x250.rowMajor.symm n)) (fun n => ?_) _ _) ?_
  · show (BitVec.setWidth 32 (B _)).toNat ≤ 1
    rw [BitVec.toNat_setWidth]
    have := (B (S1192x250.rowMajor.symm n)).isLt
    exact (Nat.mod_le _ _).trans (by omega)
  · refine lt_of_le_of_lt (Nat.add_le_add_left ((List.length_filter_le _ _).trans (List.length_finRange).le) _) ?_
    show 0 + S1192x250.numel < 2 ^ 31
    have : S1192x250.numel = 298000 := by decide
    omega

theorem V_start (c : Dev nD) : ∃ B : IVec S1192x250 1,
    V m c main_v14 = Host.reduce IntOp.addi (extui 32 B natLt_1_32) (constantI S_ 32 0#32) reducesTo_S1192x250_S1192_d1 h_S_ :=
  ⟨_, by
    show StableHlo.after (List.flatten [hostOps0, hostOps0_1, hostOps0_2]) (fun b => m (c, b)) (Proc.devRef .tc main_v14) = _
    simp only [hostOps0, hostOps0_1, hostOps0_2, List.flatten_cons, List.flatten_nil, List.append_nil, List.cons_append, List.nil_append]
    after_reads_simp
    rfl⟩

theorem start_lt (c : Dev nD) (j : S1192.Idx) : BitVec.toNat (w := 32) (V m c main_v14 j) < 2 ^ 31 := by
  obtain ⟨B, h⟩ := V_start m c
  rw [h]; exact count_lt B j

/-! ## The operands -/

/-- The table's contents the region is entered with. -/
def adm (p : Fin 1) : (pcfgs (F := F) p).Adm := ⟨fun k => V m 0 (pre0.ref k), trivial⟩
abbrev cf : Pipeline.Cfg sig Λ₀ := Pipeline.pin pcfgs (adm m) 0
abbrev scM0_0 : Memref sig .tc .vmem S256x2048 .bf16 := Memref.whole cc0_scratch0
abbrev scM0_1 : Memref sig .tc .vmem S2048x1024 .bf16 := Memref.whole cc0_scratch1
abbrev scM0_2 : Memref sig .tc .vmem S64x1024 .i32 := Memref.whole cc0_scratch2
abbrev scM0_3 : Memref sig .tc .vmem S256x1024 .f32 := Memref.whole cc0_scratch3
abbrev scM0_4 : Memref sig .tc .vmem S250x256x128 .f32 := Memref.whole cc0_scratch4
abbrev scM0_5 : Memref sig .tc .vmem S2x5x256x128 .f32 := Memref.whole cc0_scratch5
abbrev scM0_6 : Memref sig .tc .vmem S256x128 .f32 := Memref.whole cc0_scratch6
abbrev scM0_7 : Memref sig .tc .vmem S256x128 .f32 := Memref.whole cc0_scratch7
abbrev ms0_0 (t : Fin (cf m).N) := spec0_0.stage ((cf m).slots t 0)
theorem hs0_0 (t : Fin (cf m).N) : (ms0_0 m t).IsWhole := hstage0_0 (((cf m).slots t 0).cast nbuf0_0)
abbrev ms0_1 (t : Fin (cf m).N) := spec0_1.stage ((cf m).slots t 1)
theorem hs0_1 (t : Fin (cf m).N) : (ms0_1 m t).IsWhole := hstage0_1 (((cf m).slots t 1).cast nbuf0_1)
abbrev ms0_2 (t : Fin (cf m).N) := spec0_2.stage ((cf m).slots t 2)
theorem hs0_2 (t : Fin (cf m).N) : (ms0_2 m t).IsWhole := hstage0_2 (((cf m).slots t 2).cast nbuf0_2)
abbrev ms0_3 (t : Fin (cf m).N) := spec0_3.stage ((cf m).slots t 3)
theorem hs0_3 (t : Fin (cf m).N) : (ms0_3 m t).IsWhole := hstage0_3 (((cf m).slots t 3).cast nbuf0_3)
abbrev ms0_4 (t : Fin (cf m).N) := spec0_4.stage ((cf m).slots t 4)
theorem hs0_4 (t : Fin (cf m).N) : (ms0_4 m t).IsWhole := hstage0_4 (((cf m).slots t 4).cast nbuf0_4)
abbrev ms0_5 (t : Fin (cf m).N) := spec0_5.stage ((cf m).slots t 5)
theorem hs0_5 (t : Fin (cf m).N) : (ms0_5 m t).IsWhole := hstage0_5 (((cf m).slots t 5).cast nbuf0_5)
abbrev ms0_6 (t : Fin (cf m).N) := spec0_6.stage ((cf m).slots t 6)
theorem hs0_6 (t : Fin (cf m).N) : (ms0_6 m t).IsWhole := hstage0_6 (((cf m).slots t 6).cast nbuf0_6)
abbrev ms0_7 (t : Fin (cf m).N) := spec0_7.stage ((cf m).slots t 7)
theorem hs0_7 (t : Fin (cf m).N) : (ms0_7 m t).IsWhole := hstage0_7 (((cf m).slots t 7).cast nbuf0_7)
abbrev ms0_8 (t : Fin (cf m).N) := spec0_8.stage ((cf m).slots t 8)
theorem hs0_8 (t : Fin (cf m).N) : (ms0_8 m t).IsWhole := hstage0_8 (((cf m).slots t 8).cast nbuf0_8)
abbrev ms0_9 (t : Fin (cf m).N) := spec0_9.stage ((cf m).slots t 9)
theorem hs0_9 (t : Fin (cf m).N) : (ms0_9 m t).IsWhole := hstage0_9 (((cf m).slots t 9).cast nbuf0_9)
abbrev ms0_10 (t : Fin (cf m).N) := spec0_10.stage ((cf m).slots t 10)
theorem hs0_10 (t : Fin (cf m).N) : (ms0_10 m t).IsWhole := hstage0_10 (((cf m).slots t 10).cast nbuf0_10)
abbrev stM : Memref sig .tc .smem S1192 .i32 := Memref.whole main_v14
abbrev zdM : Memref sig .tc .hbm S250x768x128 .f32 := Memref.whole main_arg7
abbrev tabPt (c : Dev nD) : sProp 𝕄 := stM.view.loc (c : Thread nD τ) ↦[stM.view.set]{fullShare.right} V m c main_v14
/-- The two halves of the draft logits, one to a slot. -/
abbrev qz : Fin 2 → PosShare TreeShare := ![fullShare.left, fullShare.right]
abbrev slotD (c : Dev nD) (s : Fin 2) : sProp 𝕄 := slotFree (F := F) c zdM scM0_5 cc0_scratch8 (V m c main_arg7) (qz s) s
/-- The elements of the ring's buffer in neither slot. -/
abbrev spare (c : Dev nD) : sProp 𝕄 :=
  iprop(∃ f, (c : Thread nD τ).loc cc0_scratch5 ↦[Finset.univ \ Finset.univ.biUnion fun s : Fin 2 => (rslot scM0_5 s).view.set]{fullShare} f)

theorem slot_set (s : Fin 2) : (rslot scM0_5 s).view.set = (Rect.unit (s := S2x5x256x128) (slotOff s) S1x5x256x128.size (slotOff_inb s)).set :=
  (Memref.set_view_squeeze _ squeezes_S1x5x256x128_S5x256x128).trans (View.set_slice_whole _ _)
theorem slots_disjoint (s s' : Fin 2) (h : s ≠ s') : Disjoint (rslot scM0_5 s).view.set (rslot scM0_5 s').view.set := by
  rw [slot_set, slot_set]
  exact Ring.lead_disjoint (s := S2x5x256x128) (0 : Fin 4) 1 slotOff S1x5x256x128.size slotOff_inb (fun b => by show b.val = 1 * b.val; omega) rfl s s' h

/-! ## What the launch hands over, opened -/

abbrev osem0 : Fin 2 → SemLoc sig := fun j => (![SemLoc.dma 19, SemLoc.dma 20] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0 ∗ semVal ((c : Thread nD τ), SemLoc.dma 20) 0) := by
  rw [Pipeline.ownSems0_eq_of_list c osem0 [0, 1] (by decide) (by decide)]; rfl
def H0 : Finset (Ref sig .tc) := {main_arg7}
theorem H0_sub : H0 ⊆ Pipeline.restRefsP sig pre0 spec0 := by decide
theorem zd_eq (c : Dev nD) :
    (bigSep H0 (fun b => ((c : Thread nD τ).loc b) ↦{fullShare} V m c b) : sProp 𝕄)
      = (zdM.view.loc (c : Thread nD τ) ↦[zdM.view.set]{fullShare} V m c main_arg7) := by
  rw [BI.bigSep_eq_bigSepL_of_eq [main_arg7] (by decide) (by decide)]
  simp only [Memref.view_whole, View.set_whole]; rfl
theorem tab_of (W : (b : Ref sig .tc) → Buf (Elt F) (((0 : Dev nD) : Thread nD τ).loc b)) :
    (Pipeline.prefHeld (Ix := Unit) (Name := ℕ) (U := Pipeline.UD sig nD τ) (Lvl := ℕ) (τ := τ) pre0 (0 : Dev nD) (fun _ => fullShare.right) (fun k => W (pre0.ref k)) : sProp 𝕄)
      = (((0 : Dev nD) : Thread nD τ).loc main_v14 ↦{fullShare.right} W main_v14) := by
  unfold Pipeline.prefHeld
  exact bigSep_univ_of_subsingleton (0 : Fin 1)
theorem tab_eq (c : Dev nD) :
    (Pipeline.ΦT (U := Pipeline.UD sig nD τ) pre0 (adm m 0).1 c : sProp 𝕄) = tabPt m c := by
  obtain rfl : c = 0 := Subsingleton.elim _ _
  refine (tab_of (V m 0)).trans ?_
  simp only [tabPt, Memref.view_whole, View.set_whole]
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ f, (c : Thread nD τ).loc cc0_scratch5 ↦{fullShare} f) ∗ (∃ d, owns (c : Thread nD τ) scM0_6 fullShare d) ∗ (∃ d, owns (c : Thread nD τ) scM0_7 fullShare d)) ∗ (∃ r, prngReg c r)
          ∗ iprop(semVal ((c : Thread nD τ), SemLoc.dma 19) 0 ∗ semVal ((c : Thread nD τ), SemLoc.dma 20) 0)
          ∗ (zdM.view.loc (c : Thread nD τ) ↦[zdM.view.set]{fullShare} V m c main_arg7)) := by
  rw [Pipeline.ΦD_eq, scopedRest0_eq, ownSems00_eq, zd_eq]
  simp only [scM0_0, scM0_1, scM0_2, scM0_3, scM0_4, scM0_6, scM0_7, owns_whole]; try rfl

theorem slots_split (c : Dev nD) :
    iprop((∃ f, (c : Thread nD τ).loc cc0_scratch5 ↦{fullShare} f)
        ∗ iprop(semVal ((c : Thread nD τ), SemLoc.dma 19) 0 ∗ semVal ((c : Thread nD τ), SemLoc.dma 20) 0)
        ∗ (zdM.view.loc (c : Thread nD τ) ↦[zdM.view.set]{fullShare} V m c main_arg7))
      ⊢ (iprop(spare c ∗ slotD m c 0 ∗ slotD m c 1) : sProp 𝕄) := by
  iintro ⟨HR, ⟨Hs0, Hs1⟩, HZ⟩
  ihave HR2 := (Ring.slots2_split_spare (ℓ := (c : Thread nD τ).loc cc0_scratch5) (fun s : Fin 2 => (rslot scM0_5 s).view.set) slots_disjoint
    (slotP (F := F) c scM0_5 0) (slotP (F := F) c scM0_5 1) (fun _ => rfl) (fun _ => rfl)) $$ HR
  icases HR2 with ⟨⟨HP0, HP1⟩, HSp⟩
  ihave HZ2 := (pointsTo_share (PosShare.mem_left_op_right fullShare)).1 $$ HZ
  icases HZ2 with ⟨HZ0, HZ1⟩
  unfold slotD slotFree
  isplitl [HSp]; · iexact HSp
  isplitl [Hs0 HP0 HZ0]
  · isplitl [Hs0]; · iexact Hs0
    isplitl [HP0]; · iexact HP0
    iexact HZ0
  isplitl [Hs1]; · iexact Hs1
  isplitl [HP1]; · iexact HP1
  iexact HZ1

theorem slots_join (c : Dev nD) :
    (iprop(spare c ∗ slotD m c 0 ∗ slotD m c 1) : sProp 𝕄)
      ⊢ iprop((∃ f, (c : Thread nD τ).loc cc0_scratch5 ↦{fullShare} f)
        ∗ iprop(semVal ((c : Thread nD τ), SemLoc.dma 19) 0 ∗ semVal ((c : Thread nD τ), SemLoc.dma 20) 0)
        ∗ (zdM.view.loc (c : Thread nD τ) ↦[zdM.view.set]{fullShare} V m c main_arg7)) := by
  unfold slotD slotFree
  iintro ⟨HSp, ⟨Hs0, HP0, HZ0⟩, ⟨Hs1, HP1, HZ1⟩⟩
  isplitl [HSp HP0 HP1]
  · iapply (Ring.slots2_join_spare (ℓ := (c : Thread nD τ).loc cc0_scratch5) (fun s : Fin 2 => (rslot scM0_5 s).view.set) slots_disjoint
      (slotP (F := F) c scM0_5 0) (slotP (F := F) c scM0_5 1) (fun _ => rfl) (fun _ => rfl))
    isplitr [HSp]
    · isplitl [HP0]; · iexact HP0
      iexact HP1
    · iexact HSp
  isplitl [Hs0 Hs1]
  · isplitl [Hs0]; · iexact Hs0
    iexact Hs1
  iapply (pointsTo_share (PosShare.mem_left_op_right fullShare)).2
  isplitl [HZ0]; · iexact HZ0
  iexact HZ1

/-- The body at point `t`, as the pipeline calls it. -/
abbrev bodyAt0 (t : Fin (cf m).N) : Prog (TpuEff nD τ sig (Elt F) Λ₀ .tc) PUnit :=
  cc0_target_head (F := F) (grid0.coords t) stM (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) zdM (Memref.isWhole_whole _) (ms0_7 m t) (hs0_7 m t) (ms0_8 m t) (hs0_8 m t) (ms0_9 m t) (hs0_9 m t) (ms0_10 m t) (hs0_10 m t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8

/-- The body table's row at point `t`'s slots is the body. -/
theorem defs₀_row (t : Fin (cf m).N) :
    defs₀ (F := F) .tc (cf m).body ((cf m).bodyArgs t ((cf m).slots t)) = bodyAt0 m t := by
  unfold defs₀; rw [Defs.onTc_tc]

theorem entails_of_eq {P Q : sProp 𝕄} (e : P = Q) : P ⊢ Q := e ▸ .rfl

/-- What is held between points: the scratch buffers at some contents, the two slots of the ring, free, the table, and the generator register. -/
def PhiS (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_6 fullShare d) ∗ (∃ d, owns (c : Thread nD τ) scM0_7 fullShare d) ∗ spare c ∗ slotD m c 0 ∗ slotD m c 1 ∗ tabPt m c ∗ (∃ r, prngReg c r))

/-- Nothing is said of the windows' buffers. -/
def fgt : Fin (cf m).W → Bool := fun _ => true

/-- The proof data: the arrays as the region finds them. -/
def dats (p : Fin 1) (c : Dev nD) : Dat τ (Elt F) Unit ℕ (UR sig nD τ × Counters) ℕ (Pipeline.pin pcfgs (adm m) p) c where
  A w := V m c (Pipeline.arrRef spec0 w)
  after w t := (((cf m).win w).stage ((cf m).slots t w)).view.read (Elt F) (((cf m).win w).stage ((cf m).slots t w)).view.junk
  Φ _ := PhiS m c
  q _ := fullShare
  owed _ := 0

theorem A_eq (c : Dev nD) (w : Fin (cf m).W) : (dats m 0 c).A w = V m c (Pipeline.arrRef spec0 w) := by
  dsimp only [dats]

/-- What the body is called with at point `t`, and what it leaves. -/
def bodyPre (c : Dev nD) (t : Fin (cf m).N) : sProp 𝕄 :=
  iprop((dats m 0 c).Φ t.castSucc ∗ (dats m 0 c).owesAt () t.castSucc ∗ (∃ X, owns (c : Thread nD τ) (ms0_0 m t) fullShare X) ∗ (∃ X, owns (c : Thread nD τ) (ms0_1 m t) fullShare X) ∗ (∃ X, owns (c : Thread nD τ) (ms0_2 m t) fullShare X) ∗ (∃ X, owns (c : Thread nD τ) (ms0_3 m t) fullShare X) ∗ (∃ X, owns (c : Thread nD τ) (ms0_4 m t) fullShare X) ∗ (∃ X, owns (c : Thread nD τ) (ms0_5 m t) fullShare X) ∗ (∃ X, owns (c : Thread nD τ) (ms0_6 m t) fullShare X) ∗ (∃ X, owns (c : Thread nD τ) (ms0_7 m t) fullShare X) ∗ (∃ X, owns (c : Thread nD τ) (ms0_8 m t) fullShare X) ∗ (∃ X, owns (c : Thread nD τ) (ms0_9 m t) fullShare X) ∗ (∃ X, owns (c : Thread nD τ) (ms0_10 m t) fullShare X))
def bodyPost (c : Dev nD) (t : Fin (cf m).N) : sProp 𝕄 :=
  iprop((dats m 0 c).Φ t.succ ∗ (dats m 0 c).owesAt () t.succ ∗ (∃ X, owns (c : Thread nD τ) (ms0_0 m t) fullShare X) ∗ (∃ X, owns (c : Thread nD τ) (ms0_1 m t) fullShare X) ∗ (∃ X, owns (c : Thread nD τ) (ms0_2 m t) fullShare X) ∗ (∃ X, owns (c : Thread nD τ) (ms0_3 m t) fullShare X) ∗ (∃ X, owns (c : Thread nD τ) (ms0_4 m t) fullShare X) ∗ (∃ X, owns (c : Thread nD τ) (ms0_5 m t) fullShare X) ∗ (∃ X, owns (c : Thread nD τ) (ms0_6 m t) fullShare X) ∗ (∃ X, owns (c : Thread nD τ) (ms0_7 m t) fullShare X) ∗ (∃ X, owns (c : Thread nD τ) (ms0_8 m t) fullShare X) ∗ (∃ X, owns (c : Thread nD τ) (ms0_9 m t) fullShare X) ∗ (∃ X, owns (c : Thread nD τ) (ms0_10 m t) fullShare X))

set_option maxHeartbeats 4000000 in
/-- The body at any point. -/
theorem sound_body (c : Dev nD) (t : Fin (cf m).N) :
    bodyPre m c t ⊢ wp frame (wpE (defs₀ (F := F)) Variants.none c none) Set.univ (bodyAt0 m t) (fun _ => bodyPost m c t) := by
  unfold bodyPre bodyPost bodyAt0
  rw [show (dats m 0 c).Φ t.castSucc = PhiS m c from rfl, show (dats m 0 c).Φ t.succ = PhiS m c from rfl]
  unfold Dat.owesAt Pipeline.owesWithin
  rw [show (dats m 0 c).owed t.castSucc = 0 from rfl, show (dats m 0 c).owed t.succ = 0 from rfl]
  unfold PhiS owns
  iintro ⟨⟨⟨%d15, %f15, %e15, H15⟩, ⟨%d16, %f16, %e16, H16⟩, ⟨%d17, %f17, %e17, H17⟩, ⟨%d18, %f18, %e18, H18⟩, ⟨%d19, %f19, %e19, H19⟩, ⟨%d21, %f21, %e21, H21⟩, ⟨%d22, %f22, %e22, H22⟩, HSp, HS0, HS1, HT, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d11, %f11, %e11, H11⟩, ⟨%d12, %f12, %e12, H12⟩, ⟨%d13, %f13, %e13, H13⟩, ⟨%d14, %f14, %e14, H14⟩⟩
  iapply body_run c (grid0.coords t) stM (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) zdM (Memref.isWhole_whole _) (ms0_7 m t) (hs0_7 m t) (ms0_8 m t) (hs0_8 m t) (ms0_9 m t) (hs0_9 m t) (ms0_10 m t) (hs0_10 m t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8 (V m c main_v14) f3 f4 f5 f6 f7 f8 f9 (V m c main_arg7) fullShare.right qz (fun r j => start_lt m c _) W _
  isplitl [HT]; · iexact HT
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H21]; · iexists _; iexact H21
  isplitl [H22]; · iexists _; iexact H22
  isplitl [HS0]; · iexact HS0
  isplitl [HS1]; · iexact HS1
  isplitl [HW]; · iexact HW
  iintro ⟨HT, H3, H4, H5, H6, H7, H8, H9, ⟨%u11, H11⟩, ⟨%u12, H12⟩, ⟨%u13, H13⟩, ⟨%u14, H14⟩, ⟨%u15, H15⟩, ⟨%u16, H16⟩, ⟨%u17, H17⟩, ⟨%u18, H18⟩, ⟨%u19, H19⟩, ⟨%u21, H21⟩, ⟨%u22, H22⟩, HS0, HS1, ⟨%W2, HW⟩⟩
  isplitl [H15 H16 H17 H18 H19 H21 H22 HSp HS0 HS1 HT Hg]
  · isplitl [H15]
    · iexists _; iexists _; isplitr
      swap; · iexact H15
      ipureintro; rfl
    isplitl [H16]
    · iexists _; iexists _; isplitr
      swap; · iexact H16
      ipureintro; rfl
    isplitl [H17]
    · iexists _; iexists _; isplitr
      swap; · iexact H17
      ipureintro; rfl
    isplitl [H18]
    · iexists _; iexists _; isplitr
      swap; · iexact H18
      ipureintro; rfl
    isplitl [H19]
    · iexists _; iexists _; isplitr
      swap; · iexact H19
      ipureintro; rfl
    isplitl [H21]
    · iexists _; iexists _; isplitr
      swap; · iexact H21
      ipureintro; rfl
    isplitl [H22]
    · iexists _; iexists _; isplitr
      swap; · iexact H22
      ipureintro; rfl
    isplitl [HSp]; · iexact HSp
    isplitl [HS0]; · iexact HS0
    isplitl [HS1]; · iexact HS1
    isplitl [HT]; · iexact HT
    iexact Hg
  isplitl [HW]
  · iexists W2; isplitr; · ipureintro; exact fun _ _ => Or.inl trivial
    iexact HW
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

theorem body_obligation (c : Dev nD) : Pipeline.BodyObligationLoose (dats m 0 c) (defs₀ (F := F)) Variants.none () Set.univ (fgt m) := fun t => by
  first
  | (rw [bigSep_W0, bigSep_W0, defs₀_row]; exact sound_body m c t)
  | (erw [bigSep_W0, bigSep_W0, defs₀_row]; exact sound_body m c t)
  | (rw [defs₀_row]
     refine (BI.sep_mono_r (BI.sep_mono_r (entails_of_eq (bigSep_W0 _)))).trans ?_
     refine (sound_body m c t).trans ?_
     refine (wp _ _ _ _).mono fun a => ?_
     exact BI.sep_mono_r (BI.sep_mono_r (entails_of_eq (bigSep_W0 _).symm)))

theorem hin (c : Dev nD) : iprop(Pipeline.ΦD osem0 spec0 H0 (V m) c ∗ Pipeline.ΦT pre0 (adm m 0).1 c) ⊢ (dats m 0 c).Φ 0 := by
  rw [show (dats m 0 c).Φ 0 = PhiS m c from rfl, PhiD0_eq, tab_eq]
  unfold PhiS
  iintro ⟨⟨⟨H0, H1, H2, H3, H4, H5, H6, H7⟩, Hg, Hs, HZ⟩, HT⟩
  ihave HX := (slots_split (F := F) m c) $$ [H5 Hs HZ]
  · isplitl [H5]; · iexact H5
    isplitl [Hs]; · iexact Hs
    iexact HZ
  icases HX with ⟨HSp, HS0, HS1⟩
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [HSp]; · iexact HSp
  isplitl [HS0]; · iexact HS0
  isplitl [HS1]; · iexact HS1
  isplitl [HT]; · iexact HT
  iexact Hg

theorem hout (c : Dev nD) : (dats m 0 c).Φ (Fin.last (cf m).N) ⊢ Pipeline.ΦD osem0 spec0 H0 (V m) c := by
  rw [show (dats m 0 c).Φ (Fin.last (cf m).N) = PhiS m c from rfl, PhiD0_eq]
  unfold PhiS
  iintro ⟨H0, H1, H2, H3, H4, H6, H7, HSp, HS0, HS1, -, Hg⟩
  ihave HX := (slots_join (F := F) m c) $$ [HSp HS0 HS1]
  · isplitl [HSp]; · iexact HSp
    isplitl [HS0]; · iexact HS0
    iexact HS1
  icases HX with ⟨H5, Hs, HZ⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hg]; · iexact Hg
  isplitl [Hs]; · iexact Hs
  iexact HZ

set_option backward.isDefEq.respectTransparency.types false in
/-- The run of the whole program. -/
theorem run_main : θ_run defs (onTc (τ := τ) (main (F := F))) (s₀ m ρ)
    (fun r => Pipeline.RDat.FramePost (cf m) (fun c => (dats m 0 c).toRForget (fgt m)) (V m) r ∧ r.2.sem = fun _ => 0) :=
  Pipeline.θ_run_frameP_dma_forget (Q' := _) pcfgs (adm m) (dats m) (0 : Fin 1) launch0 osem0 defs₀ Variants.none (fgt m) ownSemFacts0 H0 H0_sub m ρ main
    (hbody := fun c => body_obligation m c) (hshare := fun c => (dats m 0 c).share_full fun _ => rfl)
    (howed := fun _ _ => rfl) (V := V m) (hmain := hmain m Variants.none) (hA := A_eq m)
    (hpf := fun c k => by obtain rfl : c = 0 := Subsingleton.elim _ _; rfl) (hin := hin m) (hout := hout m)
    (hQ' := fun _ h => h)

/-- The arguments after the run. -/
theorem kept (r : PUnit × MemSt nD τ sig (Elt F)) (h : Pipeline.RDat.FramePost (cf m) (fun c => (dats m 0 c).toRForget (fgt m)) (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  fun c => ⟨((h c).2 main_arg0 (Pipeline.mem_restRefs_of main_arg0 (by decide) (show ∀ w : Fin 11, (spec0 w).arr.view.ref ≠ main_arg0 by decide))).trans (V_main_arg0 m c),
      ((h c).2 main_arg1 (Pipeline.mem_restRefs_of main_arg1 (by decide) (show ∀ w : Fin 11, (spec0 w).arr.view.ref ≠ main_arg1 by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (show ∀ w : Fin 11, (spec0 w).arr.view.ref ≠ main_arg4 by decide))).trans (V_main_arg4 m c),
      ((h c).2 main_arg5 (Pipeline.mem_restRefs_of main_arg5 (by decide) (show ∀ w : Fin 11, (spec0 w).arr.view.ref ≠ main_arg5 by decide))).trans (V_main_arg5 m c),
      (Pipeline.RDat.FramePost.arr_in h c 6 rfl).trans ((A_eq m c 6).trans (V_main_arg6 m c)),
      ((h c).2 main_arg7 (Pipeline.mem_restRefs_of main_arg7 (by decide) (show ∀ w : Fin 11, (spec0 w).arr.view.ref ≠ main_arg7 by decide))).trans (V_main_arg7 m c)⟩

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨kept m r h.1, h.2⟩) (run_main m ρ)

end Cert.Target.Gen

end
-- ==== Proof.TargetIdealGather.lean ====
/- The counted loops of the target head that gather logits by token and reduce lanes, by their invariants. -/
module

public import proofs.«01_k».proof.Proof.Gen.TargetIdeal.Loops

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option warn.classDefReducibility false in
/-- A loop that gathers logits by token. -/
@[sl_loop] def head_t4 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v48 : BitVec 32) (v50 : Elt F .i32) (k0_hw1 : k0_chk1 v50) (v51 : BitVec 32) (v53 : BitVec 32) (v55 : Vec F S1x128 .i32) (v60 : Vec F S1x128 .i32) (X18 : BufTy.Contents (Elt F) arg18.view.ty) :
    LoopInvTy_k0_t4 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v48 v50 k0_hw1 v51 v53 v55 v60 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t4_body
    sl_exec
    sl_step
    isplitl [H18]
    · iexact H18
    · iexists _; iexact H19

set_option warn.classDefReducibility false in
/-- A loop that gathers logits by token. -/
@[sl_loop] def head_t5 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v80 : BitVec 32) (v82 : Elt F .i32) (k0_hw2 : k0_chk2 v82) (v83 : BitVec 32) (v85 : BitVec 32) (v90 : IVec S8x128 32) (v95 : IVec S8x128 32) (X18 : BufTy.Contents (Elt F) arg18.view.ty) :
    LoopInvTy_k0_t5 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v80 v82 k0_hw2 v83 v85 v90 v95 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t5_body
    sl_exec
    sl_step
    isplitl [H18]
    · iexact H18
    · iexists _; iexact H19

set_option warn.classDefReducibility false in
/-- A loop that gathers logits by token. -/
@[sl_loop] def head_t6 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v114 : Elt F .i32) (k0_hw3 : k0_chk3 v114) (v115 : BitVec 32) (v117 : BitVec 32) (v122 : IVec S8x128 32) (v127 : IVec S8x128 32) (v131 : IVec S8x128 1) (v135 : IVec S8x128 1) (v137 : IVec S8x128 1) (X18 : BufTy.Contents (Elt F) arg18.view.ty) :
    LoopInvTy_k0_t6 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v114 k0_hw3 v115 v117 v122 v127 v131 v135 v137 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t6_body
    sl_exec
    sl_step
    isplitl [H18]
    · iexact H18
    · iexists _; iexact H19

set_option warn.classDefReducibility false in
/-- A loop that gathers logits by token. -/
@[sl_loop] def head_t7 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v114 : Elt F .i32) (k0_hw3 : k0_chk3 v114) (v115 : BitVec 32) (v117 : BitVec 32) (v122 : IVec S8x128 32) (v127 : IVec S8x128 32) (v131 : IVec S8x128 1) (v135 : IVec S8x128 1) (v137 : IVec S8x128 1) (v146 : Elt F .i32) (k0_hw4 : k0_chk4 v146) (v151 : Vec F S1x128 .i32) (v156 : Vec F S1x128 .i32) (X18 : BufTy.Contents (Elt F) arg18.view.ty) :
    LoopInvTy_k0_t7 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v114 k0_hw3 v115 v117 v122 v127 v131 v135 v137 v146 k0_hw4 v151 v156 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t7_body
    sl_exec
    sl_step
    isplitl [H18]
    · iexact H18
    · iexists _; iexact H19

set_option warn.classDefReducibility false in
/-- A loop that gathers logits by token. -/
@[sl_loop] def head_t8 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (c8_i32_87 : BitVec 32) (v178 : Elt F .i32) (k0_hw5 : k0_chk5 v178) (v183 : Vec F S1x128 .i32) (v188 : Vec F S1x128 .i32) (X18 : BufTy.Contents (Elt F) arg18.view.ty) :
    LoopInvTy_k0_t8 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 c8_i32_87 v178 k0_hw5 v183 v188 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t8_body
    sl_exec
    sl_step
    isplitl [H18]
    · iexact H18
    · iexists _; iexact H19

set_option warn.classDefReducibility false in
/-- A loop that gathers logits by token. -/
@[sl_loop] def head_t9 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v208 : BitVec 32) (v210 : Elt F .i32) (k0_hw6 : k0_chk6 v210) (v211 : BitVec 32) (v213 : BitVec 32) (v215 : Vec F S1x128 .i32) (v220 : Vec F S1x128 .i32) (X18 : BufTy.Contents (Elt F) arg18.view.ty) :
    LoopInvTy_k0_t9 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v208 v210 k0_hw6 v211 v213 v215 v220 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t9_body
    sl_exec
    sl_step
    isplitl [H18]
    · iexact H18
    · iexists _; iexact H19

set_option warn.classDefReducibility false in
/-- A loop that gathers logits by token. -/
@[sl_loop] def head_t10 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v240 : BitVec 32) (v242 : Elt F .i32) (k0_hw7 : k0_chk7 v242) (v243 : BitVec 32) (v245 : BitVec 32) (v250 : IVec S8x128 32) (v255 : IVec S8x128 32) (X18 : BufTy.Contents (Elt F) arg18.view.ty) :
    LoopInvTy_k0_t10 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v240 v242 k0_hw7 v243 v245 v250 v255 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t10_body
    sl_exec
    sl_step
    isplitl [H18]
    · iexact H18
    · iexists _; iexact H19

set_option warn.classDefReducibility false in
/-- The last of the loops that gather logits by token. -/
@[sl_loop] def head_t11 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (v274 : Elt F .i32) (k0_hw8 : k0_chk8 v274) (v282 : IVec S8x128 32) (v287 : IVec S8x128 32) (v291 : IVec S8x128 1) (v295 : IVec S8x128 1) (v297 : IVec S8x128 1) (X18 : BufTy.Contents (Elt F) arg18.view.ty) :
    LoopInvTy_k0_t11 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v274 k0_hw8 v282 v287 v291 v295 v297 where
  inv k _ := iprop((arg18.view.loc (c : Thread nD τ) ↦[arg18.view.set]{fullShare} X18) ∗ (∃ f, (arg19.view.loc (c : Thread nD τ) ↦[arg19.view.set]{fullShare} f)))
  step k acc := by
    iintro ⟨H18, ⟨%f19, H19⟩⟩
    unfold k0_t11_body
    sl_exec
    sl_step
    isplitl [H18]
    · iexact H18
    · iexists _; iexact H19

set_option warn.classDefReducibility false in
/-- The loop that reduces the lanes of the running maximum and sum. -/
@[sl_loop] def head_t12 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (k0_h3 : k0_cond3 i = 1#1) (X21 : BufTy.Contents (Elt F) arg21.view.ty) (X22 : BufTy.Contents (Elt F) arg22.view.ty) :
    LoopInvTy_k0_t12 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h3 where
  inv k _ := iprop((arg21.view.loc (c : Thread nD τ) ↦[arg21.view.set]{fullShare} X21) ∗ (arg22.view.loc (c : Thread nD τ) ↦[arg22.view.set]{fullShare} X22) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))
  step k acc := by
    iintro ⟨H21, H22, ⟨%f12, H12⟩, ⟨%f13, H13⟩, ⟨%f14, H14⟩⟩
    unfold k0_t12_body
    sl_exec
    sl_step
    isplitl [H21]
    · iexact H21
    isplitl [H22]
    · iexact H22
    isplitl [H12]
    · iexists _; iexact H12
    isplitl [H13]
    · iexists _; iexact H13
    · iexists _; iexact H14

set_option warn.classDefReducibility false in
/-- The loop that reduces the lanes of the sums over drafts. -/
@[sl_loop] def head_t15 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (k0_h3 : k0_cond3 i = 1#1)  :
    LoopInvTy_k0_t15 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h3 where
  inv k _ := iprop((∃ f, (arg13.view.loc (c : Thread nD τ) ↦[arg13.view.set]{fullShare} f)) ∗ (∃ f, (arg14.view.loc (c : Thread nD τ) ↦[arg14.view.set]{fullShare} f)))
  step k acc := by
    iintro ⟨⟨%f13, H13⟩, ⟨%f14, H14⟩⟩
    unfold k0_t15_body
    sl_exec
    sl_step
    isplitl [H13]
    · iexists _; iexact H13
    · iexists _; iexact H14

end Cert.TargetIdeal.Gen

end
-- ==== Proof.TargetIdealRing.lean ====
/- The ring of transfers of the target head: two slots of a buffer on two semaphores, refilled in turn from the draft logits. -/
module

public import proofs.«01_k».proof.Proof.Gen.TargetIdeal.Loops
public import Idealize.ShloMosaic.Lib.Ring
public import Idealize.ShloMosaic.Lib.Affine
public import Idealize.ShloMosaic.Lib.Transfers

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The slots, their semaphores, and the printed offsets in closed form -/

abbrev slotOff (s : Fin 2) : Fin 4 → Nat := ![s.val, 0, 0, 0]
theorem slotOff_inb (s : Fin 2) : ∀ a, slotOff s a + S1x5x256x128.size a ≤ S2x5x256x128.size a := by
  have := s.isLt; intro a; fin_cases a
  · show s.val + 1 ≤ 2; omega
  · show 0 + 5 ≤ 5; omega
  · show 0 + 256 ≤ 256; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Slot `s` of the buffer, as the body slices and squeezes it. -/
def rslot (arg20 : Memref sig .tc .vmem S2x5x256x128 .f32) (s : Fin 2) : Memref sig .tc .vmem S5x256x128 .f32 :=
  (arg20.slice (Rect.unit (s := S2x5x256x128) (slotOff s) S1x5x256x128.size (slotOff_inb s)) (fun _ => rfl)).squeeze S5x256x128 squeezes_S1x5x256x128_S5x256x128
/-- Slot `s`'s semaphore. -/
def csm (arg23 : DmaSems sig S2) (s : Fin 2) : DmaSems sig S_ := (arg23.slice (Rect.unit (s := S2) (semOff s) S1.size (semOff_inb s))).squeeze S_ squeezes_S1_S_

instance (s : Fin 2) : ClosedOff (slotOff s) := ⟨slotOff s, rfl⟩

section Chain
open Affine

theorem trips13 : k0_t13_loop.trips = 50 := by decide
theorem trips14 : k0_t14_loop.trips = 32 := by decide
variable (k : Fin k0_t13_loop.trips) (j : Fin k0_t14_loop.trips)
theorem k13_lt : k.val < 50 := Nat.lt_of_lt_of_eq k.isLt trips13
theorem k14_lt : j.val < 32 := Nat.lt_of_lt_of_eq j.isLt trips14

theorem isInt_lit (n : Nat) (h : n < 2 ^ 31) : IsInt (BitVec.ofNat 32 n) n := ofNat (e := n) n ⟨rfl, by omega⟩
theorem isInt_iv13 : IsInt (Scf.iv 0#32 1#32 k.val) k.val :=
  have := k13_lt k
  iv (e := k.val) (ofNat (e := 0) 0 ⟨rfl, by decide⟩) (ofNat (e := 1) 1 ⟨rfl, by decide⟩) k.val ⟨by omega, by omega, by omega⟩
theorem isInt_iv14 : IsInt (Scf.iv 0#32 1#32 j.val) j.val :=
  have := k14_lt j
  iv (e := j.val) (ofNat (e := 0) 0 ⟨rfl, by decide⟩) (ofNat (e := 1) 1 ⟨rfl, by decide⟩) j.val ⟨by omega, by omega, by omega⟩
theorem isInt_rem : IsInt (Scalar.remsi (Scf.iv 0#32 1#32 k.val) 2#32) (k.val % 2 : Nat) :=
  have := k13_lt k
  remsi (e := (k.val % 2 : Nat)) (isInt_iv13 k) (ofNat (e := 2) 2 ⟨rfl, by decide⟩) ⟨by omega, by omega, by omega⟩
theorem isInt_other : IsInt (Scalar.subi 1#32 (Scalar.remsi (Scf.iv 0#32 1#32 k.val) 2#32)) ((k.val + 1) % 2 : Nat) :=
  subi (e := ((k.val + 1) % 2 : Nat)) (ofNat (e := 1) 1 ⟨rfl, by decide⟩) (isInt_rem k) ⟨by omega, by omega, by omega⟩
theorem isInt_row : IsInt (Scalar.indexCast (Scalar.muli (Scf.iv 0#32 1#32 j.val) 8#32)) (8 * j.val : Nat) :=
  have := k14_lt j
  indexCast (muli (e := (8 * j.val : Nat)) (isInt_iv14 j) (ofNat (e := 8) 8 ⟨rfl, by decide⟩) ⟨by push_cast; omega, by omega, by omega⟩)

theorem off103_eq : k0_off103 k = semOff (Ring.sl 2 (k.val + 1)) :=
  vec_cons (isInt_other k) (by simp [Ring.sl, Fin.ofNat]) vec_nil
theorem off104_eq : k0_off104 k = slotOff (Ring.sl 2 (k.val + 1)) :=
  vec_cons (isInt_other k) (by simp [Ring.sl, Fin.ofNat]) rfl
theorem off106_eq : k0_off106 k = semOff (Ring.sl 2 k.val) :=
  vec_cons (isInt_rem k) (by simp [Ring.sl, Fin.ofNat]) vec_nil
theorem off107_eq : k0_off107 k = slotOff (Ring.sl 2 k.val) :=
  vec_cons (isInt_rem k) (by simp [Ring.sl, Fin.ofNat]) rfl
/-- Rows `8 j` of page `p` of slot `k % 2`. -/
theorem page_eq (p : BitVec 32) (q : Nat) (h : p.toNat = q) :
    (![(Scalar.indexCast (Scalar.remsi (Scf.iv 0#32 1#32 k.val) 2#32)).toNat, p.toNat, (Scalar.indexCast (Scalar.muli (Scf.iv 0#32 1#32 j.val) 8#32)).toNat, 0] : Fin 4 → Nat)
      = ![(Ring.sl 2 k.val).val, q, 8 * j.val, 0] :=
  vec_cons (indexCast (isInt_rem k)) (by simp [Ring.sl, Fin.ofNat])
    (congrArg₂ Matrix.vecCons h (vec_cons (isInt_row j) rfl rfl))
instance : ClosedOff (k0_off111 k j) := ⟨![(Ring.sl 2 k.val).val, 0, 8 * j.val, 0], page_eq k j 0#32 0 rfl⟩
instance : ClosedOff (k0_off112 k j) := ⟨![(Ring.sl 2 k.val).val, 1, 8 * j.val, 0], page_eq k j 1#32 1 rfl⟩
instance : ClosedOff (k0_off113 k j) := ⟨![(Ring.sl 2 k.val).val, 2, 8 * j.val, 0], page_eq k j 2#32 2 rfl⟩
instance : ClosedOff (k0_off114 k j) := ⟨![(Ring.sl 2 k.val).val, 3, 8 * j.val, 0], page_eq k j 3#32 3 rfl⟩
instance : ClosedOff (k0_off115 k j) := ⟨![(Ring.sl 2 k.val).val, 4, 8 * j.val, 0], page_eq k j 4#32 4 rfl⟩

end Chain

section Canon

private theorem csm_congr (arg23 : DmaSems sig S2) {off : Fin 1 → Nat} {s : Fin 2} (e : off = semOff s) (hh) :
    (arg23.slice (Rect.unit (s := S2) off S1.size hh)).squeeze S_ squeezes_S1_S_ = csm arg23 s :=
  congrArg (fun A : DmaSems sig S1 => A.squeeze S_ squeezes_S1_S_) (SemArray.slice_unit_congr _ e _ _)
private theorem rslot_congr (arg20 : Memref sig .tc .vmem S2x5x256x128 .f32) {off : Fin 4 → Nat} {s : Fin 2} (e : off = slotOff s) (hh hs) :
    (arg20.slice (Rect.unit (s := S2x5x256x128) off S1x5x256x128.size hh) hs).squeeze S5x256x128 squeezes_S1x5x256x128_S5x256x128 = rslot arg20 s :=
  congrArg (fun M : Memref sig .tc .vmem S1x5x256x128 .f32 => M.squeeze S5x256x128 squeezes_S1x5x256x128_S5x256x128) (Memref.slice_unit_congr _ e _ _ _ _)

variable (arg20 : Memref sig .tc .vmem S2x5x256x128 .f32) (arg23 : DmaSems sig S2) (k : Fin k0_t13_loop.trips)

@[sl_canon] theorem sem_first (hh) : (arg23.slice (Rect.unit (s := S2) ![0] S1.size hh)).squeeze S_ squeezes_S1_S_ = csm arg23 0 := csm_congr arg23 (by decide) _
@[sl_canon] theorem slot_first (hh hs) : (arg20.slice (Rect.unit (s := S2x5x256x128) ![0, 0, 0, 0] S1x5x256x128.size hh) hs).squeeze S5x256x128 squeezes_S1x5x256x128_S5x256x128 = rslot arg20 0 := rslot_congr arg20 (by decide) _ _
@[sl_canon] theorem sem_next (hh) : (arg23.slice (Rect.unit (s := S2) (k0_off103 k) S1.size hh)).squeeze S_ squeezes_S1_S_ = csm arg23 (Ring.sl 2 (k.val + 1)) := csm_congr arg23 (off103_eq k) _
@[sl_canon] theorem slot_next (hh hs) : (arg20.slice (Rect.unit (s := S2x5x256x128) (k0_off104 k) S1x5x256x128.size hh) hs).squeeze S5x256x128 squeezes_S1x5x256x128_S5x256x128 = rslot arg20 (Ring.sl 2 (k.val + 1)) := rslot_congr arg20 (off104_eq k) _ _
@[sl_canon] theorem sem_here (hh) : (arg23.slice (Rect.unit (s := S2) (k0_off106 k) S1.size hh)).squeeze S_ squeezes_S1_S_ = csm arg23 (Ring.sl 2 k.val) := csm_congr arg23 (off106_eq k) _
@[sl_canon] theorem slot_here (hh hs) : (arg20.slice (Rect.unit (s := S2x5x256x128) (k0_off107 k) S1x5x256x128.size hh) hs).squeeze S5x256x128 squeezes_S1x5x256x128_S5x256x128 = rslot arg20 (Ring.sl 2 k.val) := rslot_congr arg20 (off107_eq k) _ _

end Canon

/-! ## A slot free, a slot in flight, and the two steps between them -/

section Slots
local notation "𝕄" => MT nD τ sig Unit (Elt F) ℕ (UR sig nD τ × Counters) ℕ

variable (c : Dev nD) (arg10 : Memref sig .tc .hbm S250x768x128 .f32) (arg20 : Memref sig .tc .vmem S2x5x256x128 .f32) (arg23 : DmaSems sig S2)
  (Z : BufTy.Contents (Elt F) arg10.view.ty) (q : PosShare TreeShare)

/-- The units a page group's transfer moves. -/
abbrev ringAmount : ℕ := (rslot arg20 0).view.dmaCredit
abbrev slotP (s : Fin 2) (f : BufTy.Contents (Elt F) arg20.view.ty) : sProp 𝕄 := (rslot arg20 s).view.loc (c : Thread nD τ) ↦[(rslot arg20 s).view.set]{fullShare} f

/-- Slot `s` free: its semaphore at zero, its elements at some contents, and its share of the draft logits. -/
def slotFree (s : Fin 2) : sProp 𝕄 :=
  iprop(semVal ((c : Thread nD τ), SemLoc.dma (csm arg23 s).sem) 0 ∗ (∃ f, slotP (F := F) c arg20 s f) ∗ (arg10.view.loc (c : Thread nD τ) ↦[arg10.view.set]{q} Z))
/-- Slot `s` in flight: a transfer that gives back the slot and the part `I` of the share it reads, and the rest of that share. -/
def slotBusy (s : Fin 2) : sProp 𝕄 :=
  iprop(∃ I, ⌜I ⊆ arg10.view.set⌝
    ∗ Transfers.Flight countersEmb (c : Thread nD τ) (SemLoc.dma (csm arg23 s).sem) () (ringAmount arg20)
        iprop((∃ f, slotP (F := F) c arg20 s f) ∗ (arg10.view.loc (c : Thread nD τ) ↦[I]{q} Z))
    ∗ (arg10.view.loc (c : Thread nD τ) ↦[arg10.view.set \ I]{q} Z))

theorem slotFree_iff (s : Fin 2) : slotFree (F := F) c arg10 arg20 arg23 Z q s
    ⊣⊢ iprop(semVal ((c : Thread nD τ), SemLoc.dma (csm arg23 s).sem) 0 ∗ (∃ f, slotP (F := F) c arg20 s f) ∗ (arg10.view.loc (c : Thread nD τ) ↦[arg10.view.set]{q} Z)) := .rfl

/-- Starting a transfer into a free slot. -/
theorem slot_start (𝒱 : Variants) (bd : Option 𝒱.V) (harg10 : arg10.IsWhole) (s : Fin 2) {off : Fin 3 → Nat} (hh : ∀ a, off a + S5x256x128.size a ≤ S250x768x128.size a)
    {hsrc} {hdst} {hsem} {α : Type} {K : PUnit → Prog (TpuEff nD τ sig (Elt F) Λ₀ .tc) α} {Q : α → sProp 𝕄} :
    slotFree (F := F) c arg10 arg20 arg23 Z q s
      ⊢ iprop((slotBusy (F := F) c arg10 arg20 arg23 Z q s -∗ wp frame (wpE (defs₀ (F := F)) 𝒱 (c : Thread nD τ) bd) Set.univ (K ⟨⟩) Q)
          -∗ wp frame (wpE (defs₀ (F := F)) 𝒱 (c : Thread nD τ) bd) Set.univ
              (.op (.enqueueDma (arg10.slice (Rect.unit (s := S250x768x128) off S5x256x128.size hh) (fun _ => rfl)) (.here (rslot arg20 s)) (.dma (csm arg23 s).sem) hsrc hdst hsem) K) Q) := by
  have hI : (arg10.slice (Rect.unit (s := S250x768x128) off S5x256x128.size hh) (fun _ => rfl)).view.set ⊆ arg10.view.set := by
    rw [harg10.set_eq_univ]; exact Finset.subset_univ _
  unfold slotFree
  iintro ⟨Hv, ⟨%f, Hs⟩, HZ⟩ Hk
  ihave H2 := (pointsTo_split_subset hI).1 $$ HZ
  icases H2 with ⟨HI, HR⟩
  iapply (Transfers.wp_dmaLocal countersEmb 𝒱 (c : Thread nD τ) bd () (ringAmount arg20) (src := arg10.slice (Rect.unit (s := S250x768x128) off S5x256x128.size hh) (fun _ => rfl)) (dst := rslot arg20 s) (hsrc := hsrc) (hdst := hdst) (hsem := hsem) (Sd := (rslot arg20 s).view.set) rfl (View.dmaCredit_pos _ (by decide)) (Finset.Subset.refl _)) $$ [HI Hs Hv]
  · isplitl [HI]; · iexact HI
    isplitl [Hs]; · iexact Hs
    iexact Hv
  iintro HF
  iapply Hk
  unfold slotBusy
  iexists _
  isplitr; · ipureintro; exact hI
  isplitl [HF]
  · iapply (Transfers.Flight_mono countersEmb (c : Thread nD τ) (by
      iintro ⟨HA, HB⟩
      isplitl [HA]; · iexists _; iexact HA
      iexact HB)) $$ HF
  · iexact HR

/-- Waiting for a slot's transfer. -/
theorem slot_wait (𝒱 : Variants) (bd : Option 𝒱.V) (s : Fin 2) {srcw : Memref sig .tc .hbm S5x256x128 .f32} {W : Waits sig Unit}
    {hsrc} {hdst} {α : Type} {K : PUnit → Prog (TpuEff nD τ sig (Elt F) Λ₀ .tc) α} {Q : α → sProp 𝕄} :
    iprop(slotBusy (F := F) c arg10 arg20 arg23 Z q s ∗ owes (c : Thread nD τ) 0 W)
      ⊢ iprop(((slotFree (F := F) c arg10 arg20 arg23 Z q s ∗ (∃ W, owes (c : Thread nD τ) 0 W)) -∗ wp frame (wpE (defs₀ (F := F)) 𝒱 (c : Thread nD τ) bd) Set.univ (K ⟨⟩) Q)
          -∗ wp frame (wpE (defs₀ (F := F)) 𝒱 (c : Thread nD τ) bd) Set.univ
              (.op (.waitDma2 (csm arg23 s).sem srcw (rslot arg20 s) hsrc hdst) K) Q) := by
  unfold slotBusy
  iintro ⟨⟨%I, %hI, HF, HR⟩, HW⟩ Hk
  iapply (Transfers.wp_waitLocal countersEmb 𝒱 (c : Thread nD τ) bd () (srcw := srcw) (dstw := rslot arg20 s) (hsrc := hsrc) (hdst := hdst) (N := ringAmount arg20) rfl) $$ [HF HW]
  · isplitl [HF]; · iexact HF
    iexact HW
  iintro ⟨⟨Hs, HI⟩, Hv, HW⟩
  iapply Hk
  isplitr [HW]
  · unfold slotFree
    isplitl [Hv]; · iexact Hv
    isplitl [Hs]; · iexact Hs
    iapply (pointsTo_split_subset hI).2
    isplitl [HI]; · iexact HI
    iexact HR
  · iexists _; iexact HW

/-- The two slots before trip `k` of 50: slot `k % 2` in flight and the other free, both free at the end. -/
def ringAt (q : Fin 2 → PosShare TreeShare) (k : ℕ) : sProp 𝕄 :=
  if k < 50 then iprop(slotBusy (F := F) c arg10 arg20 arg23 Z (q (Ring.sl 2 k)) (Ring.sl 2 k) ∗ slotFree (F := F) c arg10 arg20 arg23 Z (q (Ring.sl 2 (k + 1))) (Ring.sl 2 (k + 1)))
  else iprop(slotFree (F := F) c arg10 arg20 arg23 Z (q (Ring.sl 2 k)) (Ring.sl 2 k) ∗ slotFree (F := F) c arg10 arg20 arg23 Z (q (Ring.sl 2 (k + 1))) (Ring.sl 2 (k + 1)))

theorem ringAt_lt (q : Fin 2 → PosShare TreeShare) {k : ℕ} (h : k < 50) : ringAt (F := F) c arg10 arg20 arg23 Z q k
    ⊣⊢ iprop(slotBusy (F := F) c arg10 arg20 arg23 Z (q (Ring.sl 2 k)) (Ring.sl 2 k) ∗ slotFree (F := F) c arg10 arg20 arg23 Z (q (Ring.sl 2 (k + 1))) (Ring.sl 2 (k + 1))) := by
  unfold ringAt; rw [if_pos h]
theorem ringAt_ge (q : Fin 2 → PosShare TreeShare) {k : ℕ} (h : ¬ k < 50) : ringAt (F := F) c arg10 arg20 arg23 Z q k
    ⊣⊢ iprop(slotFree (F := F) c arg10 arg20 arg23 Z (q (Ring.sl 2 k)) (Ring.sl 2 k) ∗ slotFree (F := F) c arg10 arg20 arg23 Z (q (Ring.sl 2 (k + 1))) (Ring.sl 2 (k + 1))) := by
  unfold ringAt; rw [if_neg h]

theorem cond4_iff (k : Fin k0_t13_loop.trips) : k0_cond4 k = 1#1 ↔ k.val + 1 < 50 := by
  revert k; decide

end Slots

set_option warn.classDefReducibility false in
/-- The loop over rows within one trip of the transfer ring. -/
@[sl_loop] def head_t14 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (v0 : IVec S8x128 32) (k0_h3 : k0_cond3 i = 1#1) (k0_t13 : Fin k0_t13_loop.trips) (arg24 : BitVec 32) (v316 : BitVec 32)
    (X8 : BufTy.Contents (Elt F) arg8.view.ty) (X9 : BufTy.Contents (Elt F) arg9.view.ty) (X12 : BufTy.Contents (Elt F) arg12.view.ty) (X19 : BufTy.Contents (Elt F) arg19.view.ty) (X20 : BufTy.Contents (Elt F) arg20.view.ty) :
    LoopInvTy_k0_t14 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v0 k0_h3 k0_t13 arg24 v316 where
  inv k _ := iprop((arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg19.view.loc (c : Thread nD τ) ↦[arg19.view.set]{fullShare} X19) ∗ slotP (F := F) c arg20 (Ring.sl 2 k0_t13.val) X20 ∗ (∃ f, (arg13.view.loc (c : Thread nD τ) ↦[arg13.view.set]{fullShare} f)) ∗ (∃ f, (arg14.view.loc (c : Thread nD τ) ↦[arg14.view.set]{fullShare} f)))
  step k acc := by
    iintro ⟨H8, H9, H12, H19, HS, ⟨%f13, H13⟩, ⟨%f14, H14⟩⟩
    unfold k0_t14_body
    have hk := k14_lt k
    sl_exec
    sl_step
    isplitl [H8]; · iexact H8
    isplitl [H9]; · iexact H9
    isplitl [H12]; · iexact H12
    isplitl [H19]; · iexact H19
    isplitl [HS]; · iexact HS
    isplitl [H13]; · iexists _; iexact H13
    iexists _; iexact H14

set_option warn.classDefReducibility false in
/-- The transfer ring: trip `k` starts the transfer of page group `k + 1` into the slot that is free, waits for that of group `k`, and adds the rows it brought. -/
@[sl_loop] def head_t13 (𝒱 : Variants) (c : Dev nD) (bd : Option 𝒱.V) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (v0 : IVec S8x128 32) (k0_h3 : k0_cond3 i = 1#1)
    (X8 : BufTy.Contents (Elt F) arg8.view.ty) (X9 : BufTy.Contents (Elt F) arg9.view.ty) (X12 : BufTy.Contents (Elt F) arg12.view.ty) (X19 : BufTy.Contents (Elt F) arg19.view.ty) (Z : BufTy.Contents (Elt F) arg10.view.ty) (q : Fin 2 → PosShare TreeShare) :
    LoopInvTy_k0_t13 (F := F) Unit ℕ (UR sig nD τ × Counters) ℕ 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v0 k0_h3 where
  inv k _ := iprop((arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg19.view.loc (c : Thread nD τ) ↦[arg19.view.set]{fullShare} X19) ∗ (∃ f, (arg13.view.loc (c : Thread nD τ) ↦[arg13.view.set]{fullShare} f)) ∗ (∃ f, (arg14.view.loc (c : Thread nD τ) ↦[arg14.view.set]{fullShare} f)) ∗ (∃ W, owes (c : Thread nD τ) 0 W) ∗ ringAt (F := F) c arg10 arg20 arg23 Z q k)
  step k acc := by
    have hk := k13_lt k
    iintro ⟨H8, H9, H12, H19, ⟨%f13, H13⟩, ⟨%f14, H14⟩, ⟨%W, HW⟩, HR⟩
    ihave HR2 := (ringAt_lt (F := F) c arg10 arg20 arg23 Z q hk).1 $$ HR
    icases HR2 with ⟨Hbusy, Hfree⟩
    unfold k0_t13_body
    by_cases hc : k0_cond4 k = 1#1
    · sl_exec
      iapply (slot_start (F := F) c arg10 arg20 arg23 Z (q (Ring.sl 2 (k.val + 1))) 𝒱 bd harg10 (Ring.sl 2 (k.val + 1)) _) $$ Hfree
      iintro Hnext
      sl_exec
      iapply (slot_wait (F := F) c arg10 arg20 arg23 Z (q (Ring.sl 2 k.val)) 𝒱 bd (Ring.sl 2 k.val)) $$ [Hbusy HW]
      · isplitl [Hbusy]; · iexact Hbusy
        iexact HW
      iintro ⟨Hhere, ⟨%W', HW⟩⟩
      ihave Hh := (slotFree_iff (F := F) c arg10 arg20 arg23 Z (q (Ring.sl 2 k.val)) (Ring.sl 2 k.val)).1 $$ Hhere
      icases Hh with ⟨Hsem, ⟨%fS, HS⟩, HZ⟩
      sl_exec
      sl_step
      isplitl [H8]; · iexact H8
      isplitl [H9]; · iexact H9
      isplitl [H12]; · iexact H12
      isplitl [H19]; · iexact H19
      isplitl [H13]; · iexists _; iexact H13
      isplitl [H14]; · iexists _; iexact H14
      isplitl [HW]; · iexists _; iexact HW
      iapply (ringAt_lt (F := F) c arg10 arg20 arg23 Z q ((cond4_iff k).1 hc)).2
      irw [show Ring.sl 2 (k.val + 1 + 1) = Ring.sl 2 k.val from Ring.sl_add 2 _]
      isplitl [Hnext]; · iexact Hnext
      iapply (slotFree_iff (F := F) c arg10 arg20 arg23 Z (q (Ring.sl 2 k.val)) (Ring.sl 2 k.val)).2
      isplitl [Hsem]; · iexact Hsem
      isplitl [HS]; · iexists _; iexact HS
      iexact HZ
    · sl_exec
      iapply (slot_wait (F := F) c arg10 arg20 arg23 Z (q (Ring.sl 2 k.val)) 𝒱 bd (Ring.sl 2 k.val)) $$ [Hbusy HW]
      · isplitl [Hbusy]; · iexact Hbusy
        iexact HW
      iintro ⟨Hhere, ⟨%W', HW⟩⟩
      ihave Hh := (slotFree_iff (F := F) c arg10 arg20 arg23 Z (q (Ring.sl 2 k.val)) (Ring.sl 2 k.val)).1 $$ Hhere
      icases Hh with ⟨Hsem, ⟨%fS, HS⟩, HZ⟩
      sl_exec
      sl_step
      isplitl [H8]; · iexact H8
      isplitl [H9]; · iexact H9
      isplitl [H12]; · iexact H12
      isplitl [H19]; · iexact H19
      isplitl [H13]; · iexists _; iexact H13
      isplitl [H14]; · iexists _; iexact H14
      isplitl [HW]; · iexists _; iexact HW
      iapply (ringAt_ge (F := F) c arg10 arg20 arg23 Z q (fun h => hc ((cond4_iff k).2 h))).2
      irw [show Ring.sl 2 (k.val + 1 + 1) = Ring.sl 2 k.val from Ring.sl_add 2 _]
      isplitl [Hfree]; · iexact Hfree
      iapply (slotFree_iff (F := F) c arg10 arg20 arg23 Z (q (Ring.sl 2 k.val)) (Ring.sl 2 k.val)).2
      isplitl [Hsem]; · iexact Hsem
      isplitl [HS]; · iexists _; iexact HS
      iexact HZ

end Cert.TargetIdeal.Gen

end
-- ==== Proof.TargetIdealLoops.lean ====
/- The counted loops of the target head that decode operands and write logits, by their invariants: what the rows written so far hold, over the ideal values. -/
module

public import proofs.«01_k».proof.Proof.Gen.TargetIdeal.Loops
public import proofs.«01_k».proof.Proof.Payload
public import proofs.«01_k».proof.Proof.Pieces

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode rowChunk rowChunk_apply colWord colGroup colGroup_apply read_writes_of_pieces readAt_unit_apply emb_unit_eq)

/-- The decoded hidden states. -/
def statesOf (h : Vec Ideal S768x2048 .fp8e4m3) (sc : Vec Ideal S768x64 .i8) (y : S768x2048.Idx) : EReal :=
  h y * decode (sc (ix2 (⟨(y 0).val, (y 0).isLt⟩ : Fin 768) (⟨(y 1).val / 32, by have h : (y 1).val < 2048 := (y 1).isLt; omega⟩ : Fin 64)))

/-- Row `r` of the block of 256 rows a grid point works on. -/
def rowOf (i : grid0.Coords) (r : Fin 256) : Fin 768 := ⟨256 * (i 0).val + r.val, by have h : (i 0).val < 3 := (i 0).isLt; omega⟩

/-- The decoded hidden states of the block of rows. -/
def blockStates (i : grid0.Coords) (h : Vec Ideal S768x2048 .fp8e4m3) (sc : Vec Ideal S768x64 .i8) (y : S256x2048.Idx) : EReal :=
  statesOf h sc (ix2 (rowOf i (⟨(y 0).val, (y 0).isLt⟩ : Fin 256)) (⟨(y 1).val, (y 1).isLt⟩ : Fin 2048))

/-- The scaled products, position by position. -/
def logitsOf (z : Vec Ideal S256x1024 .f32) (y : S32x8x1024.Idx) : EReal :=
  z (ix2 (⟨8 * (y 0).val + (y 1).val, by have h : (y 0).val < 32 := (y 0).isLt; have h' : (y 1).val < 8 := (y 1).isLt; omega⟩ : Fin 256)
      (⟨(y 2).val, (y 2).isLt⟩ : Fin 1024)) * ((10 / 7 : ℝ) : EReal)

/-- A stored chunk of 32 rows and 128 columns holds the decoded states. -/
theorem states_piece (ch : Fin 16) (i : grid0.Coords) (arg3 : Memref sig .tc .vmem S768x2048 .fp8e4m3) (arg4 : Memref sig .tc .vmem S768x64 .i8)
    (X3 : BufTy.Contents (Elt Ideal) arg3.view.ty) (X4 : BufTy.Contents (Elt Ideal) arg4.view.ty) (v307 : IVec S32x128 32)
    (h307 : ∀ j, v307 j = BitVec.ofNat 32 (j 1).val) (k : ℕ) {o o1 o2 : Fin 2 → ℕ} (ho : o = ![32 * k, 128 * ch.val])
    (ho1 : o1 = ![256 * (i 0).val + 32 * k, 128 * ch.val]) (ho2 : o2 = ![256 * (i 0).val + 32 * k, 0]) (inb : ∀ a, o a + S32x128.size a ≤ S256x2048.size a)
    (inb1 : ∀ a, o1 a + S32x128.size a ≤ S768x2048.size a) (inb2 : ∀ a, o2 a + S32x64.size a ≤ S768x64.size a)
    (w : FVec Ideal S32x128 .bf16)
    (hw : w = rowChunk (BitVec.ofNat 32 (4 * ch.val)) v307 (arg4.view.readAt (Elt Ideal) (Rect.unit (s := S768x64) o2 S32x64.size inb2).toLoadRect X4)
      (arg3.view.readAt (Elt Ideal) (Rect.unit (s := S768x2048) o1 S32x128.size inb1).toLoadRect X3)) (x : S32x128.Idx) :
    w x = (blockStates i (arg3.view.read (Elt Ideal) X3) (arg4.view.read (Elt Ideal) X4))
      ((Rect.unit (s := S256x2048) o S32x128.size inb).emb x) := by
  have hb : 32 * k + 32 ≤ 256 := by have := inb 0; rw [ho] at this; exact this
  have h0 : (x 0).val < 32 := (x 0).isLt
  have h1 : (x 1).val < 128 := (x 1).isLt
  have he : (Rect.unit (s := S256x2048) o S32x128.size inb).emb x = ix2 ⟨32 * k + (x 0).val, by omega⟩ ⟨128 * ch.val + (x 1).val, by omega⟩ := by
    refine emb_unit_eq (s := S256x2048) (size := S32x128.size) inb ho x _ fun a => ?_
    match a with
    | ⟨0, _⟩ => rfl
    | ⟨1, _⟩ => rfl
  rw [he, hw]
  have hx : x = ix2 (⟨(x 0).val, h0⟩ : Fin 32) (⟨(x 1).val, h1⟩ : Fin 128) := by
    funext a
    match a with
    | ⟨0, _⟩ => rfl
    | ⟨1, _⟩ => rfl
  refine (congrArg (rowChunk _ _ _ _) hx).trans ?_
  refine (rowChunk_apply ch v307 h307 _ _ ⟨(x 0).val, h0⟩ ⟨(x 1).val, h1⟩).trans ?_
  unfold blockStates statesOf
  refine congrArg₂ (fun a b : EReal => a * b) ?_ (congrArg decode ?_)
  · refine readAt_unit_apply arg3.view X3 inb1 ho1 _ _ fun a => ?_
    match a with
    | ⟨0, _⟩ => show 256 * (i 0).val + (32 * k + (x 0).val) = 256 * (i 0).val + 32 * k + (x 0).val; omega
    | ⟨1, _⟩ => rfl
  · refine readAt_unit_apply arg4.view X4 inb2 ho2 _ _ fun a => ?_
    match a with
    | ⟨0, _⟩ => show 256 * (i 0).val + (32 * k + (x 0).val) = 256 * (i 0).val + 32 * k + (x 0).val; omega
    | ⟨1, _⟩ => show (128 * ch.val + (x 1).val) / 32 = 0 + (4 * ch.val + (x 1).val / 32); omega

/-- The scaled logits of a group of 128 columns, at an index. -/
theorem scaled_apply (v : Vec Ideal S8x128 .f32) (r : Fin 8) (l : Fin 128) :
    k0_pay57 (F := Ideal) v (ix3 0 r l) = v (ix2 r l) * ((10 / 7 : ℝ) : EReal) := by
  have hc : (Named.named (F := Ideal) (φ := .f32) κ "z_gain" 0x3FB6DB6E#32 : EReal) = ((10 / 7 : ℝ) : EReal) :=
    IdealRules.named_const.ideal_named_scalar _ _ _ _ rfl
  unfold k0_pay57
  simp only [hc]
  simp [pointwise]

/-- A stored group of 128 columns of a position's rows holds the scaled products. -/
theorem logits_piece (g : Fin 8) (arg18 : Memref sig .tc .vmem S256x1024 .f32)
    (X18 : BufTy.Contents (Elt Ideal) arg18.view.ty) (k : Fin 32) {o : Fin 3 → ℕ} {o1 : Fin 2 → ℕ} (ho : o = ![k.val, 0, 128 * g.val])
    (ho1 : o1 = ![8 * k.val, 128 * g.val]) (inb : ∀ a, o a + S1x8x128.size a ≤ S32x8x1024.size a)
    (inb1 : ∀ a, o1 a + S8x128.size a ≤ S256x1024.size a) (w : FVec Ideal S1x8x128 .bf16)
    (hw : w = k0_pay57 (F := Ideal) (arg18.view.readAt (Elt Ideal) (Rect.unit (s := S256x1024) o1 S8x128.size inb1).toLoadRect X18)) (x : S1x8x128.Idx) :
    w x = (logitsOf (arg18.view.read (Elt Ideal) X18))
      ((Rect.unit (s := S32x8x1024) o S1x8x128.size inb).emb x) := by
  have h0 : (x 0).val < 1 := (x 0).isLt
  have h1 : (x 1).val < 8 := (x 1).isLt
  have h2 : (x 2).val < 128 := (x 2).isLt
  have he : (Rect.unit (s := S32x8x1024) o S1x8x128.size inb).emb x = ix3 k ⟨(x 1).val, h1⟩ ⟨128 * g.val + (x 2).val, by omega⟩ := by
    refine emb_unit_eq (s := S32x8x1024) (size := S1x8x128.size) inb ho x _ fun a => ?_
    match a with
    | ⟨0, _⟩ => show k.val = k.val + (x 0).val; omega
    | ⟨1, _⟩ => show (x 1).val = 0 + (x 1).val; omega
    | ⟨2, _⟩ => rfl
  rw [he, hw]
  have hx : x = ix3 (0 : Fin 1) (⟨(x 1).val, h1⟩ : Fin 8) (⟨(x 2).val, h2⟩ : Fin 128) := by
    funext a
    match a with
    | ⟨0, _⟩ => exact Fin.ext (by show (x 0).val = 0; omega)
    | ⟨1, _⟩ => rfl
    | ⟨2, _⟩ => rfl
  refine (congrArg (k0_pay57 _) hx).trans ((scaled_apply _ _ _).trans ?_)
  refine congrArg (fun a : EReal => a * ((10 / 7 : ℝ) : EReal)) ?_
  refine readAt_unit_apply arg18.view X18 inb1 ho1 _ _ fun a => ?_
  match a with
  | ⟨0, _⟩ => rfl
  | ⟨1, _⟩ => rfl

set_option warn.classDefReducibility false in
/-- The loop over blocks of 32 rows of hidden states. -/
@[sl_loop] def head_t1 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (k0_h1 : k0_cond1 i = 1#1) (v306 : BitVec 32) (v307 : IVec S32x128 32) (X3 : BufTy.Contents (Elt Ideal) arg3.view.ty) (X4 : BufTy.Contents (Elt Ideal) arg4.view.ty) :
    LoopInvTy_k0_t1 (F := Ideal) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h1 v306 v307 where
  inv k _ := iprop((arg3.view.loc (c : Thread nD τ) ↦[arg3.view.set]{fullShare} X3) ∗ (arg4.view.loc (c : Thread nD τ) ↦[arg4.view.set]{fullShare} X4) ∗ (∃ f, (arg15.view.loc (c : Thread nD τ) ↦[arg15.view.set]{fullShare} f) ∗ ⌜∀ (r : Fin 256) (q : Fin 2048), r.val < 32 * k → (∀ j, v307 j = BitVec.ofNat 32 (j 1).val) → arg15.view.read (Elt Ideal) f (ix2 r q) = blockStates i (arg3.view.read (Elt Ideal) X3) (arg4.view.read (Elt Ideal) X4) (ix2 r q)⌝))
  step k acc := by
    iintro ⟨H3, H4, ⟨%f15, H15, %h15⟩⟩
    unfold k0_t1_body
    sl_exec
    sl_step
    isplitl [H3]
    · iexact H3
    isplitl [H4]
    · iexact H4
    · iexists _; isplitl [H15]; · iexact H15
      ipureintro
      intro r q hr h307
      refine read_writes_of_pieces arg15.view f15 (blockStates i (arg3.view.read (Elt Ideal) X3) (arg4.view.read (Elt Ideal) X4)) _ ?_ (ix2 r q) ?_
      · simp only [List.forall_mem_cons, List.not_mem_nil, false_imp_iff, implies_true, _root_.and_true]
        refine ⟨states_piece 15 i arg3 arg4 X3 X4 v307 h307 k.val (k0_off33_eq k) (k0_off32_eq i k) (k0_off1_eq i k) _ _ _ _ rfl, states_piece 14 i arg3 arg4 X3 X4 v307 h307 k.val (k0_off31_eq k) (k0_off30_eq i k) (k0_off1_eq i k) _ _ _ _ rfl, states_piece 13 i arg3 arg4 X3 X4 v307 h307 k.val (k0_off29_eq k) (k0_off28_eq i k) (k0_off1_eq i k) _ _ _ _ rfl, states_piece 12 i arg3 arg4 X3 X4 v307 h307 k.val (k0_off27_eq k) (k0_off26_eq i k) (k0_off1_eq i k) _ _ _ _ rfl, states_piece 11 i arg3 arg4 X3 X4 v307 h307 k.val (k0_off25_eq k) (k0_off24_eq i k) (k0_off1_eq i k) _ _ _ _ rfl, states_piece 10 i arg3 arg4 X3 X4 v307 h307 k.val (k0_off23_eq k) (k0_off22_eq i k) (k0_off1_eq i k) _ _ _ _ rfl, states_piece 9 i arg3 arg4 X3 X4 v307 h307 k.val (k0_off21_eq k) (k0_off20_eq i k) (k0_off1_eq i k) _ _ _ _ rfl, states_piece 8 i arg3 arg4 X3 X4 v307 h307 k.val (k0_off19_eq k) (k0_off18_eq i k) (k0_off1_eq i k) _ _ _ _ rfl, states_piece 7 i arg3 arg4 X3 X4 v307 h307 k.val (k0_off17_eq k) (k0_off16_eq i k) (k0_off1_eq i k) _ _ _ _ rfl, states_piece 6 i arg3 arg4 X3 X4 v307 h307 k.val (k0_off15_eq k) (k0_off14_eq i k) (k0_off1_eq i k) _ _ _ _ rfl, states_piece 5 i arg3 arg4 X3 X4 v307 h307 k.val (k0_off13_eq k) (k0_off12_eq i k) (k0_off1_eq i k) _ _ _ _ rfl, states_piece 4 i arg3 arg4 X3 X4 v307 h307 k.val (k0_off11_eq k) (k0_off10_eq i k) (k0_off1_eq i k) _ _ _ _ rfl, states_piece 3 i arg3 arg4 X3 X4 v307 h307 k.val (k0_off9_eq k) (k0_off8_eq i k) (k0_off1_eq i k) _ _ _ _ rfl, states_piece 2 i arg3 arg4 X3 X4 v307 h307 k.val (k0_off7_eq k) (k0_off6_eq i k) (k0_off1_eq i k) _ _ _ _ rfl, states_piece 1 i arg3 arg4 X3 X4 v307 h307 k.val (k0_off5_eq k) (k0_off4_eq i k) (k0_off1_eq i k) _ _ _ _ rfl, states_piece 0 i arg3 arg4 X3 X4 v307 h307 k.val (k0_off3_eq k) (k0_off2_eq i k) (k0_off1_eq i k) _ _ _ _ rfl⟩
      · by_cases hk : r.val < 32 * k.val
        · exact .inl (h15 r q hk h307)
        · refine .inr ?_
          simp only [List.mem_cons, exists_eq_or_imp, Rect.mem_set_unit, Fin.forall_fin_two, List.not_mem_nil, _root_.false_and, exists_false, _root_.or_false, k0_off3_eq, k0_off5_eq, k0_off7_eq, k0_off9_eq, k0_off11_eq, k0_off13_eq, k0_off15_eq, k0_off17_eq, k0_off19_eq, k0_off21_eq, k0_off23_eq, k0_off25_eq, k0_off27_eq, k0_off29_eq, k0_off31_eq, k0_off33_eq]
          simp [Rect.mem_set_unit, k0_off3_eq]
          omega

set_option warn.classDefReducibility false in
/-- The loop over groups of 32 rows of weights. -/
@[sl_loop] def head_t2 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (X5 : BufTy.Contents (Elt Ideal) arg5.view.ty) (X17 : BufTy.Contents (Elt Ideal) arg17.view.ty) :
    LoopInvTy_k0_t2 (F := Ideal) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 where
  inv k _ := iprop((arg5.view.loc (c : Thread nD τ) ↦[arg5.view.set]{fullShare} X5) ∗ (arg17.view.loc (c : Thread nD τ) ↦[arg17.view.set]{fullShare} X17) ∗ (∃ f, (arg16.view.loc (c : Thread nD τ) ↦[arg16.view.set]{fullShare} f) ∗ ⌜∀ (r : Fin 2048) (q : Fin 1024), r.val < 32 * k → ∀ b : BitVec 8, arg17.view.read (Elt Ideal) X17 (ix2 ⟨r.val / 32, by omega⟩ q) = colWord b → arg16.view.read (Elt Ideal) f (ix2 r q) = arg5.view.read (Elt Ideal) X5 (ix2 r q) * decode b⌝))
  step k acc := by
    iintro ⟨H5, H17, ⟨%f16, H16, %h16⟩⟩
    unfold k0_t2_body
    sl_exec
    sl_step
    isplitl [H5]
    · iexact H5
    isplitl [H17]
    · iexact H17
    · iexists _; isplitl [H16]; · iexact H16
      ipureintro
      intro r q hr b hb
      by_cases hk : r.val < 32 * k.val
      · rw [View.writes_cons]
        refine (View.read_writes_cons_unit_of_not_mem arg16.view _ _ _ [] _ (k0_off35_eq k) 0 (.inl hk)).trans ?_
        exact h16 r q hk b hb
      · have hd : r.val / 32 = k.val := by omega
        refine (View.read_writes_cons_unit_of_mem arg16.view _ _ _ _ (ix2 r q) (ix2 ⟨r.val - 32 * k.val, by omega⟩ q) (k0_off35_eq k) ?_).trans ?_
        · intro a
          match a with
          | ⟨0, _⟩ => show r.val = 32 * k.val + (r.val - 32 * k.val); omega
          | ⟨1, _⟩ => show q.val = 0 + q.val; omega
        · refine (colGroup_apply 1024 (by decide) _ _ _ _ _ _ ⟨r.val - 32 * k.val, by omega⟩ q b ?_).trans ?_
          · refine (readAt_unit_apply arg17.view X17 _ (k0_off34_eq k) _ (ix2 ⟨r.val / 32, by omega⟩ q) ?_).trans hb
            intro a
            match a with
            | ⟨0, _⟩ => show r.val / 32 = k.val + 0; omega
            | ⟨1, _⟩ => show q.val = 0 + q.val; omega
          · refine congrArg (· * decode b) (readAt_unit_apply arg5.view X5 _ (k0_off35_eq k) _ (ix2 r q) ?_)
            intro a
            match a with
            | ⟨0, _⟩ => show r.val = 32 * k.val + (r.val - 32 * k.val); omega
            | ⟨1, _⟩ => show q.val = 0 + q.val; omega

set_option warn.classDefReducibility false in
/-- The loop over the positions of a block of logits. -/
@[sl_loop] def head_t3 (𝒱 : Variants) (c : Dev nD) (bd : Option 𝒱.V) (E : Set ℕ) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (arg1 : BitVec 32) (v25 : FVec Ideal S256x256 .f32) (v26 : Vec Ideal S256x256 .f32) (X18 : BufTy.Contents (Elt Ideal) arg18.view.ty) :
    LoopInvTy_k0_t3 (F := Ideal) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg1 v25 v26 where
  inv k _ := iprop((arg18.view.loc (c : Thread nD τ) ↦[arg18.view.set]{fullShare} X18) ∗ (∃ f, (arg11.view.loc (c : Thread nD τ) ↦[arg11.view.set]{fullShare} f) ∗ ⌜∀ (b : Fin 32) (r : Fin 8) (q : Fin 1024), b.val < k → arg11.view.read (Elt Ideal) f (ix3 b r q) = logitsOf (arg18.view.read (Elt Ideal) X18) (ix3 b r q)⌝) ∗ (∃ f, (arg21.view.loc (c : Thread nD τ) ↦[arg21.view.set]{fullShare} f)) ∗ (∃ f, (arg22.view.loc (c : Thread nD τ) ↦[arg22.view.set]{fullShare} f)))
  step k acc := by
    iintro ⟨H18, ⟨%f11, H11, %h11⟩, ⟨%f21, H21⟩, ⟨%f22, H22⟩⟩
    unfold k0_t3_body
    sl_exec
    sl_step
    isplitl [H18]
    · iexact H18
    isplitl [H11]
    · iexists _; isplitl [H11]; · iexact H11
      ipureintro
      have hk : k.val < 32 := Nat.lt_of_lt_of_le k.isLt k0_t3_abs.2.1
      intro b r q hb
      refine read_writes_of_pieces arg11.view f11 (logitsOf (arg18.view.read (Elt Ideal) X18)) _ ?_ (ix3 b r q) ?_
      · simp only [List.forall_mem_cons, List.not_mem_nil, false_imp_iff, implies_true, _root_.and_true]
        refine ⟨logits_piece 7 arg18 X18 ⟨k.val, hk⟩ (k0_off51_eq k) (k0_off50_eq k) _ _ _ rfl, logits_piece 6 arg18 X18 ⟨k.val, hk⟩ (k0_off49_eq k) (k0_off48_eq k) _ _ _ rfl, logits_piece 5 arg18 X18 ⟨k.val, hk⟩ (k0_off47_eq k) (k0_off46_eq k) _ _ _ rfl, logits_piece 4 arg18 X18 ⟨k.val, hk⟩ (k0_off45_eq k) (k0_off44_eq k) _ _ _ rfl, logits_piece 3 arg18 X18 ⟨k.val, hk⟩ (k0_off43_eq k) (k0_off42_eq k) _ _ _ rfl, logits_piece 2 arg18 X18 ⟨k.val, hk⟩ (k0_off41_eq k) (k0_off40_eq k) _ _ _ rfl, logits_piece 1 arg18 X18 ⟨k.val, hk⟩ (k0_off39_eq k) (k0_off38_eq k) _ _ _ rfl, logits_piece 0 arg18 X18 ⟨k.val, hk⟩ (k0_off37_eq k) (k0_off36_eq k) _ _ _ rfl⟩
      · by_cases hlt : b.val < k.val
        · exact .inl (h11 b r q hlt)
        · refine .inr ?_
          simp only [List.mem_cons, exists_eq_or_imp, Rect.mem_set_unit, List.not_mem_nil, _root_.false_and, exists_false, _root_.or_false, k0_off37_eq, k0_off39_eq, k0_off41_eq, k0_off43_eq, k0_off45_eq, k0_off47_eq, k0_off49_eq, k0_off51_eq]
          simp [Fin.forall_fin_succ, Rect.mem_set_unit, k0_off37_eq]
          omega
    isplitl [H21]
    · iexists _; iexact H21
    · iexists _; iexact H22

end Cert.TargetIdeal.Gen

end
-- ==== Proof.TargetIdealFacts.lean ====
/- What the products of a grid point of the target head hold, over the ideal values. -/
module

public import proofs.«01_k».proof.Proof.TargetIdealLoops
public import Idealize.ShloMosaic.Lib.IdealHost

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode colWord read_writes_of_pieces readAt_unit_apply emb_unit_eq)

/-- The scaled products of the decoded operands, position by position. -/
def headOf (i : grid0.Coords) (h : Vec Ideal S768x2048 .fp8e4m3) (sc : Vec Ideal S768x64 .i8) (w : Vec Ideal S2048x1024 .fp8e4m3) (ws : Vec Ideal S64x1024 .i8)
    (y : S32x8x1024.Idx) : EReal :=
  (∑ k : Fin 2048, blockStates i h sc (ix2 (⟨8 * (y 0).val + (y 1).val, by have h : (y 0).val < 32 := (y 0).isLt; have h' : (y 1).val < 8 := (y 1).isLt; omega⟩ : Fin 256) k)
      * (w (ix2 k (⟨(y 2).val, (y 2).isLt⟩ : Fin 1024)) * decode (ws (ix2 (⟨k.val / 32, by omega⟩ : Fin 64) (⟨(y 2).val, (y 2).isLt⟩ : Fin 1024)))))
    * ((10 / 7 : ℝ) : EReal)

/-- The products. -/
def zOf (A : Vec Ideal S256x2048 .bf16) (B : Vec Ideal S2048x1024 .bf16) (y : S256x1024.Idx) : EReal :=
  ∑ k : Fin 2048, A (ix2 (⟨(y 0).val, (y 0).isLt⟩ : Fin 256) k) * B (ix2 k (⟨(y 1).val, (y 1).isLt⟩ : Fin 1024))

theorem product_apply (A : Vec Ideal S256x2048 .bf16) (B : Vec Ideal S2048x256 .bf16) (r : Fin 256) (q : Fin 256) :
    k0_pay98 (F := Ideal) A B (ix2 r q) = ∑ k : Fin 2048, A (ix2 r k) * B (ix2 k q) := by
  unfold k0_pay98
  simp [pointwise]

theorem words_apply (v : Vec Ideal S64x1024 .i8) (y : S64x1024.Idx) : k0_pay93 (F := Ideal) v y = colWord (v y) := by
  unfold k0_pay93
  simp [pointwise, colWord]

/-- A stored group of 256 columns holds the products. -/
theorem z_piece (j : Fin 4) (arg15 : Memref sig .tc .vmem S256x2048 .bf16) (arg16 : Memref sig .tc .vmem S2048x1024 .bf16)
    (X15 : BufTy.Contents (Elt Ideal) arg15.view.ty) (X16 : BufTy.Contents (Elt Ideal) arg16.view.ty)
    (inb : ∀ a, (![0, 256 * j.val] : Fin 2 → ℕ) a + S256x256.size a ≤ S256x1024.size a)
    (inb1 : ∀ a, (![0, 0] : Fin 2 → ℕ) a + S256x2048.size a ≤ S256x2048.size a)
    (inb2 : ∀ a, (![0, 256 * j.val] : Fin 2 → ℕ) a + S2048x256.size a ≤ S2048x1024.size a) (w : FVec Ideal S256x256 .f32)
    (hw : w = k0_pay98 (F := Ideal)
      (arg15.view.readAt (Elt Ideal) (Rect.unit (s := S256x2048) ![0, 0] S256x2048.size inb1).toLoadRect X15)
      (arg16.view.readAt (Elt Ideal) (Rect.unit (s := S2048x1024) ![0, 256 * j.val] S2048x256.size inb2).toLoadRect X16)) (x : S256x256.Idx) :
    w x = (zOf (arg15.view.read (Elt Ideal) X15) (arg16.view.read (Elt Ideal) X16)) ((Rect.unit (s := S256x1024) ![0, 256 * j.val] S256x256.size inb).emb x) := by
  have h0 : (x 0).val < 256 := (x 0).isLt
  have h1 : (x 1).val < 256 := (x 1).isLt
  have he : (Rect.unit (s := S256x1024) ![0, 256 * j.val] S256x256.size inb).emb x = ix2 (⟨(x 0).val, h0⟩ : Fin 256) (⟨256 * j.val + (x 1).val, by omega⟩ : Fin 1024) := by
    refine emb_unit_eq (s := S256x1024) (size := S256x256.size) inb rfl x _ fun a => ?_
    match a with
    | ⟨0, _⟩ => show (x 0).val = 0 + (x 0).val; omega
    | ⟨1, _⟩ => rfl
  have hx : x = ix2 (⟨(x 0).val, h0⟩ : Fin 256) (⟨(x 1).val, h1⟩ : Fin 256) := by
    funext a
    match a with
    | ⟨0, _⟩ => rfl
    | ⟨1, _⟩ => rfl
  rw [he, hw]
  refine (congrArg _ hx).trans ((product_apply _ _ _ _).trans ?_)
  refine Finset.sum_congr rfl fun k _ => congrArg₂ (fun a b : EReal => a * b) ?_ ?_
  · refine readAt_unit_apply arg15.view X15 inb1 rfl _ _ fun a => ?_
    match a with
    | ⟨0, _⟩ => show (x 0).val = 0 + (x 0).val; omega
    | ⟨1, _⟩ => show k.val = 0 + k.val; omega
  · refine readAt_unit_apply arg16.view X16 inb2 rfl _ _ fun a => ?_
    match a with
    | ⟨0, _⟩ => show k.val = 0 + k.val; omega
    | ⟨1, _⟩ => rfl

/-- The scaled logits of the products of decoded operands. -/
theorem head_of_z (i : grid0.Coords) (z : Vec Ideal S256x1024 .f32) (A : Vec Ideal S256x2048 .bf16) (B : Vec Ideal S2048x1024 .bf16)
    (h : Vec Ideal S768x2048 .fp8e4m3) (sc : Vec Ideal S768x64 .i8) (w : Vec Ideal S2048x1024 .fp8e4m3) (ws : Vec Ideal S64x1024 .i8)
    (b : Fin 32) (r : Fin 8) (q : Fin 1024) (hz : ∀ r : Fin 256, z (ix2 r q) = zOf A B (ix2 r q)) (hA : ∀ (r : Fin 256) (q : Fin 2048), A (ix2 r q) = blockStates i h sc (ix2 r q))
    (hB : ∀ (r : Fin 2048) (q : Fin 1024), B (ix2 r q) = w (ix2 r q) * decode (ws (ix2 (⟨r.val / 32, by omega⟩ : Fin 64) q))) :
    logitsOf z (ix3 b r q) = headOf i h sc w ws (ix3 b r q) := by
  unfold logitsOf headOf
  refine congrArg (fun a : EReal => a * ((10 / 7 : ℝ) : EReal)) ?_
  refine (hz _).trans ?_
  exact Finset.sum_congr rfl fun k _ => congrArg₂ (fun a b : EReal => a * b) (hA _ _) (hB k q)

/-- The products' covering boxes. -/
theorem z_cover (y : S256x1024.Idx) (L : List (View.Piece (Elt Ideal) S256x1024 .f32))
    (hL : ∀ g : Fin 4, ∃ p ∈ L, ∃ inb, p.1 = Rect.unit (s := S256x1024) ![0, 256 * g.val] S256x256.size inb) : ∃ p ∈ L, y ∈ p.1.set := by
  have h1 : (y 1).val < 1024 := (y 1).isLt
  obtain ⟨p, hp, inb, e⟩ := hL (⟨(y 1).val / 256, by omega⟩ : Fin 4)
  refine ⟨p, hp, ?_⟩
  rw [e, Rect.mem_set_unit]
  intro a
  match a with
  | ⟨0, _⟩ => exact ⟨Nat.zero_le _, by have h : (y 0).val < 256 := (y 0).isLt; show (y 0).val < 0 + 256; omega⟩
  | ⟨1, _⟩ => exact ⟨by show 256 * ((y 1).val / 256) ≤ (y 1).val; omega, by show (y 1).val < 256 * ((y 1).val / 256) + 256; omega⟩

/-- The products read back after the four stores. -/
theorem z_read (arg15 : Memref sig .tc .vmem S256x2048 .bf16) (arg16 : Memref sig .tc .vmem S2048x1024 .bf16) (arg18 : Memref sig .tc .vmem S256x1024 .f32)
    (X15 : BufTy.Contents (Elt Ideal) arg15.view.ty) (X16 : BufTy.Contents (Elt Ideal) arg16.view.ty) (f : BufTy.Contents (Elt Ideal) arg18.view.ty)
    (inbA : ∀ a, (![0, 0] : Fin 2 → ℕ) a + S256x2048.size a ≤ S256x2048.size a)
    (cb0 : ∀ a, (![0, 0] : Fin 2 → ℕ) a + S2048x256.size a ≤ S2048x1024.size a) (cb1 : ∀ a, (![0, 256] : Fin 2 → ℕ) a + S2048x256.size a ≤ S2048x1024.size a) (cb2 : ∀ a, (![0, 512] : Fin 2 → ℕ) a + S2048x256.size a ≤ S2048x1024.size a) (cb3 : ∀ a, (![0, 768] : Fin 2 → ℕ) a + S2048x256.size a ≤ S2048x1024.size a)
    (w0 : FVec Ideal S256x256 .f32) (inb0 : ∀ a, (![0, 0] : Fin 2 → ℕ) a + S256x256.size a ≤ S256x1024.size a) (w1 : FVec Ideal S256x256 .f32) (inb1 : ∀ a, (![0, 256] : Fin 2 → ℕ) a + S256x256.size a ≤ S256x1024.size a) (w2 : FVec Ideal S256x256 .f32) (inb2 : ∀ a, (![0, 512] : Fin 2 → ℕ) a + S256x256.size a ≤ S256x1024.size a) (w3 : FVec Ideal S256x256 .f32) (inb3 : ∀ a, (![0, 768] : Fin 2 → ℕ) a + S256x256.size a ≤ S256x1024.size a)
    (h0 : w0 = k0_pay98 (F := Ideal) (arg15.view.readAt (Elt Ideal) (Rect.unit (s := S256x2048) ![0, 0] S256x2048.size inbA).toLoadRect X15) (arg16.view.readAt (Elt Ideal) (Rect.unit (s := S2048x1024) ![0, 0] S2048x256.size cb0).toLoadRect X16))
    (h1 : w1 = k0_pay98 (F := Ideal) (arg15.view.readAt (Elt Ideal) (Rect.unit (s := S256x2048) ![0, 0] S256x2048.size inbA).toLoadRect X15) (arg16.view.readAt (Elt Ideal) (Rect.unit (s := S2048x1024) ![0, 256] S2048x256.size cb1).toLoadRect X16))
    (h2 : w2 = k0_pay98 (F := Ideal) (arg15.view.readAt (Elt Ideal) (Rect.unit (s := S256x2048) ![0, 0] S256x2048.size inbA).toLoadRect X15) (arg16.view.readAt (Elt Ideal) (Rect.unit (s := S2048x1024) ![0, 512] S2048x256.size cb2).toLoadRect X16))
    (h3 : w3 = k0_pay98 (F := Ideal) (arg15.view.readAt (Elt Ideal) (Rect.unit (s := S256x2048) ![0, 0] S256x2048.size inbA).toLoadRect X15) (arg16.view.readAt (Elt Ideal) (Rect.unit (s := S2048x1024) ![0, 768] S2048x256.size cb3).toLoadRect X16))
    (y : S256x1024.Idx) :
    arg18.view.read (Elt Ideal) (arg18.view.writes (Elt Ideal) f [⟨Rect.unit (s := S256x1024) ![0, 768] S256x256.size inb3, w3⟩, ⟨Rect.unit (s := S256x1024) ![0, 512] S256x256.size inb2, w2⟩, ⟨Rect.unit (s := S256x1024) ![0, 256] S256x256.size inb1, w1⟩, ⟨Rect.unit (s := S256x1024) ![0, 0] S256x256.size inb0, w0⟩]) y = (zOf (arg15.view.read (Elt Ideal) X15) (arg16.view.read (Elt Ideal) X16)) y := by
  refine read_writes_of_pieces arg18.view f (zOf (arg15.view.read (Elt Ideal) X15) (arg16.view.read (Elt Ideal) X16)) _ ?_ y (.inr (z_cover y _ fun g => ?_))
  · simp only [List.forall_mem_cons, List.not_mem_nil, false_imp_iff, implies_true, _root_.and_true]
    exact ⟨z_piece 3 arg15 arg16 X15 X16 inb3 inbA cb3 w3 h3, z_piece 2 arg15 arg16 X15 X16 inb2 inbA cb2 w2 h2, z_piece 1 arg15 arg16 X15 X16 inb1 inbA cb1 w1 h1, z_piece 0 arg15 arg16 X15 X16 inb0 inbA cb0 w0 h0⟩
  · simp only [List.mem_cons]
    match g with
    | ⟨0, _⟩ => exact ⟨_, .inr (.inr (.inr (.inl rfl))), inb0, rfl⟩
    | ⟨1, _⟩ => exact ⟨_, .inr (.inr (.inl rfl)), inb1, rfl⟩
    | ⟨2, _⟩ => exact ⟨_, .inr (.inl rfl), inb2, rfl⟩
    | ⟨3, _⟩ => exact ⟨_, .inl rfl, inb3, rfl⟩

/-- The columns before the 384th are not touched by the stores of the groups from there on. -/
theorem clip_skip (arg18 : Memref sig .tc .vmem S256x1024 .f32) (f : BufTy.Contents (Elt Ideal) arg18.view.ty) (L : List (View.Piece (Elt Ideal) S256x1024 .f32))
    (u0 : FVec Ideal S256x128 .f32) (ub0 : ∀ a, (![0, 384] : Fin 2 → ℕ) a + S256x128.size a ≤ S256x1024.size a) (u1 : FVec Ideal S256x128 .f32) (ub1 : ∀ a, (![0, 512] : Fin 2 → ℕ) a + S256x128.size a ≤ S256x1024.size a) (u2 : FVec Ideal S256x128 .f32) (ub2 : ∀ a, (![0, 640] : Fin 2 → ℕ) a + S256x128.size a ≤ S256x1024.size a) (u3 : FVec Ideal S256x128 .f32) (ub3 : ∀ a, (![0, 768] : Fin 2 → ℕ) a + S256x128.size a ≤ S256x1024.size a) (u4 : FVec Ideal S256x128 .f32) (ub4 : ∀ a, (![0, 896] : Fin 2 → ℕ) a + S256x128.size a ≤ S256x1024.size a) (r : Fin 256) (q : Fin 1024) (hq : q.val < 384) :
    arg18.view.read (Elt Ideal) (arg18.view.writes (Elt Ideal) f (⟨Rect.unit (s := S256x1024) ![0, 896] S256x128.size ub4, u4⟩ :: ⟨Rect.unit (s := S256x1024) ![0, 768] S256x128.size ub3, u3⟩ :: ⟨Rect.unit (s := S256x1024) ![0, 640] S256x128.size ub2, u2⟩ :: ⟨Rect.unit (s := S256x1024) ![0, 512] S256x128.size ub1, u1⟩ :: ⟨Rect.unit (s := S256x1024) ![0, 384] S256x128.size ub0, u0⟩ :: L)) (ix2 r q)
      = arg18.view.read (Elt Ideal) (arg18.view.writes (Elt Ideal) f L) (ix2 r q) := by
  refine (View.read_writes_cons_unit_of_not_mem arg18.view _ _ _ _ _ rfl 1 (.inl (show q.val < 896 by omega))).trans ?_
  refine (View.read_writes_cons_unit_of_not_mem arg18.view _ _ _ _ _ rfl 1 (.inl (show q.val < 768 by omega))).trans ?_
  refine (View.read_writes_cons_unit_of_not_mem arg18.view _ _ _ _ _ rfl 1 (.inl (show q.val < 640 by omega))).trans ?_
  refine (View.read_writes_cons_unit_of_not_mem arg18.view _ _ _ _ _ rfl 1 (.inl (show q.val < 512 by omega))).trans ?_
  refine (View.read_writes_cons_unit_of_not_mem arg18.view _ _ _ _ _ rfl 1 (.inl (show q.val < 384 by omega))).trans ?_
  rfl

/-- The words of the columns' scales, read back after their store. -/
theorem words_read (arg6 : Memref sig .tc .vmem S64x1024 .i8) (arg17 : Memref sig .tc .vmem S64x1024 .i32) (X6 : BufTy.Contents (Elt Ideal) arg6.view.ty)
    (f : BufTy.Contents (Elt Ideal) arg17.view.ty) (inb : ∀ a, (![0, 0] : Fin 2 → ℕ) a + S64x1024.size a ≤ S64x1024.size a)
    (inb' : ∀ a, (![0, 0] : Fin 2 → ℕ) a + S64x1024.size a ≤ S64x1024.size a) (r : Fin 64) (q : Fin 1024) :
    arg17.view.read (Elt Ideal) (arg17.view.writes (Elt Ideal) f [⟨Rect.unit (s := S64x1024) ![0, 0] S64x1024.size inb,
      k0_pay93 (F := Ideal) (arg6.view.readAt (Elt Ideal) (Rect.unit (s := S64x1024) ![0, 0] S64x1024.size inb').toLoadRect X6)⟩]) (ix2 r q)
      = colWord (arg6.view.read (Elt Ideal) X6 (ix2 r q)) := by
  refine read_writes_of_pieces arg17.view f (fun y => colWord (arg6.view.read (Elt Ideal) X6 y)) _ ?_ (ix2 r q) (.inr ⟨_, List.mem_singleton_self _, ?_⟩)
  · simp only [List.forall_mem_cons, List.not_mem_nil, false_imp_iff, implies_true, _root_.and_true]
    exact fun x => (words_apply _ _).trans rfl
  · rw [Rect.mem_set_unit]
    intro a
    match a with
    | ⟨0, _⟩ => exact ⟨Nat.zero_le _, by show r.val < 0 + 64; omega⟩
    | ⟨1, _⟩ => exact ⟨Nat.zero_le _, by show q.val < 0 + 1024; omega⟩

/-- The columns of a grid point that are columns of the result, at the last block of columns. -/
theorem last_cols (i : grid0.Coords) (h : k0_cond3 i = 1#1) (q : Fin 1024) (hq : 1024 * (i 1).val + q.val < 151936) : q.val < 384 := by
  have hj : ∀ j : Fin 149, Scalar.cmpi .ne (Scalar.extui (Scalar.cmpi .eq (BitVec.ofNat 32 j.val) 148#32)) 0#32 = 1#1 → j.val = 148 := by decide
  have := hj (i 1) h
  omega

set_option maxHeartbeats 2000000 in
/-- The first 384 columns of the last block are before the end of the result. -/
theorem before_end : ∀ (g : Fin 3) (x : Fin 128), IntOp.cmpi .slt (IntOp.addi (BitVec.ofNat 32 x.val) (Scalar.addi (Scalar.muli 148#32 1024#32) (BitVec.ofNat 32 (128 * g.val)))) 151936#32 = 1#1 := by
  decide +kernel

/-- A store of columns cut at the end of the result leaves the columns before the end as they were. -/
theorem mask_store (arg18 : Memref sig .tc .vmem S256x1024 .f32) (L : List (View.Piece (Elt Ideal) S256x1024 .f32)) (i : grid0.Coords) (h : k0_cond3 i = 1#1)
    (g : Fin 3) {off : Fin 2 → ℕ} (ho : off = ![0, 128 * g.val]) (inb : ∀ a, off a + S256x128.size a ≤ S256x1024.size a) (u : FVec Ideal S256x128 .f32) (n : Ideal .f32)
    (hu : u = shapeCast S256x128 (select (cmpi .slt (addi (iota .tc S256x128 32 [1] iota_S256x128_d1_w32)
        (broadcast S256x128 (Scalar.addi (Scalar.muli (BitVec.ofNat 32 (i 1).val) 1024#32) (BitVec.ofNat 32 (128 * g.val))))) (broadcast S256x128 151936#32))
      (arg18.view.readCov L (Rect.unit (s := S256x1024) off S256x128.size inb).toLoadRect) (broadcast S256x128 n)) shapeCasts_S256x128_S256x128)
    (r : Fin 256) (q : Fin 1024) :
    arg18.view.read (Elt Ideal) (arg18.view.writes (Elt Ideal) arg18.view.junk (⟨Rect.unit (s := S256x1024) off S256x128.size inb, u⟩ :: L)) (ix2 r q)
      = arg18.view.read (Elt Ideal) (arg18.view.writes (Elt Ideal) arg18.view.junk L) (ix2 r q) := by
  by_cases hq : 128 * g.val ≤ q.val ∧ q.val < 128 * g.val + 128
  · have hx : ∀ a : Fin 2, ((ix2 r q : S256x1024.Idx) a).val = (![0, 128 * g.val] : Fin 2 → ℕ) a + ((ix2 r (⟨q.val - 128 * g.val, by omega⟩ : Fin 128) : S256x128.Idx) a).val := fun a =>
      match a with
      | ⟨0, _⟩ => (Nat.zero_add _).symm
      | ⟨1, _⟩ => by show q.val = 128 * g.val + (q.val - 128 * g.val); omega
    refine (View.read_writes_cons_unit_of_mem arg18.view _ inb u L (ix2 r q) (ix2 r (⟨q.val - 128 * g.val, by omega⟩ : Fin 128)) ho hx).trans ?_
    have hi : BitVec.ofNat 32 (i 1).val = 148#32 := by
      have hj : ∀ j : Fin 149, Scalar.cmpi .ne (Scalar.extui (Scalar.cmpi .eq (BitVec.ofNat 32 j.val) 148#32)) 0#32 = 1#1 → BitVec.ofNat 32 j.val = 148#32 := by decide
      exact hj (i 1) h
    subst hu
    simp only [pointwise]
    rw [hi]
    have e : (List.foldl (fun n a => n * ![256, 128] a + ((ix2 r (⟨q.val - 128 * g.val, by omega⟩ : Fin 128) : S256x128.Idx) a).val) 0 [1]) = q.val - 128 * g.val := by simp
    rw [show IntOp.cmpi .slt (IntOp.addi (BitVec.ofNat 32 (List.foldl (fun n a => n * ![256, 128] a + ((ix2 r (⟨q.val - 128 * g.val, by omega⟩ : Fin 128) : S256x128.Idx) a).val) 0 [1])) (Scalar.addi (Scalar.muli 148#32 1024#32) (BitVec.ofNat 32 (128 * g.val)))) 151936#32 = 1#1 from
      (congrArg (fun x => IntOp.cmpi .slt (IntOp.addi (BitVec.ofNat 32 x) (Scalar.addi (Scalar.muli 148#32 1024#32) (BitVec.ofNat 32 (128 * g.val)))) 151936#32) e).trans (before_end g ⟨q.val - 128 * g.val, by omega⟩)]
    refine (if_pos rfl).trans ?_
    exact readAt_unit_apply arg18.view _ inb ho _ _ hx
  · rcases Nat.lt_or_ge q.val (128 * g.val) with h1 | h1
    · exact View.read_writes_cons_unit_of_not_mem arg18.view _ _ _ _ (ix2 r q) ho 1 (.inl h1)
    · exact View.read_writes_cons_unit_of_not_mem arg18.view _ _ _ _ (ix2 r q) ho 1 (.inr (show 128 * g.val + 128 ≤ q.val by omega))

end Cert.TargetIdeal.Gen

end
-- ==== Proof.TargetIdealBody.lean ====
/- The run of one grid point of the target head. -/
module

public import proofs.«01_k».proof.Proof.TargetIdealGather
public import proofs.«01_k».proof.Proof.TargetIdealRing
public import proofs.«01_k».proof.Proof.TargetIdealFacts
public import proofs.«01_k».proof.Proof.Gen.TargetIdeal.Skeleton

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof (decode)
open Idealize.ShloMosaic.Pipeline (Dat Cfg Window BodyObligation cellOf)

/-- The last block of columns runs past the vocabulary: the printed test for it. -/
abbrev k0_clip (i : grid0.Coords) : BitVec 1 :=
  Scalar.cmpi .ne (Scalar.extui (Scalar.cmpi .sgt (Scalar.muli (Scalar.addi (BitVec.ofNat 32 (i 1).val) 1#32) 1024#32) 151936#32)) 0#32

theorem clip_iff (i : grid0.Coords) : k0_clip i = 1#1 ↔ k0_cond3 i = 1#1 := by
  have h : ∀ j : Fin 149, Scalar.cmpi .ne (Scalar.extui (Scalar.cmpi .sgt (Scalar.muli (Scalar.addi (BitVec.ofNat 32 j.val) 1#32) 1024#32) 151936#32)) 0#32 = 1#1
      ↔ Scalar.cmpi .ne (Scalar.extui (Scalar.cmpi .eq (BitVec.ofNat 32 j.val) 148#32)) 0#32 = 1#1 := by decide
  exact h (i 1)
theorem not_both (i : grid0.Coords) : k0_cond1 i = 1#1 → ¬ k0_cond3 i = 1#1 := by
  have h : ∀ j : Fin 149, Scalar.cmpi .ne (Scalar.extui (Scalar.cmpi .eq (BitVec.ofNat 32 j.val) 0#32)) 0#32 = 1#1
      → ¬ Scalar.cmpi .ne (Scalar.extui (Scalar.cmpi .eq (BitVec.ofNat 32 j.val) 148#32)) 0#32 = 1#1 := by decide
  exact h (i 1)

theorem minsi_le (v : BitVec 32) (h : v.toNat < 2 ^ 31) : (Scalar.minsi v 249#32).toNat ≤ 249 := by
  unfold Scalar.minsi IntOp.minsi
  split
  · rename_i hs
    rw [BitVec.slt_eq_decide, decide_eq_true_eq, BitVec.toInt_eq_toNat_of_lt (by omega)] at hs
    have e : (249#32 : BitVec 32).toInt = 249 := by decide
    omega
  · decide

theorem succ_lt (v : BitVec 32) (h : v.toNat ≤ 249) : (Scalar.addi v 1#32).toNat < 2 ^ 31 := by
  show (v + 1#32).toNat < 2 ^ 31
  have e : (1#32 : BitVec 32).toNat = 1 := by decide
  rw [BitVec.toNat_add, e]; omega

theorem row_le (t : Fin k0_t4_loop.trips) : (Scalar.indexCast (Scalar.muli (Scf.iv 0#32 1#32 t) 8#32)).toNat + 8 ≤ 256 := by
  revert t; decide

/-- The side conditions of a block of draft tokens, at any word that is not negative. -/
theorem chk_ok (v : BitVec 32) (h : v.toNat < 2 ^ 31) : k0_chk1 v := by
  have h1 := minsi_le v h
  have h2 := minsi_le _ (succ_lt _ h1)
  refine ⟨?_, ?_, ?_, ?_⟩
  · intro a; fin_cases a
    · show (Scalar.minsi v 249#32).toNat + 1 ≤ 250; omega
    · show 0 + 128 ≤ 128; omega
  · intro a; fin_cases a
    · show (Scalar.minsi (Scalar.addi (Scalar.minsi v 249#32) 1#32) 249#32).toNat + 1 ≤ 250; omega
    · show 0 + 128 ≤ 128; omega
  · intro t a
    have ht := row_le t
    fin_cases a
    · show (Scalar.minsi v 249#32).toNat + 1 ≤ 250; omega
    · exact ht
    · show 0 + 128 ≤ 128; omega
  · intro t a
    have ht := row_le t
    fin_cases a
    · show (Scalar.minsi (Scalar.addi (Scalar.minsi v 249#32) 1#32) 249#32).toNat + 1 ≤ 250; omega
    · exact ht
    · show 0 + 128 ≤ 128; omega

local notation "𝕄" => MT nD τ sig Unit (Elt Ideal) ℕ (UR sig nD τ × Counters) ℕ

/-- After the last trip of the transfer ring both slots are free. -/
theorem ringAt_end (c : Dev nD) (arg10 : Memref sig .tc .hbm S250x768x128 .f32) (arg20 : Memref sig .tc .vmem S2x5x256x128 .f32) (arg23 : DmaSems sig S2)
    (Z : BufTy.Contents (Elt Ideal) arg10.view.ty) (q : Fin 2 → PosShare TreeShare) :
    ringAt (F := Ideal) c arg10 arg20 arg23 Z q (Scf.trips k0_t13_loop.lb k0_t13_loop.ub k0_t13_loop.st)
      ⊣⊢ (iprop(slotFree (F := Ideal) c arg10 arg20 arg23 Z (q 0) 0 ∗ slotFree (F := Ideal) c arg10 arg20 arg23 Z (q 1) 1) : sProp 𝕄) := by
  rw [show Scf.trips k0_t13_loop.lb k0_t13_loop.ub k0_t13_loop.st = 50 from trips13]
  exact ringAt_ge (F := Ideal) c arg10 arg20 arg23 Z q (k := 50) (by decide)

attribute [local irreducible] ringAt

set_option maxHeartbeats 4000000 in
/-- The run of one grid point: the inputs are left as they were, the decoded states of the block of rows are in place, and the logits window
holds the scaled products of the decoded operands in the columns of the result. -/
theorem body_run (c : Dev nD) (i : grid0.Coords) (arg2 : Memref sig .tc .smem S1192 .i32) (harg2 : arg2.IsWhole) (arg3 : Memref sig .tc .vmem S768x2048 .fp8e4m3) (harg3 : arg3.IsWhole) (arg4 : Memref sig .tc .vmem S768x64 .i8) (harg4 : arg4.IsWhole) (arg5 : Memref sig .tc .vmem S2048x1024 .fp8e4m3) (harg5 : arg5.IsWhole) (arg6 : Memref sig .tc .vmem S64x1024 .i8) (harg6 : arg6.IsWhole) (arg7 : Memref sig .tc .vmem S250x128 .i32) (harg7 : arg7.IsWhole) (arg8 : Memref sig .tc .vmem S256x128 .i32) (harg8 : arg8.IsWhole) (arg9 : Memref sig .tc .vmem S256x128 .f32) (harg9 : arg9.IsWhole) (arg10 : Memref sig .tc .hbm S250x768x128 .f32) (harg10 : arg10.IsWhole) (arg11 : Memref sig .tc .vmem S32x8x1024 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x1024 .bf16) (harg16 : arg16.IsWhole) (arg17 : Memref sig .tc .vmem S64x1024 .i32) (harg17 : arg17.IsWhole) (arg18 : Memref sig .tc .vmem S256x1024 .f32) (harg18 : arg18.IsWhole) (arg19 : Memref sig .tc .vmem S250x256x128 .f32) (harg19 : arg19.IsWhole) (arg20 : Memref sig .tc .vmem S2x5x256x128 .f32) (harg20 : arg20.IsWhole) (arg21 : Memref sig .tc .vmem S256x128 .f32) (harg21 : arg21.IsWhole) (arg22 : Memref sig .tc .vmem S256x128 .f32) (harg22 : arg22.IsWhole) (arg23 : DmaSems sig S2) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (Z : BufTy.Contents (Elt Ideal) arg10.view.ty) (q2 : PosShare TreeShare) (q : Fin 2 → PosShare TreeShare)
    (hst : ∀ (r : LoadRect S1192) (j : r.shape.Idx), BitVec.toNat (w := 32) (arg2.view.readAt (Elt Ideal) r X2 j) < 2 ^ 31)
    (W : Waits sig Unit) (K : PUnit → sProp (MT nD τ sig Unit (Elt Ideal) ℕ (UR sig nD τ × Counters) ℕ)) :
    iprop((arg2.view.loc (c : Thread nD τ) ↦[arg2.view.set]{q2} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f) ∗ ⌜¬k0_cond1 i = 1#1 → ∀ (r : Fin 256) (q : Fin 2048), arg15.view.read (Elt Ideal) f (ix2 r q) = blockStates i (arg3.view.read (Elt Ideal) X3) (arg4.view.read (Elt Ideal) X4) (ix2 r q)⌝) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ slotFree (F := Ideal) c arg10 arg20 arg23 Z (q 0) 0 ∗ slotFree (F := Ideal) c arg10 arg20 arg23 Z (q 1) 1 ∗ owes (c : Thread nD τ) 0 W ∗ (iprop((arg2.view.loc (c : Thread nD τ) ↦[arg2.view.set]{q2} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg11.view.loc (c : Thread nD τ) ↦[arg11.view.set]{fullShare} f) ∗ ⌜∀ (b : Fin 32) (r : Fin 8) (q : Fin 1024), 1024 * (i 1).val + q.val < 151936 → arg11.view.read (Elt Ideal) f (ix3 b r q) = headOf i (arg3.view.read (Elt Ideal) X3) (arg4.view.read (Elt Ideal) X4) (arg5.view.read (Elt Ideal) X5) (arg6.view.read (Elt Ideal) X6) (ix3 b r q)⌝) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f) ∗ ⌜∀ (r : Fin 256) (q : Fin 2048), arg15.view.read (Elt Ideal) f (ix2 r q) = blockStates i (arg3.view.read (Elt Ideal) X3) (arg4.view.read (Elt Ideal) X4) (ix2 r q)⌝) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ slotFree (F := Ideal) c arg10 arg20 arg23 Z (q 0) 0 ∗ slotFree (F := Ideal) c arg10 arg20 arg23 Z (q 1) 1 ∗ (∃ W, owes (c : Thread nD τ) 0 W)) -∗ K PUnit.unit))
      ⊢ wp frame (wpE (defs₀ (F := Ideal)) Variants.none (c : Thread nD τ) none) Set.univ (cc0_target_head (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) K := by
  simp only [cc0_target_head_eq_skeleton]
  have hclip := clip_iff i
  unfold k0_clip at hclip
  by_cases hc3 : k0_cond3 i = 1#1
  · have hc1 : ¬ k0_cond1 i = 1#1 := fun h => not_both i h hc3
    have hcl := hclip.2 hc3
    unfold cc0_target_head_skel
    simp only [k0_part17_eq_skeleton, k0_part18_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H2, H3, H4, H5, H6, H7, H8, H9, ⟨%f11, H11⟩, ⟨%f12, H12⟩, ⟨%f13, H13⟩, ⟨%f14, H14⟩, ⟨%f15, H15, %h15⟩, ⟨%f16, H16⟩, ⟨%f17, H17⟩, ⟨%f18, H18⟩, ⟨%f19, H19⟩, ⟨%f21, H21⟩, ⟨%f22, H22⟩, HS0, HS1, HW, Hk⟩
    sl_exec (disch := first | sl_exact hc1 | sl_exact hc3 | sl_exact hcl | sl_exact chk_ok _ (hst _ _))
    have k11 : ∀ (b : Fin 32) (r : Fin 8) (q : Fin 1024), 1024 * (i 1).val + q.val < 151936 → arg11.view.read (Elt Ideal) fL1 (ix3 b r q) = headOf i (arg3.view.read (Elt Ideal) X3) (arg4.view.read (Elt Ideal) X4) (arg5.view.read (Elt Ideal) X5) (arg6.view.read (Elt Ideal) X6) (ix3 b r q) :=
      fun b r q hq => (hL6 b r q (by exact b.isLt)).trans (head_of_z i _ (arg15.view.read (Elt Ideal) f15) (arg16.view.read (Elt Ideal) fL0) _ _ _ _ b r q (fun r => (clip_skip arg18 _ _ _ _ _ _ _ _ _ _ _ _ r q (last_cols i hc3 q hq)).trans ((mask_store arg18 _ i hc3 2 rfl _ _ _ rfl r q).trans ((mask_store arg18 _ i hc3 1 rfl _ _ _ rfl r q).trans ((mask_store arg18 _ i hc3 0 rfl _ _ _ rfl r q).trans (z_read arg15 arg16 arg18 f15 fL0 _ _ _ _ _ _ _ _ _ _ _ _ _ _ rfl rfl rfl rfl (ix2 r q)))))) (h15 hc1) (fun r q => hL3 r q (by exact r.isLt) _ (words_read arg6 arg17 X6 _ _ _ _ _)))
    iapply (slot_start (F := Ideal) c arg10 arg20 arg23 Z (q 0) Variants.none none harg10 0 _) $$ HS0
    iintro HB
    ihave HR := (ringAt_lt (F := Ideal) c arg10 arg20 arg23 Z q (k := 0) (by decide)).2 $$ [HB HS1]
    · isplitl [HB]; · iexact HB
      iexact HS1
    sl_exec (disch := first | sl_exact hc1 | sl_exact hc3 | sl_exact hcl | sl_exact chk_ok _ (hst _ _))
    ihave HR2 := (ringAt_end c arg10 arg20 arg23 Z q).1 $$ HR
    icases HR2 with ⟨HS0, HS1⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]
    · iexists _; isplitl [H11]; · iexact H11
      ipureintro
      exact k11
    isplitl [H12]; · iexists _; iexact H12
    isplitl [H13]; · iexists _; iexact H13
    isplitl [H14]; · iexists _; iexact H14
    isplitl [H15]
    · iexists _; isplitl [H15]; · iexact H15
      ipureintro
      exact h15 hc1
    isplitl [H16]; · iexists _; iexact H16
    isplitl [H17]; · iexists _; iexact H17
    isplitl [H18]; · iexists _; iexact H18
    isplitl [H19]; · iexists _; iexact H19
    isplitl [H21]; · iexists _; iexact H21
    isplitl [H22]; · iexists _; iexact H22
    isplitl [HS0]; · iexact HS0
    isplitl [HS1]; · iexact HS1
    iexists _; iexact HW
  · have hcl := fun h => hc3 (hclip.1 h)
    unfold cc0_target_head_skel
    simp only [k0_part17_eq_skeleton, k0_part18_eq_skeleton, k0_part25_eq_skeleton, k0_part26_eq_skeleton, k0_part27_eq_skeleton, k0_part28_eq_skeleton, k0_part29_eq_skeleton, k0_part30_eq_skeleton, k0_part31_eq_skeleton, k0_part32_eq_skeleton]
    by_cases hc1 : k0_cond1 i = 1#1
    · iintro ⟨H2, H3, H4, H5, H6, H7, H8, H9, ⟨%f11, H11⟩, ⟨%f12, H12⟩, ⟨%f13, H13⟩, ⟨%f14, H14⟩, ⟨%f15, H15, %h15⟩, ⟨%f16, H16⟩, ⟨%f17, H17⟩, ⟨%f18, H18⟩, ⟨%f19, H19⟩, ⟨%f21, H21⟩, ⟨%f22, H22⟩, HS0, HS1, HW, Hk⟩
      sl_exec (disch := first | sl_exact hc1 | sl_exact hc3 | sl_exact hcl | sl_exact chk_ok _ (hst _ _))
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]
      · iexists _; isplitl [H11]; · iexact H11
        ipureintro
        exact fun b r q hq => (hL10 b r q (by exact b.isLt)).trans (head_of_z i _ (arg15.view.read (Elt Ideal) fL0) (arg16.view.read (Elt Ideal) fL1) _ _ _ _ b r q (fun r => z_read arg15 arg16 arg18 fL0 fL1 _ _ _ _ _ _ _ _ _ _ _ _ _ _ rfl rfl rfl rfl (ix2 r q)) (fun r q => hL3 r q (by exact r.isLt) (fun j => (iota_apply _ _ _ j).trans (congrArg (BitVec.ofNat 32) (by simp)))) (fun r q => hL7 r q (by exact r.isLt) _ (words_read arg6 arg17 X6 _ _ _ _ _)))
      isplitl [H12]; · iexists _; iexact H12
      isplitl [H13]; · iexists _; iexact H13
      isplitl [H14]; · iexists _; iexact H14
      isplitl [H15]
      · iexists _; isplitl [H15]; · iexact H15
        ipureintro
        exact (fun r q => hL3 r q (by exact r.isLt) (fun j => (iota_apply _ _ _ j).trans (congrArg (BitVec.ofNat 32) (by simp))))
      isplitl [H16]; · iexists _; iexact H16
      isplitl [H17]; · iexists _; iexact H17
      isplitl [H18]; · iexists _; iexact H18
      isplitl [H19]; · iexists _; iexact H19
      isplitl [H21]; · iexists _; iexact H21
      isplitl [H22]; · iexists _; iexact H22
      isplitl [HS0]; · iexact HS0
      isplitl [HS1]; · iexact HS1
      iexists _; iexact HW
    · iintro ⟨H2, H3, H4, H5, H6, H7, H8, H9, ⟨%f11, H11⟩, ⟨%f12, H12⟩, ⟨%f13, H13⟩, ⟨%f14, H14⟩, ⟨%f15, H15, %h15⟩, ⟨%f16, H16⟩, ⟨%f17, H17⟩, ⟨%f18, H18⟩, ⟨%f19, H19⟩, ⟨%f21, H21⟩, ⟨%f22, H22⟩, HS0, HS1, HW, Hk⟩
      sl_exec (disch := first | sl_exact hc1 | sl_exact hc3 | sl_exact hcl | sl_exact chk_ok _ (hst _ _))
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]
      · iexists _; isplitl [H11]; · iexact H11
        ipureintro
        exact fun b r q hq => (hL6 b r q (by exact b.isLt)).trans (head_of_z i _ (arg15.view.read (Elt Ideal) f15) (arg16.view.read (Elt Ideal) fL0) _ _ _ _ b r q (fun r => z_read arg15 arg16 arg18 f15 fL0 _ _ _ _ _ _ _ _ _ _ _ _ _ _ rfl rfl rfl rfl (ix2 r q)) (h15 hc1) (fun r q => hL3 r q (by exact r.isLt) _ (words_read arg6 arg17 X6 _ _ _ _ _)))
      isplitl [H12]; · iexists _; iexact H12
      isplitl [H13]; · iexists _; iexact H13
      isplitl [H14]; · iexists _; iexact H14
      isplitl [H15]
      · iexists _; isplitl [H15]; · iexact H15
        ipureintro
        exact h15 hc1
      isplitl [H16]; · iexists _; iexact H16
      isplitl [H17]; · iexists _; iexact H17
      isplitl [H18]; · iexists _; iexact H18
      isplitl [H19]; · iexists _; iexact H19
      isplitl [H21]; · iexists _; iexact H21
      isplitl [H22]; · iexists _; iexact H22
      isplitl [HS0]; · iexact HS0
      isplitl [HS1]; · iexact HS1
      iexists _; iexact HW

end Cert.TargetIdeal.Gen

end
-- ==== Proof.TargetIdealHost.lean ====
/- The launch of the target head: the host operations before it, and what it is handed. -/
module

public import proofs.«01_k».proof.Proof.TargetIdealBody
public import proofs.«01_k».proof.Proof.Gen.TargetIdeal.Launch
public import Idealize.ShloMosaic.Lib.Pipeline.FrameBody
public import Idealize.ShloMosaic.Lib.WordCmp
public import Idealize.ShloMosaic.Lib.Claim
public import Idealize.ShloMosaic.Lib.StableHlo.RunRead

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode)

local notation "𝕄" => MT nD τ sig Unit (Elt Ideal) ℕ (UR sig nD τ × Counters) ℕ

variable (m : (ℓ : Loc nD τ sig) → Buf (Elt Ideal) ℓ) (ρ : Dev nD → PrngReg)

/-! ## @main up to the region -/

/-- Core `c`'s buffers when the region is entered. -/
abbrev V (c : Dev nD) (b : Ref sig .tc) : Buf (Elt Ideal) ((c : Thread nD τ).loc b) :=
  StableHlo.after (List.flatten [hostOps0, hostOps0_1, hostOps0_2]) (fun b => m (c, b)) b

theorem hostOps0_fresh : (hostOps0 : List (HloOp τ sig (Elt Ideal))).Forall fun op => op.fresh = ∅ := by
  simp only [List.Forall]; repeat' constructor
theorem hostOps0_1_fresh : (hostOps0_1 : List (HloOp τ sig (Elt Ideal))).Forall fun op => op.fresh = ∅ := by
  simp only [List.Forall]; repeat' constructor
theorem hostOps0_2_fresh : (hostOps0_2 : List (HloOp τ sig (Elt Ideal))).Forall fun op => op.fresh = ∅ := by
  simp only [List.Forall]; repeat' constructor

set_option maxHeartbeats 800000 in
/-- @main up to the region: the lines of host operations, then the region. -/
theorem hmain (𝒱₀ : Variants) : Pipeline.HMainP (Ix := Unit) (Name := ℕ) (U := Pipeline.UD sig nD τ) (Lvl := ℕ) pcfgs 0 defs₀ 𝒱₀ m (main (F := Ideal)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of starts: counts, so small -/

/-- A sum of words each zero or one is at most the number of its terms over what it starts from. -/
theorem fold_le {α : Type} (f : α → BitVec 32) (hf : ∀ n, (f n).toNat ≤ 1) : ∀ (l : List α) (a : BitVec 32),
    (l.foldl (fun r n => IntOp.addi r (f n)) a).toNat ≤ a.toNat + l.length
  | [], a => by simp
  | n :: l, a => by
    refine (fold_le f hf l (IntOp.addi a (f n))).trans ?_
    have h1 : (IntOp.addi a (f n)).toNat ≤ a.toNat + (f n).toNat := by
      show (a + f n).toNat ≤ _
      rw [BitVec.toNat_add]; exact Nat.mod_le _ _
    have := hf n
    rw [List.length_cons]; omega

/-- A row sum of a matrix of bits. -/
theorem count_lt (B : IVec S1192x250 1) (j : S1192.Idx) :
    (Host.reduce IntOp.addi (extui 32 B natLt_1_32) (constantI S_ 32 0#32) reducesTo_S1192x250_S1192_d1 h_S_ j).toNat < 2 ^ 31 := by
  unfold Host.reduce
  refine lt_of_le_of_lt (fold_le (fun n => extui 32 B natLt_1_32 (S1192x250.rowMajor.symm n)) (fun n => ?_) _ _) ?_
  · show (BitVec.setWidth 32 (B _)).toNat ≤ 1
    rw [BitVec.toNat_setWidth]
    have := (B (S1192x250.rowMajor.symm n)).isLt
    exact (Nat.mod_le _ _).trans (by omega)
  · refine lt_of_le_of_lt (Nat.add_le_add_left ((List.length_filter_le _ _).trans (List.length_finRange).le) _) ?_
    show 0 + S1192x250.numel < 2 ^ 31
    have : S1192x250.numel = 298000 := by decide
    omega

theorem V_start (c : Dev nD) : ∃ B : IVec S1192x250 1,
    V m c main_v14 = Host.reduce IntOp.addi (extui 32 B natLt_1_32) (constantI S_ 32 0#32) reducesTo_S1192x250_S1192_d1 h_S_ :=
  ⟨_, by
    show StableHlo.after (List.flatten [hostOps0, hostOps0_1, hostOps0_2]) (fun b => m (c, b)) (Proc.devRef .tc main_v14) = _
    simp only [hostOps0, hostOps0_1, hostOps0_2, List.flatten_cons, List.flatten_nil, List.append_nil, List.cons_append, List.nil_append]
    after_reads_simp
    rfl⟩

theorem start_lt (c : Dev nD) (j : S1192.Idx) : BitVec.toNat (w := 32) (V m c main_v14 j) < 2 ^ 31 := by
  obtain ⟨B, h⟩ := V_start m c
  rw [h]; exact count_lt B j

/-! ## The operands -/

/-- The table's contents the region is entered with. -/
def adm (p : Fin 1) : (pcfgs (F := Ideal) p).Adm := ⟨fun k => V m 0 (pre0.ref k), trivial⟩
abbrev cf : Pipeline.Cfg sig Λ₀ := Pipeline.pin pcfgs (adm m) 0
abbrev scM0_0 : Memref sig .tc .vmem S256x2048 .bf16 := Memref.whole cc0_scratch0
abbrev scM0_1 : Memref sig .tc .vmem S2048x1024 .bf16 := Memref.whole cc0_scratch1
abbrev scM0_2 : Memref sig .tc .vmem S64x1024 .i32 := Memref.whole cc0_scratch2
abbrev scM0_3 : Memref sig .tc .vmem S256x1024 .f32 := Memref.whole cc0_scratch3
abbrev scM0_4 : Memref sig .tc .vmem S250x256x128 .f32 := Memref.whole cc0_scratch4
abbrev scM0_5 : Memref sig .tc .vmem S2x5x256x128 .f32 := Memref.whole cc0_scratch5
abbrev scM0_6 : Memref sig .tc .vmem S256x128 .f32 := Memref.whole cc0_scratch6
abbrev scM0_7 : Memref sig .tc .vmem S256x128 .f32 := Memref.whole cc0_scratch7
abbrev ms0_0 (t : Fin (cf m).N) := spec0_0.stage ((cf m).slots t 0)
theorem hs0_0 (t : Fin (cf m).N) : (ms0_0 m t).IsWhole := hstage0_0 (((cf m).slots t 0).cast nbuf0_0)
abbrev ms0_1 (t : Fin (cf m).N) := spec0_1.stage ((cf m).slots t 1)
theorem hs0_1 (t : Fin (cf m).N) : (ms0_1 m t).IsWhole := hstage0_1 (((cf m).slots t 1).cast nbuf0_1)
abbrev ms0_2 (t : Fin (cf m).N) := spec0_2.stage ((cf m).slots t 2)
theorem hs0_2 (t : Fin (cf m).N) : (ms0_2 m t).IsWhole := hstage0_2 (((cf m).slots t 2).cast nbuf0_2)
abbrev ms0_3 (t : Fin (cf m).N) := spec0_3.stage ((cf m).slots t 3)
theorem hs0_3 (t : Fin (cf m).N) : (ms0_3 m t).IsWhole := hstage0_3 (((cf m).slots t 3).cast nbuf0_3)
abbrev ms0_4 (t : Fin (cf m).N) := spec0_4.stage ((cf m).slots t 4)
theorem hs0_4 (t : Fin (cf m).N) : (ms0_4 m t).IsWhole := hstage0_4 (((cf m).slots t 4).cast nbuf0_4)
abbrev ms0_5 (t : Fin (cf m).N) := spec0_5.stage ((cf m).slots t 5)
theorem hs0_5 (t : Fin (cf m).N) : (ms0_5 m t).IsWhole := hstage0_5 (((cf m).slots t 5).cast nbuf0_5)
abbrev ms0_6 (t : Fin (cf m).N) := spec0_6.stage ((cf m).slots t 6)
theorem hs0_6 (t : Fin (cf m).N) : (ms0_6 m t).IsWhole := hstage0_6 (((cf m).slots t 6).cast nbuf0_6)
abbrev ms0_7 (t : Fin (cf m).N) := spec0_7.stage ((cf m).slots t 7)
theorem hs0_7 (t : Fin (cf m).N) : (ms0_7 m t).IsWhole := hstage0_7 (((cf m).slots t 7).cast nbuf0_7)
abbrev ms0_8 (t : Fin (cf m).N) := spec0_8.stage ((cf m).slots t 8)
theorem hs0_8 (t : Fin (cf m).N) : (ms0_8 m t).IsWhole := hstage0_8 (((cf m).slots t 8).cast nbuf0_8)
abbrev ms0_9 (t : Fin (cf m).N) := spec0_9.stage ((cf m).slots t 9)
theorem hs0_9 (t : Fin (cf m).N) : (ms0_9 m t).IsWhole := hstage0_9 (((cf m).slots t 9).cast nbuf0_9)
abbrev ms0_10 (t : Fin (cf m).N) := spec0_10.stage ((cf m).slots t 10)
theorem hs0_10 (t : Fin (cf m).N) : (ms0_10 m t).IsWhole := hstage0_10 (((cf m).slots t 10).cast nbuf0_10)
abbrev stM : Memref sig .tc .smem S1192 .i32 := Memref.whole main_v14
abbrev zdM : Memref sig .tc .hbm S250x768x128 .f32 := Memref.whole main_arg7
abbrev tabPt (c : Dev nD) : sProp 𝕄 := stM.view.loc (c : Thread nD τ) ↦[stM.view.set]{fullShare.right} V m c main_v14
/-- The two halves of the draft logits, one to a slot. -/
abbrev qz : Fin 2 → PosShare TreeShare := ![fullShare.left, fullShare.right]
abbrev slotD (c : Dev nD) (s : Fin 2) : sProp 𝕄 := slotFree (F := Ideal) c zdM scM0_5 cc0_scratch8 (V m c main_arg7) (qz s) s
/-- The elements of the ring's buffer in neither slot. -/
abbrev spare (c : Dev nD) : sProp 𝕄 :=
  iprop(∃ f, (c : Thread nD τ).loc cc0_scratch5 ↦[Finset.univ \ Finset.univ.biUnion fun s : Fin 2 => (rslot scM0_5 s).view.set]{fullShare} f)

theorem slot_set (s : Fin 2) : (rslot scM0_5 s).view.set = (Rect.unit (s := S2x5x256x128) (slotOff s) S1x5x256x128.size (slotOff_inb s)).set :=
  (Memref.set_view_squeeze _ squeezes_S1x5x256x128_S5x256x128).trans (View.set_slice_whole _ _)
theorem slots_disjoint (s s' : Fin 2) (h : s ≠ s') : Disjoint (rslot scM0_5 s).view.set (rslot scM0_5 s').view.set := by
  rw [slot_set, slot_set]
  exact Ring.lead_disjoint (s := S2x5x256x128) (0 : Fin 4) 1 slotOff S1x5x256x128.size slotOff_inb (fun b => by show b.val = 1 * b.val; omega) rfl s s' h

/-! ## What the launch hands over, opened -/

abbrev osem0 : Fin 2 → SemLoc sig := fun j => (![SemLoc.dma 19, SemLoc.dma 20] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt Ideal) (τ := τ) osem0 c : sProp 𝕄)
      = iprop(semVal ((c : Thread nD τ), SemLoc.dma 19) 0 ∗ semVal ((c : Thread nD τ), SemLoc.dma 20) 0) := by
  rw [Pipeline.ownSems0_eq_of_list c osem0 [0, 1] (by decide) (by decide)]; rfl
def H0 : Finset (Ref sig .tc) := {main_arg7}
theorem H0_sub : H0 ⊆ Pipeline.restRefsP sig pre0 spec0 := by decide
theorem zd_eq (c : Dev nD) :
    (bigSep H0 (fun b => ((c : Thread nD τ).loc b) ↦{fullShare} V m c b) : sProp 𝕄)
      = (zdM.view.loc (c : Thread nD τ) ↦[zdM.view.set]{fullShare} V m c main_arg7) := by
  rw [BI.bigSep_eq_bigSepL_of_eq [main_arg7] (by decide) (by decide)]
  simp only [Memref.view_whole, View.set_whole]; rfl
theorem tab_of (W : (b : Ref sig .tc) → Buf (Elt Ideal) (((0 : Dev nD) : Thread nD τ).loc b)) :
    (Pipeline.prefHeld (Ix := Unit) (Name := ℕ) (U := Pipeline.UD sig nD τ) (Lvl := ℕ) (τ := τ) pre0 (0 : Dev nD) (fun _ => fullShare.right) (fun k => W (pre0.ref k)) : sProp 𝕄)
      = (((0 : Dev nD) : Thread nD τ).loc main_v14 ↦{fullShare.right} W main_v14) := by
  unfold Pipeline.prefHeld
  exact bigSep_univ_of_subsingleton (0 : Fin 1)
theorem tab_eq (c : Dev nD) :
    (Pipeline.ΦT (U := Pipeline.UD sig nD τ) pre0 (adm m 0).1 c : sProp 𝕄) = tabPt m c := by
  obtain rfl : c = 0 := Subsingleton.elim _ _
  refine (tab_of (V m 0)).trans ?_
  simp only [tabPt, Memref.view_whole, View.set_whole]
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ f, (c : Thread nD τ).loc cc0_scratch5 ↦{fullShare} f) ∗ (∃ d, owns (c : Thread nD τ) scM0_6 fullShare d) ∗ (∃ d, owns (c : Thread nD τ) scM0_7 fullShare d)) ∗ (∃ r, prngReg c r)
          ∗ iprop(semVal ((c : Thread nD τ), SemLoc.dma 19) 0 ∗ semVal ((c : Thread nD τ), SemLoc.dma 20) 0)
          ∗ (zdM.view.loc (c : Thread nD τ) ↦[zdM.view.set]{fullShare} V m c main_arg7)) := by
  rw [Pipeline.ΦD_eq, scopedRest0_eq, ownSems00_eq, zd_eq]
  simp only [scM0_0, scM0_1, scM0_2, scM0_3, scM0_4, scM0_6, scM0_7, owns_whole]; try rfl

theorem slots_split (c : Dev nD) :
    iprop((∃ f, (c : Thread nD τ).loc cc0_scratch5 ↦{fullShare} f)
        ∗ iprop(semVal ((c : Thread nD τ), SemLoc.dma 19) 0 ∗ semVal ((c : Thread nD τ), SemLoc.dma 20) 0)
        ∗ (zdM.view.loc (c : Thread nD τ) ↦[zdM.view.set]{fullShare} V m c main_arg7))
      ⊢ (iprop(spare c ∗ slotD m c 0 ∗ slotD m c 1) : sProp 𝕄) := by
  iintro ⟨HR, ⟨Hs0, Hs1⟩, HZ⟩
  ihave HR2 := (Ring.slots2_split_spare (ℓ := (c : Thread nD τ).loc cc0_scratch5) (fun s : Fin 2 => (rslot scM0_5 s).view.set) slots_disjoint
    (slotP (F := Ideal) c scM0_5 0) (slotP (F := Ideal) c scM0_5 1) (fun _ => rfl) (fun _ => rfl)) $$ HR
  icases HR2 with ⟨⟨HP0, HP1⟩, HSp⟩
  ihave HZ2 := (pointsTo_share (PosShare.mem_left_op_right fullShare)).1 $$ HZ
  icases HZ2 with ⟨HZ0, HZ1⟩
  unfold slotD slotFree
  isplitl [HSp]; · iexact HSp
  isplitl [Hs0 HP0 HZ0]
  · isplitl [Hs0]; · iexact Hs0
    isplitl [HP0]; · iexact HP0
    iexact HZ0
  isplitl [Hs1]; · iexact Hs1
  isplitl [HP1]; · iexact HP1
  iexact HZ1

theorem slots_join (c : Dev nD) :
    (iprop(spare c ∗ slotD m c 0 ∗ slotD m c 1) : sProp 𝕄)
      ⊢ iprop((∃ f, (c : Thread nD τ).loc cc0_scratch5 ↦{fullShare} f)
        ∗ iprop(semVal ((c : Thread nD τ), SemLoc.dma 19) 0 ∗ semVal ((c : Thread nD τ), SemLoc.dma 20) 0)
        ∗ (zdM.view.loc (c : Thread nD τ) ↦[zdM.view.set]{fullShare} V m c main_arg7)) := by
  unfold slotD slotFree
  iintro ⟨HSp, ⟨Hs0, HP0, HZ0⟩, ⟨Hs1, HP1, HZ1⟩⟩
  isplitl [HSp HP0 HP1]
  · iapply (Ring.slots2_join_spare (ℓ := (c : Thread nD τ).loc cc0_scratch5) (fun s : Fin 2 => (rslot scM0_5 s).view.set) slots_disjoint
      (slotP (F := Ideal) c scM0_5 0) (slotP (F := Ideal) c scM0_5 1) (fun _ => rfl) (fun _ => rfl))
    isplitr [HSp]
    · isplitl [HP0]; · iexact HP0
      iexact HP1
    · iexact HSp
  isplitl [Hs0 Hs1]
  · isplitl [Hs0]; · iexact Hs0
    iexact Hs1
  iapply (pointsTo_share (PosShare.mem_left_op_right fullShare)).2
  isplitl [HZ0]; · iexact HZ0
  iexact HZ1

/-- The body at point `t`, as the pipeline calls it. -/
abbrev bodyAt0 (t : Fin (cf m).N) : Prog (TpuEff nD τ sig (Elt Ideal) Λ₀ .tc) PUnit :=
  cc0_target_head (F := Ideal) (grid0.coords t) stM (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) zdM (Memref.isWhole_whole _) (ms0_7 m t) (hs0_7 m t) (ms0_8 m t) (hs0_8 m t) (ms0_9 m t) (hs0_9 m t) (ms0_10 m t) (hs0_10 m t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8

/-- The body table's row at point `t`'s slots is the body. -/
theorem defs₀_row (t : Fin (cf m).N) :
    defs₀ (F := Ideal) .tc (cf m).body ((cf m).bodyArgs t ((cf m).slots t)) = bodyAt0 m t := by
  unfold defs₀; rw [Defs.onTc_tc]

end Cert.TargetIdeal.Gen

end
-- ==== Proof.TargetIdealGeometry.lean ====
/- The blocks the target head moves, and what a grid point is given and leaves. -/
module

public import proofs.«01_k».proof.Proof.TargetIdealHost

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode)

local notation "𝕄" => MT nD τ sig Unit (Elt Ideal) ℕ (UR sig nD τ × Counters) ℕ

variable (m : (ℓ : Loc nD τ sig) → Buf (Elt Ideal) ℓ) (ρ : Dev nD → PrngReg)

/-! ## The grid and the windows' blocks -/

theorem pt_facts : ∀ t : Fin grid0.N, (grid0.coords t 0).val = t.val / 149 ∧ (grid0.coords t 1).val = t.val % 149 := by decide +kernel

theorem cond1_of (i : grid0.Coords) (h : (i 1).val = 0) : k0_cond1 i = 1#1 := by
  have hj : ∀ j : Fin 149, j.val = 0 → Scalar.cmpi .ne (Scalar.extui (Scalar.cmpi .eq (BitVec.ofNat 32 j.val) 0#32)) 0#32 = 1#1 := by decide
  exact hj (i 1) h

/-- The block of rows depends on the first coordinate alone. -/
theorem blockStates_congr (i i' : grid0.Coords) (e : (i 0).val = (i' 0).val) (h : Vec Ideal S768x2048 .fp8e4m3) (sc : Vec Ideal S768x64 .i8) :
    blockStates i h sc = blockStates i' h sc := by
  have hr : rowOf i = rowOf i' := funext fun r => Fin.ext (by show 256 * (i 0).val + r.val = 256 * (i' 0).val + r.val; rw [e])
  unfold blockStates; rw [hr]

/-- A column of logits depends on that column of the weights and their scales alone. -/
theorem headOf_congr (i : grid0.Coords) (h : Vec Ideal S768x2048 .fp8e4m3) (sc : Vec Ideal S768x64 .i8) (w w' : Vec Ideal S2048x1024 .fp8e4m3) (ws ws' : Vec Ideal S64x1024 .i8)
    (b : Fin 32) (r : Fin 8) (q : Fin 1024) (hw : ∀ k : Fin 2048, w (ix2 k q) = w' (ix2 k q)) (hs : ∀ k : Fin 64, ws (ix2 k q) = ws' (ix2 k q)) :
    headOf i h sc w ws (ix3 b r q) = headOf i h sc w' ws' (ix3 b r q) := by
  unfold headOf
  refine congrArg (fun a : EReal => a * ((10 / 7 : ℝ) : EReal)) (Finset.sum_congr rfl fun k _ => ?_)
  exact congrArg₂ (fun a b : EReal => a * b) rfl (congrArg₂ (fun a b : EReal => a * b) (hw k) (congrArg decode (hs _)))

theorem idx_whole0 : ∀ t : Fin grid0.N, cc0_transform_0 (grid0.coords t) 0 = 0 ∧ cc0_transform_0 (grid0.coords t) 1 = 0 := by decide +kernel
theorem idx_whole1 : ∀ t : Fin grid0.N, cc0_transform_1 (grid0.coords t) 0 = 0 ∧ cc0_transform_1 (grid0.coords t) 1 = 0 := by decide +kernel
theorem idx_facts2 : ∀ t : Fin grid0.N, cc0_transform_2 (grid0.coords t) 0 = 0 ∧ cc0_transform_2 (grid0.coords t) 1 = t.val % 149 := by decide +kernel
theorem idx_facts3 : ∀ t : Fin grid0.N, cc0_transform_3 (grid0.coords t) 0 = 0 ∧ cc0_transform_3 (grid0.coords t) 1 = t.val % 149 := by decide +kernel
theorem idx_facts7 : ∀ t : Fin grid0.N, cc0_transform_8 (grid0.coords t) 0 = t.val / 149 ∧ cc0_transform_8 (grid0.coords t) 1 = 0 ∧ cc0_transform_8 (grid0.coords t) 2 = t.val % 149 := by decide +kernel
theorem cut_facts2 : ∀ t : Fin grid0.N, (clip0_2 (grid0.coords t) 0).extent 2048 = 2048 ∧ (clip0_2 (grid0.coords t) 1).extent 1024 = min 1024 (151936 - 1024 * (t.val % 149)) := by decide +kernel
theorem cut_facts3 : ∀ t : Fin grid0.N, (clip0_3 (grid0.coords t) 0).extent 64 = 64 ∧ (clip0_3 (grid0.coords t) 1).extent 1024 = min 1024 (151936 - 1024 * (t.val % 149)) := by decide +kernel
theorem cut_facts7 : ∀ t : Fin grid0.N, (clip0_7 (grid0.coords t) 0).extent 32 = 32 ∧ (clip0_7 (grid0.coords t) 1).extent 8 = 8 ∧ (clip0_7 (grid0.coords t) 2).extent 1024 = min 1024 (151936 - 1024 * (t.val % 149)) := by decide +kernel

/-! ## The arrays' blocks -/

/-- The hidden states, one run of rows, and their scales. -/
abbrev hs (c : Dev nD) : Vec Ideal S768x2048 .fp8e4m3 := V m c main_v18
abbrev sc (c : Dev nD) : Vec Ideal S768x64 .i8 := V m c main_v19

/-- Window `w`'s block at point `t`. -/
def iblk (c : Dev nD) (w : Fin (cf m).W) (t : Fin (cf m).N) : (((cf m).win w).xblock (grid0.coords t)).Idx → Elt Ideal ((cf m).win w).elt :=
  (((cf m).win w).blk t).view.read (Elt Ideal) (V m c (Pipeline.arrRef spec0 w))

theorem iblk_states (c : Dev nD) (t : Fin (cf m).N) : iblk m c 0 t = hs m c := by
  obtain ⟨e0, e1⟩ := idx_whole0 t
  funext y
  refine congrArg (V m c main_v18) (funext fun a => Fin.ext ?_)
  match a with
  | ⟨0, _⟩ => show cc0_transform_0 (grid0.coords t) 0 * 768 + 1 * (y (0 : Fin 2)).val = (y (0 : Fin 2)).val; rw [e0]; omega
  | ⟨1, _⟩ => show cc0_transform_0 (grid0.coords t) 1 * 2048 + 1 * (y (1 : Fin 2)).val = (y (1 : Fin 2)).val; rw [e1]; omega
theorem iblk_scales (c : Dev nD) (t : Fin (cf m).N) : iblk m c 1 t = sc m c := by
  obtain ⟨e0, e1⟩ := idx_whole1 t
  funext y
  refine congrArg (V m c main_v19) (funext fun a => Fin.ext ?_)
  match a with
  | ⟨0, _⟩ => show cc0_transform_1 (grid0.coords t) 0 * 768 + 1 * (y (0 : Fin 2)).val = (y (0 : Fin 2)).val; rw [e0]; omega
  | ⟨1, _⟩ => show cc0_transform_1 (grid0.coords t) 1 * 64 + 1 * (y (1 : Fin 2)).val = (y (1 : Fin 2)).val; rw [e1]; omega

/-- A window's buffer at some contents. -/
abbrev anyBuf (w : Fin (cf m).W) (t : Fin (cf m).N) : ((cf m).win w).block.Idx → Elt Ideal ((cf m).win w).elt :=
  (((cf m).win w).stage ((cf m).slots t w)).view.read (Elt Ideal) (((cf m).win w).stage ((cf m).slots t w)).view.junk

/-- The weights at point `t`, and their scales. -/
def wAt (c : Dev nD) (t : Fin (cf m).N) : Vec Ideal S2048x1024 .fp8e4m3 := ((cf m).win 2).fill (grid0.coords t) (anyBuf m 2 t) (iblk m c 2 t)
def wsAt (c : Dev nD) (t : Fin (cf m).N) : Vec Ideal S64x1024 .i8 := ((cf m).win 3).fill (grid0.coords t) (anyBuf m 3 t) (iblk m c 3 t)

/-- What a fetch brings in does not depend on what was there. -/
theorem fill_moved {G : Pipeline.Grid} (w : Window sig G) {α : Type} (i : G.Coords) (d d' : w.block.Idx → α) (g : (w.xblock i).Idx → α) {j : w.block.Idx}
    (h : w.moved i j = true) : w.fill i d g j = w.fill i d' g j := by
  unfold Window.fill; rw [dif_pos h, dif_pos h]

/-- The columns of the weights a fetch brings in do not depend on what was there. -/
theorem w_col (c : Dev nD) (t : Fin (cf m).N) (d) (k : Fin 2048) (q : Fin 1024) (hq : 1024 * (t.val % 149) + q.val < 151936) :
    ((cf m).win 2).fill (grid0.coords t) d (iblk m c 2 t) (ix2 k q) = wAt m c t (ix2 k q) := by
  obtain ⟨e0, e1⟩ := cut_facts2 t
  have hm : ((cf m).win 2).moved (grid0.coords t) (ix2 k q) = true := (((cf m).win 2).moved_iff _ _).mpr fun (a : Fin 2) =>
    match a with
    | ⟨0, _⟩ => by show k.val < (clip0_2 (grid0.coords t) 0).extent 2048; rw [e0]; exact k.isLt
    | ⟨1, _⟩ => by show q.val < (clip0_2 (grid0.coords t) 1).extent 1024; rw [e1]; have := q.isLt; omega
  exact fill_moved ((cf m).win 2) _ _ _ _ hm
theorem ws_col (c : Dev nD) (t : Fin (cf m).N) (d) (k : Fin 64) (q : Fin 1024) (hq : 1024 * (t.val % 149) + q.val < 151936) :
    ((cf m).win 3).fill (grid0.coords t) d (iblk m c 3 t) (ix2 k q) = wsAt m c t (ix2 k q) := by
  obtain ⟨e0, e1⟩ := cut_facts3 t
  have hm : ((cf m).win 3).moved (grid0.coords t) (ix2 k q) = true := (((cf m).win 3).moved_iff _ _).mpr fun (a : Fin 2) =>
    match a with
    | ⟨0, _⟩ => by show k.val < (clip0_3 (grid0.coords t) 0).extent 64; rw [e0]; exact k.isLt
    | ⟨1, _⟩ => by show q.val < (clip0_3 (grid0.coords t) 1).extent 1024; rw [e1]; have := q.isLt; omega
  exact fill_moved ((cf m).win 3) _ _ _ _ hm

/-- The logits point `t` leaves. -/
def outAt (c : Dev nD) (t : Fin (cf m).N) : Vec Ideal S32x8x1024 .bf16 := headOf (grid0.coords t) (hs m c) (sc m c) (wAt m c t) (wsAt m c t)

theorem entails_of_eq {P Q : sProp 𝕄} (e : P = Q) : P ⊢ Q := e ▸ .rfl

/-- What is held between points: the decoded states of the block of rows, unless the next point starts a block of rows, the other scratch
buffers at some contents, the two slots of the ring, free, the table, and the generator register. -/
def PhiS (c : Dev nD) (n : ℕ) : sProp 𝕄 :=
  iprop((∃ d, owns (c : Thread nD τ) scM0_0 fullShare d ∗ ⌜∀ t : Fin grid0.N, t.val = n → (grid0.coords t 1).val ≠ 0 → ∀ (r : Fin 256) (q : Fin 2048),
      d (ix2 r q) = blockStates (grid0.coords t) (hs m c) (sc m c) (ix2 r q)⌝)
    ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_6 fullShare d) ∗ (∃ d, owns (c : Thread nD τ) scM0_7 fullShare d) ∗ spare c ∗ slotD m c 0 ∗ slotD m c 1 ∗ tabPt m c ∗ (∃ r, prngReg c r))

/-- Nothing is said of the index and selection windows' buffers. -/
def fgt : Fin (cf m).W → Bool := fun w => match w with
  | ⟨0, _⟩ => false | ⟨1, _⟩ => false | ⟨2, _⟩ => false | ⟨3, _⟩ => false | ⟨4, _⟩ => true | ⟨5, _⟩ => true
  | ⟨6, _⟩ => true | ⟨7, _⟩ => false | ⟨8, _⟩ => true | ⟨9, _⟩ => true | ⟨10, _⟩ => true

/-- The proof data: the arrays as the region finds them, the operands' blocks left in place, the logits as stated. -/
def dats (p : Fin 1) (c : Dev nD) : Dat τ (Elt Ideal) Unit ℕ (UR sig nD τ × Counters) ℕ (Pipeline.pin pcfgs (adm m) p) c where
  A w := V m c (Pipeline.arrRef spec0 w)
  after w t := match w with
    | ⟨0, _⟩ => iblk m c 0 t
    | ⟨1, _⟩ => iblk m c 1 t
    | ⟨2, _⟩ => wAt m c t
    | ⟨3, _⟩ => wsAt m c t
    | ⟨4, _⟩ => anyBuf m 4 t
    | ⟨5, _⟩ => anyBuf m 5 t
    | ⟨6, _⟩ => anyBuf m 6 t
    | ⟨7, _⟩ => outAt m c t
    | ⟨8, _⟩ => anyBuf m 8 t
    | ⟨9, _⟩ => anyBuf m 9 t
    | ⟨10, _⟩ => anyBuf m 10 t
  Φ t := PhiS m c t.val
  q _ := fullShare
  owed _ := 0

theorem A_eq (c : Dev nD) (w : Fin (cf m).W) : (dats m 0 c).A w = V m c (Pipeline.arrRef spec0 w) := by
  dsimp only [dats]
theorem Phi_eq (c : Dev nD) (t : Fin ((cf m).N + 1)) : (dats m 0 c).Φ t = PhiS m c t.val := by dsimp only [dats]
theorem Phi_castSucc (c : Dev nD) (t : Fin (cf m).N) : (dats m 0 c).Φ t.castSucc = PhiS m c t.val := (Phi_eq m c _).trans (congrArg (PhiS m c) (Fin.val_castSucc t))
theorem Phi_succ (c : Dev nD) (t : Fin (cf m).N) : (dats m 0 c).Φ t.succ = PhiS m c (t.val + 1) := (Phi_eq m c _).trans (congrArg (PhiS m c) (Fin.val_succ t))
theorem after0_0 (c : Dev nD) (t : Fin (cf m).N) : (dats m 0 c).after 0 t = iblk m c 0 t := by dsimp only [dats]; rfl
theorem after0_1 (c : Dev nD) (t : Fin (cf m).N) : (dats m 0 c).after 1 t = iblk m c 1 t := by dsimp only [dats]; rfl
theorem after0_2 (c : Dev nD) (t : Fin (cf m).N) : (dats m 0 c).after 2 t = wAt m c t := by dsimp only [dats]; rfl
theorem after0_3 (c : Dev nD) (t : Fin (cf m).N) : (dats m 0 c).after 3 t = wsAt m c t := by dsimp only [dats]; rfl
theorem after0_7 (c : Dev nD) (t : Fin (cf m).N) : (dats m 0 c).after 7 t = outAt m c t := by dsimp only [dats]; rfl
theorem cut0_2 (c : Dev nD) (t : Fin (cf m).N) : ((cf m).win 2).cut (grid0.coords t) (wAt m c t) = iblk m c 2 t := ((cf m).win 2).cut_fill _ _ _
theorem cut0_3 (c : Dev nD) (t : Fin (cf m).N) : ((cf m).win 3).cut (grid0.coords t) (wsAt m c t) = iblk m c 3 t := ((cf m).win 3).cut_fill _ _ _
theorem before0_0 (c : Dev nD) (t : Fin (cf m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cf m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cf m).N) (d) : (dats m 0 c).before 2 t d = ((cf m).win 2).fill (grid0.coords t) d (iblk m c 2 t) :=
  ((dats m 0 c).before_in_eq_fetched 2 rfl (fun _ => rfl)
    (fun t t' (h : cc0_transform_2 (grid0.coords t) = cc0_transform_2 (grid0.coords t')) =>
      show clip0_2 (grid0.coords t) = clip0_2 (grid0.coords t') from congrArg (fun (x : Fin 2 → ℕ) (a : Fin 2) => Pipeline.Clip.of (x a) (S2048x1024.size a) (S2048x151936.size a)) h)
    (fun t => by rw [after0_2]; refine (cut0_2 m c t).trans ?_; unfold Dat.blockOf iblk; rw [A_eq]; try rfl) t d).trans
    (by unfold Dat.fetched Dat.blockOf iblk; rw [A_eq]; try rfl)
theorem before0_3 (c : Dev nD) (t : Fin (cf m).N) (d) : (dats m 0 c).before 3 t d = ((cf m).win 3).fill (grid0.coords t) d (iblk m c 3 t) :=
  ((dats m 0 c).before_in_eq_fetched 3 rfl (fun _ => rfl)
    (fun t t' (h : cc0_transform_3 (grid0.coords t) = cc0_transform_3 (grid0.coords t')) =>
      show clip0_3 (grid0.coords t) = clip0_3 (grid0.coords t') from congrArg (fun (x : Fin 2 → ℕ) (a : Fin 2) => Pipeline.Clip.of (x a) (S64x1024.size a) (S64x151936.size a)) h)
    (fun t => by rw [after0_3]; refine (cut0_3 m c t).trans ?_; unfold Dat.blockOf iblk; rw [A_eq]; try rfl) t d).trans
    (by unfold Dat.fetched Dat.blockOf iblk; rw [A_eq]; try rfl)

end Cert.TargetIdeal.Gen

end
-- ==== Proof.TargetIdealFrame.lean ====
/- The launch of the target head: a grid point, and the run of the whole program. -/
module

public import proofs.«01_k».proof.Proof.TargetIdealGeometry

@[expose] public section

set_option maxRecDepth 16384

noncomputable section

namespace Cert.TargetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (decode)

local notation "𝕄" => MT nD τ sig Unit (Elt Ideal) ℕ (UR sig nD τ × Counters) ℕ

variable (m : (ℓ : Loc nD τ sig) → Buf (Elt Ideal) ℓ) (ρ : Dev nD → PrngReg)

/-- What the body is called with at point `t`, and what it leaves. -/
def bodyPre (c : Dev nD) (t : Fin (cf m).N) : sProp 𝕄 :=
  iprop((dats m 0 c).Φ t.castSucc ∗ (dats m 0 c).owesAt () t.castSucc ∗ (∃ d, owns (c : Thread nD τ) (ms0_0 m t) fullShare ((dats m 0 c).before 0 t d)) ∗ (∃ d, owns (c : Thread nD τ) (ms0_1 m t) fullShare ((dats m 0 c).before 1 t d)) ∗ (∃ d, owns (c : Thread nD τ) (ms0_2 m t) fullShare ((dats m 0 c).before 2 t d)) ∗ (∃ d, owns (c : Thread nD τ) (ms0_3 m t) fullShare ((dats m 0 c).before 3 t d)) ∗ (∃ X, owns (c : Thread nD τ) (ms0_4 m t) fullShare X) ∗ (∃ X, owns (c : Thread nD τ) (ms0_5 m t) fullShare X) ∗ (∃ X, owns (c : Thread nD τ) (ms0_6 m t) fullShare X) ∗ (∃ d, owns (c : Thread nD τ) (ms0_7 m t) fullShare ((dats m 0 c).before 7 t d)) ∗ (∃ X, owns (c : Thread nD τ) (ms0_8 m t) fullShare X) ∗ (∃ X, owns (c : Thread nD τ) (ms0_9 m t) fullShare X) ∗ (∃ X, owns (c : Thread nD τ) (ms0_10 m t) fullShare X))
def bodyPost (c : Dev nD) (t : Fin (cf m).N) : sProp 𝕄 :=
  iprop((dats m 0 c).Φ t.succ ∗ (dats m 0 c).owesAt () t.succ ∗ owns (c : Thread nD τ) (ms0_0 m t) fullShare ((dats m 0 c).after 0 t) ∗ owns (c : Thread nD τ) (ms0_1 m t) fullShare ((dats m 0 c).after 1 t) ∗ (∃ d, owns (c : Thread nD τ) (ms0_2 m t) fullShare (((cf m).win 2).fill (grid0.coords t) d (((cf m).win 2).cut (grid0.coords t) ((dats m 0 c).after 2 t)))) ∗ (∃ d, owns (c : Thread nD τ) (ms0_3 m t) fullShare (((cf m).win 3).fill (grid0.coords t) d (((cf m).win 3).cut (grid0.coords t) ((dats m 0 c).after 3 t)))) ∗ (∃ X, owns (c : Thread nD τ) (ms0_4 m t) fullShare X) ∗ (∃ X, owns (c : Thread nD τ) (ms0_5 m t) fullShare X) ∗ (∃ X, owns (c : Thread nD τ) (ms0_6 m t) fullShare X) ∗ (∃ d, owns (c : Thread nD τ) (ms0_7 m t) fullShare (((cf m).win 7).fill (grid0.coords t) d (((cf m).win 7).cut (grid0.coords t) ((dats m 0 c).after 7 t)))) ∗ (∃ X, owns (c : Thread nD τ) (ms0_8 m t) fullShare X) ∗ (∃ X, owns (c : Thread nD τ) (ms0_9 m t) fullShare X) ∗ (∃ X, owns (c : Thread nD τ) (ms0_10 m t) fullShare X))

/-- The logits' buffer, filled with the stated logits where they are moved, is what it is. -/
theorem logits_fill (c : Dev nD) (t : Fin (cf m).N) (X : Vec Ideal S32x8x1024 .bf16)
    (hX : ∀ (b : Fin 32) (r : Fin 8) (q : Fin 1024), 1024 * (t.val % 149) + q.val < 151936 → X (ix3 b r q) = outAt m c t (ix3 b r q)) :
    X = ((cf m).win 7).fill (grid0.coords t) X (((cf m).win 7).cut (grid0.coords t) (outAt m c t)) := by
  obtain ⟨e0, e1, e2⟩ := cut_facts7 t
  refine (((cf m).win 7).fill_congr_cut (grid0.coords t) (X := X) (Y := outAt m c t) ?_).symm
  funext y
  have h0 : (y (0 : Fin 3)).val < (clip0_7 (grid0.coords t) 0).extent 32 := (y (0 : Fin 3)).isLt
  have h1 : (y (1 : Fin 3)).val < (clip0_7 (grid0.coords t) 1).extent 8 := (y (1 : Fin 3)).isLt
  have h2 : (y (2 : Fin 3)).val < (clip0_7 (grid0.coords t) 2).extent 1024 := (y (2 : Fin 3)).isLt
  rw [e0] at h0; rw [e1] at h1; rw [e2] at h2
  have hy : ((cf m).win 7).xinj (grid0.coords t) y = ix3 (⟨(y (0 : Fin 3)).val, h0⟩ : Fin 32) (⟨(y (1 : Fin 3)).val, h1⟩ : Fin 8) (⟨(y (2 : Fin 3)).val, by omega⟩ : Fin 1024) := by
    funext a
    match a with
    | ⟨0, _⟩ => rfl
    | ⟨1, _⟩ => rfl
    | ⟨2, _⟩ => rfl
  show X (((cf m).win 7).xinj (grid0.coords t) y) = outAt m c t (((cf m).win 7).xinj (grid0.coords t) y)
  rw [hy]
  exact hX _ _ _ (by show _ + (y (2 : Fin 3)).val < _; omega)

set_option maxHeartbeats 2000000 in
/-- The body at any point. -/
theorem sound_body (c : Dev nD) (t : Fin (cf m).N) :
    bodyPre m c t ⊢ wp frame (wpE (defs₀ (F := Ideal)) Variants.none c none) Set.univ (bodyAt0 m t) (fun _ => bodyPost m c t) := by
  unfold bodyPre bodyPost bodyAt0
  simp only [before0_0, before0_1, before0_2, before0_3, after0_0, after0_1, after0_2, after0_3, after0_7]
  rw [Phi_castSucc, Phi_succ]
  unfold Dat.owesAt Pipeline.owesWithin
  rw [show (dats m 0 c).owed t.castSucc = 0 from rfl, show (dats m 0 c).owed t.succ = 0 from rfl]
  obtain ⟨p0, p1⟩ := pt_facts t
  unfold PhiS owns
  iintro ⟨⟨⟨%d15, ⟨%f15, %e15, H15⟩, %k15⟩, ⟨%d16, %f16, %e16, H16⟩, ⟨%d17, %f17, %e17, H17⟩, ⟨%d18, %f18, %e18, H18⟩, ⟨%d19, %f19, %e19, H19⟩, ⟨%d21, %f21, %e21, H21⟩, ⟨%d22, %f22, %e22, H22⟩, HSp, HS0, HS1, HT, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d11, %f11, %e11, H11⟩, ⟨%d12, %f12, %e12, H12⟩, ⟨%d13, %f13, %e13, H13⟩, ⟨%d14, %f14, %e14, H14⟩⟩
  iapply body_run c (grid0.coords t) stM (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) zdM (Memref.isWhole_whole _) (ms0_7 m t) (hs0_7 m t) (ms0_8 m t) (hs0_8 m t) (ms0_9 m t) (hs0_9 m t) (ms0_10 m t) (hs0_10 m t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8 (V m c main_v14) f3 f4 f5 f6 f7 f8 f9 (V m c main_arg7) fullShare.right qz (fun r j => start_lt m c _) W _
  isplitl [HT]; · iexact HT
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [H12]; · iexists _; iexact H12
  isplitl [H13]; · iexists _; iexact H13
  isplitl [H14]; · iexists _; iexact H14
  isplitl [H15]
  · iexists _; isplitl [H15]; · iexact H15
    ipureintro
    intro hc r q
    rw [e3, e4, iblk_states, iblk_scales]
    exact (congrFun e15 _).trans (k15 t rfl (fun h => hc (cond1_of _ h)) r q)
  isplitl [H16]; · iexists _; iexact H16
  isplitl [H17]; · iexists _; iexact H17
  isplitl [H18]; · iexists _; iexact H18
  isplitl [H19]; · iexists _; iexact H19
  isplitl [H21]; · iexists _; iexact H21
  isplitl [H22]; · iexists _; iexact H22
  isplitl [HS0]; · iexact HS0
  isplitl [HS1]; · iexact HS1
  isplitl [HW]; · iexact HW
  iintro ⟨HT, H3, H4, H5, H6, H7, H8, H9, ⟨%u11, H11, %w11⟩, ⟨%u12, H12⟩, ⟨%u13, H13⟩, ⟨%u14, H14⟩, ⟨%u15, H15, %w15⟩, ⟨%u16, H16⟩, ⟨%u17, H17⟩, ⟨%u18, H18⟩, ⟨%u19, H19⟩, ⟨%u21, H21⟩, ⟨%u22, H22⟩, HS0, HS1, ⟨%W2, HW⟩⟩
  rw [e3, e4, iblk_states, iblk_scales] at w15
  rw [e3, e4, iblk_states, iblk_scales, e5, e6, p1] at w11
  isplitl [H15 H16 H17 H18 H19 H21 H22 HSp HS0 HS1 HT Hg]
  · isplitl [H15]
    · iexists _; isplitl [H15]
      · iexists _; isplitr
        swap; · iexact H15
        ipureintro; rfl
      · ipureintro
        intro t' ht hc r q
        obtain ⟨p0', p1'⟩ := pt_facts t'
        refine (w15 r q).trans (congrFun (blockStates_congr _ _ ?_ _ _) _)
        rw [p0, p0']
        rw [p1'] at hc
        omega
    isplitl [H16]
    · iexists _; iexists _; isplitr
      swap; · iexact H16
      ipureintro; rfl
    isplitl [H17]
    · iexists _; iexists _; isplitr
      swap; · iexact H17
      ipureintro; rfl
    isplitl [H18]
    · iexists _; iexists _; isplitr
      swap; · iexact H18
      ipureintro; rfl
    isplitl [H19]
    · iexists _; iexists _; isplitr
      swap; · iexact H19
      ipureintro; rfl
    isplitl [H21]
    · iexists _; iexists _; isplitr
      swap; · iexact H21
      ipureintro; rfl
    isplitl [H22]
    · iexists _; iexists _; isplitr
      swap; · iexact H22
      ipureintro; rfl
    isplitl [HSp]; · iexact HSp
    isplitl [HS0]; · iexact HS0
    isplitl [HS1]; · iexact HS1
    isplitl [HT]; · iexact HT
    iexact Hg
  isplitl [HW]
  · iexists W2; isplitr; · ipureintro; exact fun _ _ => Or.inl trivial
    iexact HW
  isplitl [H3]
  · iexists _; isplitr
    swap; · iexact H3
    ipureintro; exact e3
  isplitl [H4]
  · iexists _; isplitr
    swap; · iexact H4
    ipureintro; exact e4
  isplitl [H5]
  · iexists d5; iexists _; isplitr
    swap; · iexact H5
    ipureintro; exact e5.trans (congrArg (fun g => ((cf m).win 2).fill (grid0.coords t) d5 g) (cut0_2 m c t).symm)
  isplitl [H6]
  · iexists d6; iexists _; isplitr
    swap; · iexact H6
    ipureintro; exact e6.trans (congrArg (fun g => ((cf m).win 3).fill (grid0.coords t) d6 g) (cut0_3 m c t).symm)
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H11]
  · iexists ((ms0_7 m t).view.read (Elt Ideal) u11); iexists _; isplitr
    swap; · iexact H11
    ipureintro
    refine logits_fill m c t _ fun b r q hq => ?_
    exact (w11 b r q hq).trans (headOf_congr _ _ _ _ _ _ _ b r q (fun k => w_col m c t _ k q hq) (fun k => ws_col m c t _ k q hq))
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

theorem body_obligation (c : Dev nD) : Pipeline.BodyObligationLoose (dats m 0 c) (defs₀ (F := Ideal)) Variants.none () Set.univ (fgt m) := fun t => by
  first
  | (rw [bigSep_W0, bigSep_W0, defs₀_row]; exact sound_body m c t)
  | (erw [bigSep_W0, bigSep_W0, defs₀_row]; exact sound_body m c t)
  | (rw [defs₀_row]
     refine (BI.sep_mono_r (BI.sep_mono_r (entails_of_eq (bigSep_W0 _)))).trans ?_
     refine (sound_body m c t).trans ?_
     refine (wp _ _ _ _).mono fun a => ?_
     exact BI.sep_mono_r (BI.sep_mono_r (entails_of_eq (bigSep_W0 _).symm)))

theorem hin (c : Dev nD) : iprop(Pipeline.ΦD osem0 spec0 H0 (V m) c ∗ Pipeline.ΦT pre0 (adm m 0).1 c) ⊢ (dats m 0 c).Φ 0 := by
  rw [Phi_eq, PhiD0_eq, tab_eq]
  unfold PhiS
  iintro ⟨⟨⟨⟨%d0, H0⟩, H1, H2, H3, H4, H5, H6, H7⟩, Hg, Hs, HZ⟩, HT⟩
  ihave HX := (slots_split m c) $$ [H5 Hs HZ]
  · isplitl [H5]; · iexact H5
    isplitl [Hs]; · iexact Hs
    iexact HZ
  icases HX with ⟨HSp, HS0, HS1⟩
  isplitl [H0]
  · iexists _; isplitl [H0]; · iexact H0
    ipureintro
    intro t ht h
    rw [(pt_facts t).2, ht, Fin.val_zero] at h
    exact absurd rfl h
  isplitl [H1]; · iexact H1
  isplitl [H2]; · iexact H2
  isplitl [H3]; · iexact H3
  isplitl [H4]; · iexact H4
  isplitl [H6]; · iexact H6
  isplitl [H7]; · iexact H7
  isplitl [HSp]; · iexact HSp
  isplitl [HS0]; · iexact HS0
  isplitl [HS1]; · iexact HS1
  isplitl [HT]; · iexact HT
  iexact Hg

theorem hout (c : Dev nD) : (dats m 0 c).Φ (Fin.last (cf m).N) ⊢ Pipeline.ΦD osem0 spec0 H0 (V m) c := by
  rw [Phi_eq, PhiD0_eq]
  unfold PhiS
  iintro ⟨⟨%d0, H0, -⟩, H1, H2, H3, H4, H6, H7, HSp, HS0, HS1, -, Hg⟩
  ihave HX := (slots_join m c) $$ [HSp HS0 HS1]
  · isplitl [HSp]; · iexact HSp
    isplitl [HS0]; · iexact HS0
    iexact HS1
  icases HX with ⟨H5, Hs, HZ⟩
  isplitl [H0 H1 H2 H3 H4 H5 H6 H7]
  · isplitl [H0]; · iexists _; iexact H0
    isplitl [H1]; · iexact H1
    isplitl [H2]; · iexact H2
    isplitl [H3]; · iexact H3
    isplitl [H4]; · iexact H4
    isplitl [H5]; · iexact H5
    isplitl [H6]; · iexact H6
    iexact H7
  isplitl [Hg]; · iexact Hg
  isplitl [Hs]; · iexact Hs
  iexact HZ

set_option backward.isDefEq.respectTransparency.types false in
/-- The run of the whole program. -/
theorem run_main : θ_run defs (onTc (τ := τ) (main (F := Ideal))) (s₀ m ρ)
    (fun r => Pipeline.RDat.FramePost (cf m) (fun c => (dats m 0 c).toRForget (fgt m)) (V m) r ∧ r.2.sem = fun _ => 0) :=
  Pipeline.θ_run_frameP_dma_forget (Q' := _) pcfgs (adm m) (dats m) (0 : Fin 1) launch0 osem0 defs₀ Variants.none (fgt m) ownSemFacts0 H0 H0_sub m ρ main
    (hbody := fun c => body_obligation m c) (hshare := fun c => (dats m 0 c).share_full fun _ => rfl)
    (howed := fun _ _ => rfl) (V := V m) (hmain := hmain m Variants.none) (hA := A_eq m)
    (hpf := fun c k => by obtain rfl : c = 0 := Subsingleton.elim _ _; rfl) (hin := hin m) (hout := hout m)
    (hQ' := fun _ h => h)

/-- The arguments after the run. -/
theorem kept (r : PUnit × MemSt nD τ sig (Elt Ideal)) (h : Pipeline.RDat.FramePost (cf m) (fun c => (dats m 0 c).toRForget (fgt m)) (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  fun c => ⟨((h c).2 main_arg0 (Pipeline.mem_restRefs_of main_arg0 (by decide) (show ∀ w : Fin 11, (spec0 w).arr.view.ref ≠ main_arg0 by decide))).trans (V_main_arg0 m c),
      ((h c).2 main_arg1 (Pipeline.mem_restRefs_of main_arg1 (by decide) (show ∀ w : Fin 11, (spec0 w).arr.view.ref ≠ main_arg1 by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (show ∀ w : Fin 11, (spec0 w).arr.view.ref ≠ main_arg4 by decide))).trans (V_main_arg4 m c),
      ((h c).2 main_arg5 (Pipeline.mem_restRefs_of main_arg5 (by decide) (show ∀ w : Fin 11, (spec0 w).arr.view.ref ≠ main_arg5 by decide))).trans (V_main_arg5 m c),
      (Pipeline.RDat.FramePost.arr_in h c 6 rfl).trans ((A_eq m c 6).trans (V_main_arg6 m c)),
      ((h c).2 main_arg7 (Pipeline.mem_restRefs_of main_arg7 (by decide) (show ∀ w : Fin 11, (spec0 w).arr.view.ref ≠ main_arg7 by decide))).trans (V_main_arg7 m c)⟩

/-- Every run ends with the arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨kept m r h.1, h.2⟩) (run_main m ρ)

end Cert.TargetIdeal.Gen

end
-- ==== Proof.TargetIdealValue.lean ====
/- The array of logits the target head leaves, and the reference's, compared over the ideal values. -/
module

public import proofs.«01_k».proof.Proof.TargetIdealFrame
public import proofs.«01_k».proof.Proof.Reference
public import proofs.«01_k».proof.Proof.Gen.TargetRefIdeal.Value
public import Idealize.ShloMosaic.Lib.StableHlo.RunRead

@[expose] public section

set_option maxRecDepth 16384

noncomputable section

namespace Cert.TargetIdeal.Gen

open Idealize.ShloMosaic Idealize.ShloMosaic.TcCoe Idealize.SL.Sem
open Idealize.ShloMosaic.Pipeline (Window)
open Cert.Proof (decode refScale rows_apply batches_apply temp_gain)

/-- The head: the products of the decoded states with the decoded weights, times the gain. -/
def head (h : Vec Ideal S96x8x2048 .fp8e4m3) (sc : Vec Ideal S96x8x64 .i8) (w : Vec Ideal S2048x151936 .fp8e4m3) (ws : Vec Ideal S64x151936 .i8)
    (b : Fin 96) (r : Fin 8) (v : Fin 151936) : EReal :=
  (∑ k : Fin 2048, (h (ix3 b r k) * decode (sc (ix3 b r (⟨k.val / 32, by omega⟩ : Fin 64))))
      * (w (ix2 k v) * decode (ws (ix2 (⟨k.val / 32, by omega⟩ : Fin 64) v)))) * ((10 / 7 : ℝ) : EReal)

/-- What the reference computes is the head. -/
theorem reference_eq (a0 : Vec Ideal S96x8x2048 .fp8e4m3) (a1 : Vec Ideal S96x8x64 .i8) (a2 : Vec Ideal S2048x151936 .fp8e4m3) (a3 : Vec Ideal S64x151936 .i8)
    (b : Fin 96) (r : Fin 8) (v : Fin 151936) :
    Cert.TargetRefIdeal.Gen.k0_pay1 (F := Ideal) a0 a1 a2 a3 (ix3 b r v) = head a0 a1 a2 a3 b r v := by
  unfold Cert.TargetRefIdeal.Gen.k0_pay1
  refine (batches_apply (b := 96) (s := 8) (d := 151936) (R := 768) _ _ b r v ⟨8 * b.val + r.val, by omega⟩ (by show 8 * b.val + r.val = b.val * 8 + r.val; omega)).trans ?_
  simp only [pointwise]
  rw [show (Named.named Cert.TargetRefIdeal.κ "temp" 0x3F333333#32 : Ideal .f32) = ((7 / 10 : ℝ) : EReal) from IdealRules.named_const.ideal_named_scalar _ _ _ _ rfl,
    temp_gain, zero_add]
  refine congrArg (fun a : EReal => a * ((10 / 7 : ℝ) : EReal)) (Finset.sum_congr rfl fun k _ => ?_)
  exact congrArg₂ (fun a b : EReal => a * b) (congrArg (fun a : EReal => a0 (ix3 b r k) * a) (refScale _)) (congrArg (fun a : EReal => a2 (ix2 k v) * a) (refScale _))

/-- The states in one run of rows. -/
theorem hs_apply (m : (ℓ : Loc nD τ sig) → Buf (Elt Ideal) ℓ) (c : Dev nD) (b : Fin 96) (r : Fin 8) (k : Fin 2048) (R : Fin 768) (hR : R.val = 8 * b.val + r.val) :
    hs m c (ix2 R k) = m ((c : Thread nD τ).loc main_arg0) (ix3 b r k) := by
  have e : hs m c = shapeCast S768x2048 (m ((c : Thread nD τ).loc main_arg0)) shapeCasts_S96x8x2048_S768x2048 := by
    show StableHlo.after (List.flatten [hostOps0, hostOps0_1, hostOps0_2]) (fun b => m (c, b)) (Proc.devRef .tc main_v18) = _
    simp only [hostOps0, hostOps0_1, hostOps0_2, List.flatten_cons, List.flatten_nil, List.append_nil, List.cons_append, List.nil_append]
    after_reads_simp
    rfl
  refine (congrFun e _).trans ?_
  exact rows_apply (b := 96) (s := 8) (d := 2048) (R := 768) _ _ b r k _ (by omega)

/-- The states' scales in one run of rows. -/
theorem sc_apply (m : (ℓ : Loc nD τ sig) → Buf (Elt Ideal) ℓ) (c : Dev nD) (b : Fin 96) (r : Fin 8) (k : Fin 64) (R : Fin 768) (hR : R.val = 8 * b.val + r.val) :
    sc m c (ix2 R k) = m ((c : Thread nD τ).loc main_arg1) (ix3 b r k) := by
  have e : sc m c = shapeCast S768x64 (m ((c : Thread nD τ).loc main_arg1)) shapeCasts_S96x8x64_S768x64 := by
    show StableHlo.after (List.flatten [hostOps0, hostOps0_1, hostOps0_2]) (fun b => m (c, b)) (Proc.devRef .tc main_v19) = _
    simp only [hostOps0, hostOps0_1, hostOps0_2, List.flatten_cons, List.flatten_nil, List.append_nil, List.cons_append, List.nil_append]
    after_reads_simp
    rfl
  refine (congrFun e _).trans ?_
  exact rows_apply (b := 96) (s := 8) (d := 64) (R := 768) _ _ b r k _ (by omega)

variable (m : (ℓ : Loc nD τ sig) → Buf (Elt Ideal) ℓ) (ρ : Dev nD → PrngReg)

/-- The logits: the head of the arguments. -/
def G (c : Dev nD) (i : S96x8x151936.Idx) : EReal :=
  head (m ((c : Thread nD τ).loc main_arg0)) (m ((c : Thread nD τ).loc main_arg1)) (m ((c : Thread nD τ).loc main_arg2)) (m ((c : Thread nD τ).loc main_arg3))
    (⟨(i 0).val, (i 0).isLt⟩ : Fin 96) (⟨(i 1).val, (i 1).isLt⟩ : Fin 8) (⟨(i 2).val, (i 2).isLt⟩ : Fin 151936)

/-- An index a fetch brings in holds the array's block there. -/
theorem fill_at {W : Pipeline.Grid} (w : Window sig W) {α : Type} (i : W.Coords) (d : w.block.Idx → α) (g : (w.xblock i).Idx → α) (j : w.block.Idx)
    (h : w.moved i j = true) : ∃ y : (w.xblock i).Idx, (∀ a, (y a).val = (j a).val) ∧ w.fill i d g j = g y := by
  unfold Window.fill; rw [dif_pos h]; exact ⟨_, fun _ => rfl, rfl⟩

/-- Point `t`'s weights are columns `1024 (t mod 149)` onward, as far as the array has columns. -/
theorem wAt_apply (c : Dev nD) (t : Fin (cf m).N) (k : Fin 2048) (q : Fin 1024) (v : Fin 151936) (hv : v.val = 1024 * (t.val % 149) + q.val) :
    wAt m c t (ix2 k q) = m ((c : Thread nD τ).loc main_arg2) (ix2 k v) := by
  obtain ⟨e0, e1⟩ := cut_facts2 t
  have hm : ((cf m).win 2).moved (grid0.coords t) (ix2 k q) = true := (((cf m).win 2).moved_iff _ _).mpr fun (a : Fin 2) =>
    match a with
    | ⟨0, _⟩ => by show k.val < (clip0_2 (grid0.coords t) 0).extent 2048; rw [e0]; exact k.isLt
    | ⟨1, _⟩ => by show q.val < (clip0_2 (grid0.coords t) 1).extent 1024; rw [e1]; have := q.isLt; have := v.isLt; omega
  obtain ⟨y, hy, e⟩ := fill_at ((cf m).win 2) _ (anyBuf m 2 t) (iblk m c 2 t) (ix2 k q) hm
  obtain ⟨i0, i1⟩ := idx_facts2 t
  have h0 : (y (0 : Fin 2)).val = k.val := hy (0 : Fin 2)
  have h1 : (y (1 : Fin 2)).val = q.val := hy (1 : Fin 2)
  refine e.trans ?_
  rw [← V_main_arg2 m c]
  refine congrArg (V m c main_arg2) (funext fun a => Fin.ext ?_)
  match a with
  | ⟨0, _⟩ => show cc0_transform_2 (grid0.coords t) 0 * 2048 + 1 * (y (0 : Fin 2)).val = k.val; rw [i0, h0]; omega
  | ⟨1, _⟩ => show cc0_transform_2 (grid0.coords t) 1 * 1024 + 1 * (y (1 : Fin 2)).val = v.val; rw [i1, h1]; omega
/-- So are its scales. -/
theorem wsAt_apply (c : Dev nD) (t : Fin (cf m).N) (k : Fin 64) (q : Fin 1024) (v : Fin 151936) (hv : v.val = 1024 * (t.val % 149) + q.val) :
    wsAt m c t (ix2 k q) = m ((c : Thread nD τ).loc main_arg3) (ix2 k v) := by
  obtain ⟨e0, e1⟩ := cut_facts3 t
  have hm : ((cf m).win 3).moved (grid0.coords t) (ix2 k q) = true := (((cf m).win 3).moved_iff _ _).mpr fun (a : Fin 2) =>
    match a with
    | ⟨0, _⟩ => by show k.val < (clip0_3 (grid0.coords t) 0).extent 64; rw [e0]; exact k.isLt
    | ⟨1, _⟩ => by show q.val < (clip0_3 (grid0.coords t) 1).extent 1024; rw [e1]; have := q.isLt; have := v.isLt; omega
  obtain ⟨y, hy, e⟩ := fill_at ((cf m).win 3) _ (anyBuf m 3 t) (iblk m c 3 t) (ix2 k q) hm
  obtain ⟨i0, i1⟩ := idx_facts3 t
  have h0 : (y (0 : Fin 2)).val = k.val := hy (0 : Fin 2)
  have h1 : (y (1 : Fin 2)).val = q.val := hy (1 : Fin 2)
  refine e.trans ?_
  rw [← V_main_arg3 m c]
  refine congrArg (V m c main_arg3) (funext fun a => Fin.ext ?_)
  match a with
  | ⟨0, _⟩ => show cc0_transform_3 (grid0.coords t) 0 * 64 + 1 * (y (0 : Fin 2)).val = k.val; rw [i0, h0]; omega
  | ⟨1, _⟩ => show cc0_transform_3 (grid0.coords t) 1 * 1024 + 1 * (y (1 : Fin 2)).val = v.val; rw [i1, h1]; omega

theorem points (t : Fin (cf m).N) : t.val < 447 := Nat.lt_of_lt_of_eq t.isLt N_0

/-- A point's logits are the head's. -/
theorem outAt_apply (c : Dev nD) (t : Fin (cf m).N) (b : Fin 32) (r : Fin 8) (q : Fin 1024) (B : Fin 96) (v : Fin 151936)
    (hB : B.val = 32 * (t.val / 149) + b.val) (hv : v.val = 1024 * (t.val % 149) + q.val) :
    outAt m c t (ix3 b r q) = head (m ((c : Thread nD τ).loc main_arg0)) (m ((c : Thread nD τ).loc main_arg1)) (m ((c : Thread nD τ).loc main_arg2)) (m ((c : Thread nD τ).loc main_arg3)) B r v := by
  obtain ⟨p0, p1⟩ := pt_facts t
  unfold outAt headOf head
  refine congrArg (fun a : EReal => a * ((10 / 7 : ℝ) : EReal)) (Finset.sum_congr rfl fun k _ => ?_)
  refine congrArg₂ (fun a b : EReal => a * b) ?_ (congrArg₂ (fun a b : EReal => a * b) (wAt_apply m c t k q v hv) (congrArg decode (wsAt_apply m c t _ q v hv)))
  unfold blockStates Cert.TargetIdeal.Gen.statesOf
  have hR : 256 * (grid0.coords t 0).val + (8 * b.val + r.val) = 8 * B.val + r.val := by rw [p0, hB]; omega
  exact congrArg₂ (fun a b : EReal => a * b) (hs_apply m c B r k _ hR) (congrArg decode (sc_apply m c B r _ _ hR))

/-- What a point writes back is its block of the logits. -/
theorem flushed7 (c : Dev nD) (t : Fin (cf m).N) :
    (dats m 0 c).flushed 7 t = (((cf m).win 7).blk t).view.read (Elt Ideal) (G m c) := by
  show ((cf m).win 7).cut (grid0.coords t) ((dats m 0 c).after 7 t) = _
  rw [after0_7]
  obtain ⟨e0, e1, e2⟩ := cut_facts7 t
  obtain ⟨i0, i1, i2⟩ := idx_facts7 t
  have ht := points m t
  funext y
  have h0 : (y (0 : Fin 3)).val < (clip0_7 (grid0.coords t) 0).extent 32 := (y (0 : Fin 3)).isLt
  have h1 : (y (1 : Fin 3)).val < (clip0_7 (grid0.coords t) 1).extent 8 := (y (1 : Fin 3)).isLt
  have h2 : (y (2 : Fin 3)).val < (clip0_7 (grid0.coords t) 2).extent 1024 := (y (2 : Fin 3)).isLt
  rw [e0] at h0; rw [e1] at h1; rw [e2] at h2
  have hb0 : ((((cf m).win 7).blk t).view.emb y (0 : Fin 3)).val = cc0_transform_8 (grid0.coords t) 0 * 32 + 1 * (y (0 : Fin 3)).val := rfl
  have hb1 : ((((cf m).win 7).blk t).view.emb y (1 : Fin 3)).val = cc0_transform_8 (grid0.coords t) 1 * 8 + 1 * (y (1 : Fin 3)).val := rfl
  have hb2 : ((((cf m).win 7).blk t).view.emb y (2 : Fin 3)).val = cc0_transform_8 (grid0.coords t) 2 * 1024 + 1 * (y (2 : Fin 3)).val := rfl
  rw [i0] at hb0; rw [i1] at hb1; rw [i2] at hb2
  have hy : ((cf m).win 7).xinj (grid0.coords t) y = ix3 (⟨(y (0 : Fin 3)).val, h0⟩ : Fin 32) (⟨(y (1 : Fin 3)).val, h1⟩ : Fin 8) (⟨(y (2 : Fin 3)).val, by omega⟩ : Fin 1024) := by
    funext a
    match a with
    | ⟨0, _⟩ => rfl
    | ⟨1, _⟩ => rfl
    | ⟨2, _⟩ => rfl
  have hG : G m c ((((cf m).win 7).blk t).view.emb y) = head (m ((c : Thread nD τ).loc main_arg0)) (m ((c : Thread nD τ).loc main_arg1)) (m ((c : Thread nD τ).loc main_arg2)) (m ((c : Thread nD τ).loc main_arg3))
      (⟨32 * (t.val / 149) + (y (0 : Fin 3)).val, by omega⟩ : Fin 96) (⟨(y (1 : Fin 3)).val, h1⟩ : Fin 8) (⟨1024 * (t.val % 149) + (y (2 : Fin 3)).val, by omega⟩ : Fin 151936) := by
    unfold G
    congr 1
    · exact Fin.ext (hb0.trans (by show _ = 32 * (t.val / 149) + (y (0 : Fin 3)).val; omega))
    · exact Fin.ext (hb1.trans (by show _ = (y (1 : Fin 3)).val; omega))
    · exact Fin.ext (hb2.trans (by show _ = 1024 * (t.val % 149) + (y (2 : Fin 3)).val; omega))
  show outAt m c t (((cf m).win 7).xinj (grid0.coords t) y) = G m c ((((cf m).win 7).blk t).view.emb y)
  rw [hG, hy]
  exact outAt_apply m c t _ _ _ _ _ rfl rfl

/-- Every point writes its block back: the next works on other columns. -/
theorem flush7 (t : Fin (cf m).N) : ((cf m).win 7).flush t = true := by
  unfold Window.flush
  refine Bool.and_eq_true_iff.mpr ⟨rfl, ?_⟩
  rw [Bool.or_eq_true, decide_eq_true_eq, decide_eq_true_eq]
  by_cases h : t.val + 1 < (cf m).N
  · refine .inr ⟨h, fun e => ?_⟩
    have e2 : cc0_transform_8 (grid0.coords ⟨t.val + 1, h⟩) 2 = cc0_transform_8 (grid0.coords t) 2 := congrFun e (2 : Fin 3)
    rw [(idx_facts7 _).2.2, (idx_facts7 _).2.2] at e2
    have e3 : (t.val + 1) % 149 = t.val % 149 := e2
    omega
  · have := t.isLt
    exact .inl (by show t.val + 1 = (cf m).N; omega)

/-- Every index of the logits is in some point's block. -/
theorem covered7 (i : S96x8x151936.Idx) : ∃ t : Fin (cf m).N, ((cf m).win 7).flush t = true ∧ i ∈ (((cf m).win 7).blk t).view.set := by
  have hi0 : (i 0).val < 96 := (i 0).isLt
  have hi1 : (i 1).val < 8 := (i 1).isLt
  have hi2 : (i 2).val < 151936 := (i 2).isLt
  have hN : 149 * ((i 0).val / 32) + (i 2).val / 1024 < (cf m).N := Nat.lt_of_lt_of_eq (by omega : 149 * ((i 0).val / 32) + (i 2).val / 1024 < 447) N_0.symm
  refine ⟨⟨149 * ((i 0).val / 32) + (i 2).val / 1024, hN⟩, flush7 m _, ?_⟩
  generalize ht : (⟨149 * ((i 0).val / 32) + (i 2).val / 1024, hN⟩ : Fin (cf m).N) = t
  have hv : t.val = 149 * ((i 0).val / 32) + (i 2).val / 1024 := by rw [← ht]
  obtain ⟨e0, e1, e2⟩ := cut_facts7 t
  obtain ⟨i0, i1, i2⟩ := idx_facts7 t
  refine (iff_of_eq (congrArg (fun s => i ∈ s) (View.set_slice_whole main_v20_0 (((cf m).win 7).rect t)))).mpr ?_
  refine Rect.mem_set_unit.mpr fun (a : Fin 3) => ?_
  match a with
  | ⟨0, _⟩ =>
    show cc0_transform_8 (grid0.coords t) 0 * 32 ≤ (i 0).val ∧ (i 0).val < cc0_transform_8 (grid0.coords t) 0 * 32 + (clip0_7 (grid0.coords t) 0).extent 32
    rw [i0, e0]; omega
  | ⟨1, _⟩ =>
    show cc0_transform_8 (grid0.coords t) 1 * 8 ≤ (i 1).val ∧ (i 1).val < cc0_transform_8 (grid0.coords t) 1 * 8 + (clip0_7 (grid0.coords t) 1).extent 8
    rw [i1, e1]; omega
  | ⟨2, _⟩ =>
    show cc0_transform_8 (grid0.coords t) 2 * 1024 ≤ (i 2).val ∧ (i 2).val < cc0_transform_8 (grid0.coords t) 2 * 1024 + (clip0_7 (grid0.coords t) 2).extent 1024
    rw [i2, e2]; omega

/-- Every run ends with the logits the head of the arguments, and the arguments as they were. -/
theorem run : θ_run defs (onTc (τ := τ) (main (F := Ideal))) ⟨m, fun _ => 0, ρ⟩ fun r => ∀ c : Dev nD,
      r.2.mem ((c.tc : Thread nD τ).loc main_v20_0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      (((dats m 0 c).toRForget_arrAt_iff (fgt := fgt m) (w := 7) rfl (cf m).N _).mp ((h.1 c).1 7)).trans
        ((dats m 0 c).arrAt_eq_of_cover 7 (G m c) (fun t _ => flushed7 m c t) (covered7 m)),
      kept m r h.1 c⟩) (run_main m ρ)

end Cert.TargetIdeal.Gen

end
-- ==== Proof.lean ====
module

public import proofs.«01_k».proof.Defs
public import proofs.«01_k».proof.Proof.DraftFrame
public import proofs.«01_k».proof.Proof.DraftIdealValue
public import proofs.«01_k».proof.Proof.Gen.DraftRef.Frame
public import proofs.«01_k».proof.Proof.Gen.DraftRefIdeal.Frame
public import proofs.«01_k».proof.Proof.TargetFrame
public import proofs.«01_k».proof.Proof.TargetIdealValue
public import proofs.«01_k».proof.Proof.Gen.TargetRefIdeal.Frame
public import proofs.«01_k».proof.Proof.Gen.TargetRef.Frame

@[expose] public section

noncomputable section

namespace Cert.Proof

open Idealize.ShloMosaic Idealize.ShloMosaic.TcCoe Idealize.SL.Sem

/-- The draft head's logits are the reference's. -/
theorem draft_equal : @Cert.algebraic_DraftIdeal_DraftRefIdeal Cert.DraftIdeal.Gen.facts Cert.DraftRefIdeal.Gen.facts := by
  intro m ρ m' ρ' _ hag
  refine ⟨fun c => Cert.DraftIdeal.Gen.G m c, Cert.DraftIdeal.Gen.run m ρ, (θ_run _ _ _).mono (fun r h c => ⟨(h c).1.trans ?_, (h c).2⟩) (Cert.DraftRefIdeal.Value.run m' ρ')⟩
  funext i
  obtain ⟨e0, e1, e2, e3, -⟩ := hag c
  rw [Cert.DraftRefIdeal.Value.G4, e0, e1, e2, e3]
  have hi : i = ix3 (⟨(i 0).val, (i 0).isLt⟩ : Fin 96) (⟨(i 1).val, (i 1).isLt⟩ : Fin 7) (⟨(i 2).val, (i 2).isLt⟩ : Fin 32000) := by
    funext a
    match a with
    | ⟨0, _⟩ => rfl
    | ⟨1, _⟩ => rfl
    | ⟨2, _⟩ => rfl
  exact (congrArg _ hi).trans (Cert.DraftIdeal.Gen.reference_eq _ _ _ _ _ _ _)

/-- The target head's logits are the reference's. -/
theorem target_equal : @Cert.algebraic_TargetIdeal_TargetRefIdeal Cert.TargetIdeal.Gen.facts Cert.TargetRefIdeal.Gen.facts := by
  intro m ρ m' ρ' _ hag
  refine ⟨fun c => Cert.TargetIdeal.Gen.G m c, Cert.TargetIdeal.Gen.run m ρ, (θ_run _ _ _).mono (fun r h c => ⟨(h c).1.trans ?_, (h c).2⟩) (Cert.TargetRefIdeal.Value.run m' ρ')⟩
  funext i
  obtain ⟨e0, e1, e2, e3, -⟩ := hag c
  rw [Cert.TargetRefIdeal.Value.G4, e0, e1, e2, e3]
  have hi : i = ix3 (⟨(i 0).val, (i 0).isLt⟩ : Fin 96) (⟨(i 1).val, (i 1).isLt⟩ : Fin 8) (⟨(i 2).val, (i 2).isLt⟩ : Fin 151936) := by
    funext a
    match a with
    | ⟨0, _⟩ => rfl
    | ⟨1, _⟩ => rfl
    | ⟨2, _⟩ => rfl
  exact (congrArg _ hi).trans (Cert.TargetIdeal.Gen.reference_eq _ _ _ _ _ _ _)

theorem claim : Cert.Claim :=
  ⟨Cert.Draft.Gen.facts, Cert.DraftIdeal.Gen.facts, Cert.DraftRefIdeal.Gen.facts, Cert.DraftRef.Gen.facts,
    Cert.Target.Gen.facts, Cert.TargetIdeal.Gen.facts, Cert.TargetRefIdeal.Gen.facts, Cert.TargetRef.Gen.facts,
    fun m ρ _ => Cert.Draft.Gen.frame m ρ, fun m ρ _ => Cert.DraftIdeal.Gen.frame m ρ, fun m ρ _ => Cert.DraftRefIdeal.Gen.frame m ρ,
    fun m ρ _ => Cert.DraftRef.Gen.frame m ρ,
    fun m ρ _ => Cert.Target.Gen.frame m ρ, fun m ρ _ => Cert.TargetIdeal.Gen.frame m ρ, fun m ρ _ => Cert.TargetRefIdeal.Gen.frame m ρ,
    fun m ρ _ => Cert.TargetRef.Gen.frame m ρ,
    IdealRules.named_const.statement Cert.DraftIdeal.κ "z_gain" .f32 0x3FB6DB6E#32 ((10 / 7 : ℝ) : EReal) rfl,
    IdealRules.named_const.statement Cert.DraftRefIdeal.κ "temp" .f32 0x3F333333#32 ((7 / 10 : ℝ) : EReal) rfl,
    draft_equal,
    IdealRules.named_const.statement Cert.TargetIdeal.κ "z_gain" .f32 0x3FB6DB6E#32 ((10 / 7 : ℝ) : EReal) rfl,
    IdealRules.named_const.statement Cert.TargetRefIdeal.κ "temp" .f32 0x3F333333#32 ((7 / 10 : ℝ) : EReal) rfl,
    target_equal⟩

end Cert.Proof

end
